-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_counts_of_all_pairs : Cert.Pre_counts_of_all_pairs.Facts] (m : (ℓ : Loc Cert.Kernel7.nD Cert.Kernel7.τ Cert.Kernel7.sig) → Buf (Elt Bits) ℓ) : Prop :=
  ∀ c : Dev Cert.Kernel7.nD,
    (Cert.Pre_counts_of_all_pairs.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4))) = (fun _ => 1#1)

def Pre_Kernel7Ideal [hPre_counts_of_all_pairs : Cert.Pre_counts_of_all_pairs.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_counts_of_all_pairs.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_counts_of_all_pairs [hPre_counts_of_all_pairs : Cert.Pre_counts_of_all_pairs.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_counts_of_all_pairs.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] [hPre_counts_of_all_pairs : Cert.Pre_counts_of_all_pairs.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] [hPre_counts_of_all_pairs : Cert.Pre_counts_of_all_pairs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_counts_of_all_pairs [hReference7Ideal : Cert.Reference7Ideal.Facts] [hPre_counts_of_all_pairs : Cert.Pre_counts_of_all_pairs.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_counts_of_all_pairs m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] [hPre_counts_of_all_pairs : Cert.Pre_counts_of_all_pairs.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v22)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v249) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_counts_of_all_pairs : Cert.Pre_counts_of_all_pairs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_counts_of_all_pairs := hPre_counts_of_all_pairs)
    ∧ quiescent_Kernel7Ideal (hKernel7Ideal := hKernel7Ideal) (hPre_counts_of_all_pairs := hPre_counts_of_all_pairs)
    ∧ quiescent_Reference7Ideal (hReference7Ideal := hReference7Ideal)
    ∧ quiescent_Reference7Ideal_pre_counts_of_all_pairs (hReference7Ideal := hReference7Ideal) (hPre_counts_of_all_pairs := hPre_counts_of_all_pairs)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_counts_of_all_pairs := hPre_counts_of_all_pairs)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_counts_of_all_pairs.lean ====
abbrev S36864x2048 : Shape := ⟨2, ![36864, 2048]⟩
abbrev S8 : Shape := ⟨1, ![8]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S36864x2048 .f32) (main_arg1 : IVec S8 32) (main_arg2 : FVec F S8x2048x7168 .f32) (main_arg3 : FVec F S8x2048x7168 .f32) (main_arg4 : FVec F S8x7168x2048 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 32768#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg1 main_c_1
  let main_c_2 : IVec S_ 32 := constantI S_ 32 32768#32
  let main_v6 : IVec S_ 1 := cmpi .eq main_v5 main_c_2
  let main_v7 : IVec S8 1 := broadcastInDim S8 ![] bcast_S_S8 main_v6
  let main_v8 : IVec S8 1 := andi main_v4 main_v7
  main_v8
-- ==== Kernel.lean ====
abbrev S16384x15360 : Shape := ⟨2, ![16384, 15360]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x1x256 : Shape := ⟨3, ![8, 1, 256]⟩
abbrev S16384x2048 : Shape := ⟨2, ![16384, 2048]⟩
abbrev S128x1024 : Shape := ⟨2, ![128, 1024]⟩
abbrev S128x2048 : Shape := ⟨2, ![128, 2048]⟩
abbrev S8x128x256 : Shape := ⟨3, ![8, 128, 256]⟩
abbrev S128x256 : Shape := ⟨2, ![128, 256]⟩
abbrev S1x128x256 : Shape := ⟨3, ![1, 128, 256]⟩
abbrev S1x1x256 : Shape := ⟨3, ![1, 1, 256]⟩
abbrev S1x256 : Shape := ⟨2, ![1, 256]⟩

abbrev nBuf : Space → Nat
  | .hbm => 68
  | .vmem => 19
  | .smem => 0
  | _ => 0

abbrev bufTy : (tb : Table) → Fin (tcTables nBuf tb) → BufTy
  | .hbm, ⟨0, _⟩ => ⟨S16384x15360, .bf16⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S128, .f32⟩
  | .hbm, ⟨11, _⟩ => ⟨S128x1, .f32⟩
  | .hbm, ⟨12, _⟩ => ⟨S1x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .i1⟩
  | .hbm, ⟨19, _⟩ => ⟨S8x1x1, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S1x128x128, .f32⟩
  | .hbm, ⟨24, _⟩ => ⟨S8x128x128, .f32⟩
  | .hbm, ⟨25, _⟩ => ⟨S8x128x128, .f32⟩
  | .hbm, ⟨26, _⟩ => ⟨S8x128x128, .f32⟩
  | .hbm, ⟨27, _⟩ => ⟨S8x128x128, .f32⟩
  | .hbm, ⟨28, _⟩ => ⟨S_, .f32⟩
  | .hbm, ⟨29, _⟩ => ⟨S_, .f32⟩
  | .hbm, ⟨30, _⟩ => ⟨S8x128x128, .i1⟩
  | .hbm, ⟨31, _⟩ => ⟨S8x128x128, .f32⟩
  | .hbm, ⟨32, _⟩ => ⟨S8x128x128, .f32⟩
  | .hbm, ⟨33, _⟩ => ⟨S_, .f32⟩
  | .hbm, ⟨34, _⟩ => ⟨S8x128x128, .f32⟩
  | .hbm, ⟨35, _⟩ => ⟨S8x128x128, .f32⟩
  | .hbm, ⟨36, _⟩ => ⟨S8x1, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S8x128, .f32⟩
  | .hbm, ⟨42, _⟩ => ⟨S8x128, .f32⟩
  | .hbm, ⟨43, _⟩ => ⟨S8x128, .f32⟩
  | .hbm, ⟨44, _⟩ => ⟨S8x128, .f32⟩
  | .hbm, ⟨45, _⟩ => ⟨S8x1, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S8x128, .f32⟩
  | .hbm, ⟨51, _⟩ => ⟨S8x128, .f32⟩
  | .hbm, ⟨52, _⟩ => ⟨S8x128, .f32⟩
  | .hbm, ⟨53, _⟩ => ⟨S8x128, .f32⟩
  | .hbm, ⟨54, _⟩ => ⟨S_, .f32⟩
  | .hbm, ⟨55, _⟩ => ⟨S8x128, .f32⟩
  | .hbm, ⟨56, _⟩ => ⟨S8x128, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S8x128x1, .f32⟩
  | .hbm, ⟨62, _⟩ => ⟨S8x128x128, .f32⟩
  | .hbm, ⟨63, _⟩ => ⟨S8x128x1, .f32⟩
  | .hbm, ⟨64, _⟩ => ⟨S8x128x128, .f32⟩
  | .hbm, ⟨65, _⟩ => ⟨S8x1x1, .f32⟩
  | .hbm, ⟨66, _⟩ => ⟨S8x1x256, .f32⟩
  | .hbm, ⟨67, _⟩ => ⟨S16384x2048, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | .local _ .vmem, ⟨15, _⟩ => ⟨S8x1x256, .f32⟩
  | .local _ .vmem, ⟨16, _⟩ => ⟨S128x2048, .bf16⟩
  | .local _ .vmem, ⟨17, _⟩ => ⟨S128x2048, .bf16⟩
  | .local _ .vmem, ⟨18, _⟩ => ⟨S8x128x256, .f32⟩
  | _, _ => ⟨S16384x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![4, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c1_i32 : BitVec 32 := 1#32
  let v2 : BitVec 32 := Scalar.muli c1_i32 arg1
  let c3_i32 : BitVec 32 := 3#32
  let v3 : BitVec 32 := Scalar.addi c3_i32 v2
  let c0_i32 : BitVec 32 := 0#32
  let v4 : BitVec 32 := Scalar.addi v3 c0_i32
  let c0_i32_0 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c1_i32 : BitVec 32 := 1#32
  let v2 : BitVec 32 := Scalar.muli c1_i32 arg1
  let c4_i32 : BitVec 32 := 4#32
  let v3 : BitVec 32 := Scalar.addi c4_i32 v2
  let c0_i32 : BitVec 32 := 0#32
  let v4 : BitVec 32 := Scalar.addi v3 c0_i32
  let c0_i32_0 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c2_i32 : BitVec 32 := 2#32
  let v2 : BitVec 32 := Scalar.muli c2_i32 arg1
  let c5_i32 : BitVec 32 := 5#32
  let v3 : BitVec 32 := Scalar.addi c5_i32 v2
  let c0_i32 : BitVec 32 := 0#32
  let v4 : BitVec 32 := Scalar.addi v3 c0_i32
  let c0_i32_0 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c2_i32 : BitVec 32 := 2#32
  let v2 : BitVec 32 := Scalar.muli c2_i32 arg1
  let c5_i32 : BitVec 32 := 5#32
  let v3 : BitVec 32 := Scalar.addi c5_i32 v2
  let c1_i32 : BitVec 32 := 1#32
  let v4 : BitVec 32 := Scalar.addi v3 c1_i32
  let c0_i32 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c2_i32 : BitVec 32 := 2#32
  let v2 : BitVec 32 := Scalar.muli c2_i32 arg1
  let c7_i32 : BitVec 32 := 7#32
  let v3 : BitVec 32 := Scalar.addi c7_i32 v2
  let c0_i32 : BitVec 32 := 0#32
  let v4 : BitVec 32 := Scalar.addi v3 c0_i32
  let c0_i32_0 : BitVec 32 := 0#32
  ![v1.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c2_i32 : BitVec 32 := 2#32
  let v2 : BitVec 32 := Scalar.muli c2_i32 arg1
  let c7_i32 : BitVec 32 := 7#32
  let v3 : BitVec 32 := Scalar.addi c7_i32 v2
  let c1_i32 : BitVec 32 := 1#32
  let v4 : BitVec 32 := Scalar.addi v3 c1_i32
  let c0_i32 : BitVec 32 := 0#32
  ![v1.toNat, v4.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S8x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S16384x15360 : Shape := ⟨2, ![16384, 15360]⟩
abbrev S16384x1024 : Shape := ⟨2, ![16384, 1024]⟩
abbrev S16384x2048 : Shape := ⟨2, ![16384, 2048]⟩
abbrev S4x4096x8x128 : Shape := ⟨4, ![4, 4096, 8, 128]⟩
abbrev S4x4096x8x256 : Shape := ⟨4, ![4, 4096, 8, 256]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S4x32x128x8x128 : Shape := ⟨5, ![4, 32, 128, 8, 128]⟩
abbrev S32x4x8x128x128 : Shape := ⟨5, ![32, 4, 8, 128, 128]⟩
abbrev S4x32x128x8x256 : Shape := ⟨5, ![4, 32, 128, 8, 256]⟩
abbrev S32x4x8x128x256 : Shape := ⟨5, ![32, 4, 8, 128, 256]⟩
abbrev S4x8x128x256 : Shape := ⟨4, ![4, 8, 128, 256]⟩
abbrev S1x4x8x128x128 : Shape := ⟨5, ![1, 4, 8, 128, 128]⟩
abbrev S4x8x128x128 : Shape := ⟨4, ![4, 8, 128, 128]⟩
abbrev S1x4x8x128x256 : Shape := ⟨5, ![1, 4, 8, 128, 256]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S4x4096x8 : Shape := ⟨3, ![4, 4096, 8]⟩
abbrev S4x4096x8x1 : Shape := ⟨4, ![4, 4096, 8, 1]⟩

abbrev nBuf : Space → Nat
  | .hbm => 163
  | .vmem => 0
  | .smem => 0
  | _ => 0

abbrev hbmTy0_0 (i : Nat) : BufTy := match i % 128 with
  | 0 => ⟨S16384x15360, .bf16⟩
  | 1 => ⟨S16384x1024, .bf16⟩
  | 2 => ⟨S16384x1024, .f32⟩
  | 3 => ⟨S16384x1024, .bf16⟩
  | 4 => ⟨S16384x1024, .f32⟩
  | 5 => ⟨S16384x2048, .bf16⟩
  | 6 => ⟨S16384x2048, .f32⟩
  | 7 => ⟨S4x4096x8x128, .f32⟩
  | 8 => ⟨S4x4096x8x128, .f32⟩
  | 9 => ⟨S4x4096x8x256, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S8, .f32⟩
  | 19 => ⟨S128, .f32⟩
  | 20 => ⟨S128x1, .f32⟩
  | 21 => ⟨S1x128, .f32⟩
  | 22 => ⟨S128x128, .f32⟩
  | 23 => ⟨S128x128, .f32⟩
  | 24 => ⟨S128x128, .f32⟩
  | 25 => ⟨S_, .f32⟩
  | 26 => ⟨S128x128, .f32⟩
  | 27 => ⟨S128x128, .i1⟩
  | 28 => ⟨S8x1x1, .f32⟩
  | 29 => ⟨S_, .f32⟩
  | 30 => ⟨S128x128, .f32⟩
  | 31 => ⟨S128x128, .f32⟩
  | 32 => ⟨S1x128x128, .f32⟩
  | 33 => ⟨S8x128x128, .f32⟩
  | 34 => ⟨S8x128x128, .f32⟩
  | 35 => ⟨S8x128x128, .f32⟩
  | 36 => ⟨S8x128x128, .f32⟩
  | 37 => ⟨S_, .f32⟩
  | 38 => ⟨S_, .f32⟩
  | 39 => ⟨S8x128x128, .i1⟩
  | 40 => ⟨S8x128x128, .f32⟩
  | 41 => ⟨S8x128x128, .f32⟩
  | 42 => ⟨S8x1, .f32⟩
  | 43 => ⟨S_, .f32⟩
  | 44 => ⟨S128, .f32⟩
  | 45 => ⟨S128, .f32⟩
  | 46 => ⟨S1x128, .f32⟩
  | 47 => ⟨S8x128, .f32⟩
  | 48 => ⟨S8x128, .f32⟩
  | 49 => ⟨S8x128, .f32⟩
  | 50 => ⟨S8x128, .f32⟩
  | 51 => ⟨S8x1, .f32⟩
  | 52 => ⟨S_, .f32⟩
  | 53 => ⟨S128, .f32⟩
  | 54 => ⟨S128, .f32⟩
  | 55 => ⟨S1x128, .f32⟩
  | 56 => ⟨S8x128, .f32⟩
  | 57 => ⟨S8x128, .f32⟩
  | 58 => ⟨S8x128, .f32⟩
  | 59 => ⟨S8x128, .f32⟩
  | 60 => ⟨S_, .f32⟩
  | 61 => ⟨S8, .f32⟩
  | 62 => ⟨S8, .f32⟩
  | 63 => ⟨S8, .f32⟩
  | 64 => ⟨S4x32x128x8x128, .f32⟩
  | 65 => ⟨S32x4x8x128x128, .f32⟩
  | 66 => ⟨S4x32x128x8x128, .f32⟩
  | 67 => ⟨S32x4x8x128x128, .f32⟩
  | 68 => ⟨S_, .f32⟩
  | 69 => ⟨S32x4x8x128x128, .f32⟩
  | 70 => ⟨S32x4x8x128x128, .f32⟩
  | 71 => ⟨S4x32x128x8x256, .f32⟩
  | 72 => ⟨S32x4x8x128x256, .f32⟩
  | 73 => ⟨S_, .f32⟩
  | 74 => ⟨S4x8x128x256, .f32⟩
  | 75 => ⟨S_, .f32⟩
  | 76 => ⟨S32x4x8x128x256, .f32⟩
  | 77 => ⟨S_, .i32⟩
  | 78 => ⟨S32x4x8x128x128, .f32⟩
  | 79 => ⟨S32x4x8x128x128, .f32⟩
  | 80 => ⟨S32x4x8x128x256, .f32⟩
  | 81 => ⟨S8x128x128, .f32⟩
  | 82 => ⟨S8x128, .f32⟩
  | 83 => ⟨S8, .f32⟩
  | 84 => ⟨S8x128, .f32⟩
  | 85 => ⟨S_, .i32⟩
  | 86 => ⟨S4x8x128x256, .f32⟩
  | 87 => ⟨S32x4x8x128x256, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S1x4x8x128x128, .f32⟩
  | 95 => ⟨S4x8x128x128, .f32⟩
  | 96 => ⟨S_, .i32⟩
  | 97 => ⟨S_, .i32⟩
  | 98 => ⟨S_, .i32⟩
  | 99 => ⟨S_, .i32⟩
  | 100 => ⟨S1x4x8x128x128, .f32⟩
  | 101 => ⟨S4x8x128x128, .f32⟩
  | 102 => ⟨S_, .i32⟩
  | 103 => ⟨S_, .i32⟩
  | 104 => ⟨S_, .i32⟩
  | 105 => ⟨S_, .i32⟩
  | 106 => ⟨S1x4x8x128x256, .f32⟩
  | 107 => ⟨S4x8x128x256, .f32⟩
  | 108 => ⟨S4x8x128x128, .f32⟩
  | 109 => ⟨S1x8x128x128, .f32⟩
  | 110 => ⟨S4x8x128x128, .f32⟩
  | 111 => ⟨S4x8x128x128, .f32⟩
  | 112 => ⟨S4x8x128x256, .f32⟩
  | 113 => ⟨S4x8x128x256, .f32⟩
  | 114 => ⟨S1x8x128x1, .f32⟩
  | 115 => ⟨S4x8x128x256, .f32⟩
  | 116 => ⟨S4x8x128x256, .f32⟩
  | 117 => ⟨S4x8x128x256, .f32⟩
  | 118 => ⟨S1x8x1x1, .f32⟩
  | 119 => ⟨S4x8x128x256, .f32⟩
  | 120 => ⟨S4x8x128x256, .f32⟩
  | 121 => ⟨S1x8x128x1, .f32⟩
  | 122 => ⟨S4x8x128x128, .f32⟩
  | 123 => ⟨S4x8x128x128, .f32⟩
  | 124 => ⟨S4x8x128x256, .f32⟩
  | 125 => ⟨S4x8x128x256, .f32⟩
  | 126 => ⟨S1x4x8x128x256, .f32⟩
  | 127 => ⟨S_, .i32⟩
  | _ => ⟨S16384x15360, .bf16⟩

abbrev hbmTy0_1 (i : Nat) : BufTy := match i % 128 with
  | 0 => ⟨S_, .i32⟩
  | 1 => ⟨S_, .i32⟩
  | 2 => ⟨S_, .i32⟩
  | 3 => ⟨S32x4x8x128x256, .f32⟩
  | 4 => ⟨S_, .i32⟩
  | 5 => ⟨S_, .i32⟩
  | 6 => ⟨S4x32x128x8x256, .f32⟩
  | 7 => ⟨S4x4096x8x256, .f32⟩
  | 8 => ⟨S4x4096x8x256, .f32⟩
  | 9 => ⟨S_, .f32⟩
  | 10 => ⟨S4x4096x8, .f32⟩
  | 11 => ⟨S4x4096x8x1, .f32⟩
  | 12 => ⟨S_, .f32⟩
  | 13 => ⟨S4x4096x8x1, .f32⟩
  | 14 => ⟨S4x4096x8x1, .f32⟩
  | 15 => ⟨S_, .f32⟩
  | 16 => ⟨S4x4096x8x1, .f32⟩
  | 17 => ⟨S4x4096x8x1, .f32⟩
  | 18 => ⟨S4x4096x8x1, .f32⟩
  | 19 => ⟨S4x4096x8x256, .f32⟩
  | 20 => ⟨S4x4096x8x256, .f32⟩
  | 21 => ⟨S16384x2048, .bf16⟩
  | 22 => ⟨S16384x2048, .f32⟩
  | 23 => ⟨S16384x2048, .f32⟩
  | 24 => ⟨S16384x2048, .f32⟩
  | 25 => ⟨S_, .f32⟩
  | 26 => ⟨S16384x2048, .f32⟩
  | 27 => ⟨S16384x2048, .f32⟩
  | 28 => ⟨S_, .f32⟩
  | 29 => ⟨S16384x2048, .f32⟩
  | 30 => ⟨S16384x2048, .f32⟩
  | 31 => ⟨S16384x2048, .f32⟩
  | 32 => ⟨S16384x2048, .f32⟩
  | 33 => ⟨S16384x2048, .f32⟩
  | 34 => ⟨S16384x2048, .bf16⟩
  | _ => ⟨S16384x15360, .bf16⟩

abbrev hbmTy (i : Nat) : BufTy := match i / 128 with
  | 0 => hbmTy0_0 i
  | 1 => hbmTy0_1 i
  | _ => ⟨S16384x15360, .bf16⟩

abbrev bufTy : (tb : Table) → Fin (tcTables nBuf tb) → BufTy
  | .hbm, ⟨i, _⟩ => hbmTy i
  | _, _ => ⟨S16384x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_2 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_c : Ref sig .tc := ⟨.hbm, 77, rfl⟩
abbrev main_v62_0 : Ref sig .tc := ⟨.hbm, 78, rfl⟩
abbrev main_v62_1 : Ref sig .tc := ⟨.hbm, 79, rfl⟩
abbrev main_v62_2 : Ref sig .tc := ⟨.hbm, 80, rfl⟩
abbrev main_v62_3 : Ref sig .tc := ⟨.hbm, 81, rfl⟩
abbrev main_v62_4 : Ref sig .tc := ⟨.hbm, 82, rfl⟩
abbrev main_v62_5 : Ref sig .tc := ⟨.hbm, 83, rfl⟩
abbrev main_v62_6 : Ref sig .tc := ⟨.hbm, 84, rfl⟩
abbrev main_v62_7 : Ref sig .tc := ⟨.hbm, 85, rfl⟩
abbrev main_v62_8 : Ref sig .tc := ⟨.hbm, 86, rfl⟩
abbrev main_v62_9 : Ref sig .tc := ⟨.hbm, 87, rfl⟩
abbrev main_while0c_c_22 : Ref sig .tc := ⟨.hbm, 88, rfl⟩
abbrev main_while0c_v81 : Ref sig .tc := ⟨.hbm, 89, rfl⟩
abbrev main_while0b_call1_c : Ref sig .tc := ⟨.hbm, 90, rfl⟩
abbrev main_while0b_call1_c_0 : Ref sig .tc := ⟨.hbm, 91, rfl⟩
abbrev main_while0b_call1_c_1 : Ref sig .tc := ⟨.hbm, 92, rfl⟩
abbrev main_while0b_call1_c_2 : Ref sig .tc := ⟨.hbm, 93, rfl⟩
abbrev main_while0b_call1_v0 : Ref sig .tc := ⟨.hbm, 94, rfl⟩
abbrev main_while0b_v81 : Ref sig .tc := ⟨.hbm, 95, rfl⟩
abbrev main_while0b_call2_c : Ref sig .tc := ⟨.hbm, 96, rfl⟩
abbrev main_while0b_call2_c_0 : Ref sig .tc := ⟨.hbm, 97, rfl⟩
abbrev main_while0b_call2_c_1 : Ref sig .tc := ⟨.hbm, 98, rfl⟩
abbrev main_while0b_call2_c_2 : Ref sig .tc := ⟨.hbm, 99, rfl⟩
abbrev main_while0b_call2_v0 : Ref sig .tc := ⟨.hbm, 100, rfl⟩
abbrev main_while0b_v82 : Ref sig .tc := ⟨.hbm, 101, rfl⟩
abbrev main_while0b_call3_c : Ref sig .tc := ⟨.hbm, 102, rfl⟩
abbrev main_while0b_call3_c_0 : Ref sig .tc := ⟨.hbm, 103, rfl⟩
abbrev main_while0b_call3_c_1 : Ref sig .tc := ⟨.hbm, 104, rfl⟩
abbrev main_while0b_call3_c_2 : Ref sig .tc := ⟨.hbm, 105, rfl⟩
abbrev main_while0b_call3_v0 : Ref sig .tc := ⟨.hbm, 106, rfl⟩
abbrev main_while0b_v83 : Ref sig .tc := ⟨.hbm, 107, rfl⟩
abbrev main_while0b_v84 : Ref sig .tc := ⟨.hbm, 108, rfl⟩
abbrev main_while0b_v85 : Ref sig .tc := ⟨.hbm, 109, rfl⟩
abbrev main_while0b_v86 : Ref sig .tc := ⟨.hbm, 110, rfl⟩
abbrev main_while0b_v87 : Ref sig .tc := ⟨.hbm, 111, rfl⟩
abbrev main_while0b_v88 : Ref sig .tc := ⟨.hbm, 112, rfl⟩
abbrev main_while0b_v89 : Ref sig .tc := ⟨.hbm, 113, rfl⟩
abbrev main_while0b_v90 : Ref sig .tc := ⟨.hbm, 114, rfl⟩
abbrev main_while0b_v91 : Ref sig .tc := ⟨.hbm, 115, rfl⟩
abbrev main_while0b_v92 : Ref sig .tc := ⟨.hbm, 116, rfl⟩
abbrev main_while0b_v93 : Ref sig .tc := ⟨.hbm, 117, rfl⟩
abbrev main_while0b_v94 : Ref sig .tc := ⟨.hbm, 118, rfl⟩
abbrev main_while0b_v95 : Ref sig .tc := ⟨.hbm, 119, rfl⟩
abbrev main_while0b_v96 : Ref sig .tc := ⟨.hbm, 120, rfl⟩
abbrev main_while0b_v97 : Ref sig .tc := ⟨.hbm, 121, rfl⟩
abbrev main_while0b_v98 : Ref sig .tc := ⟨.hbm, 122, rfl⟩
abbrev main_while0b_v99 : Ref sig .tc := ⟨.hbm, 123, rfl⟩
abbrev main_while0b_v100 : Ref sig .tc := ⟨.hbm, 124, rfl⟩
abbrev main_while0b_v101 : Ref sig .tc := ⟨.hbm, 125, rfl⟩
abbrev main_while0b_call4_v0 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_call4_c_1 : Ref sig .tc := ⟨.hbm, 129, rfl⟩
abbrev main_while0b_call4_c_2 : Ref sig .tc := ⟨.hbm, 130, rfl⟩
abbrev main_while0b_v102 : Ref sig .tc := ⟨.hbm, 131, rfl⟩
abbrev main_while0b_c_22 : Ref sig .tc := ⟨.hbm, 132, rfl⟩
abbrev main_while0b_v103 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_cst_10 : Ref sig .tc := ⟨.hbm, 137, rfl⟩
abbrev main_v66 : Ref sig .tc := ⟨.hbm, 138, rfl⟩
abbrev main_v67 : Ref sig .tc := ⟨.hbm, 139, rfl⟩
abbrev main_cst_11 : Ref sig .tc := ⟨.hbm, 140, rfl⟩
abbrev main_v68 : Ref sig .tc := ⟨.hbm, 141, rfl⟩
abbrev main_v69 : Ref sig .tc := ⟨.hbm, 142, rfl⟩
abbrev main_cst_12 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_call5_v0 : Ref sig .tc := ⟨.hbm, 151, rfl⟩
abbrev main_call5_v1 : Ref sig .tc := ⟨.hbm, 152, rfl⟩
abbrev main_call5_cst : Ref sig .tc := ⟨.hbm, 153, rfl⟩
abbrev main_call5_v2 : Ref sig .tc := ⟨.hbm, 154, rfl⟩
abbrev main_call5_v3 : Ref sig .tc := ⟨.hbm, 155, rfl⟩
abbrev main_call5_cst_0 : Ref sig .tc := ⟨.hbm, 156, rfl⟩
abbrev main_call5_v4 : Ref sig .tc := ⟨.hbm, 157, rfl⟩
abbrev main_call5_v5 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x2048 : Shape := ⟨2, ![16384, 2048]⟩
abbrev S2x2048x19968 : Shape := ⟨3, ![2, 2048, 19968]⟩
abbrev S16384x15360 : Shape := ⟨2, ![16384, 15360]⟩
abbrev S2048x2048 : Shape := ⟨2, ![2048, 2048]⟩
abbrev S1x2048x768 : Shape := ⟨3, ![1, 2048, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2x2048x19968, .f32⟩
  | .hbm, ⟨2, _⟩ => ⟨S16384x15360, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x768, .f32⟩
  | .local _ .vmem, ⟨3, _⟩ => ⟨S1x2048x768, .f32⟩
  | .local _ .vmem, ⟨4, _⟩ => ⟨S2048x768, .bf16⟩
  | .local _ .vmem, ⟨5, _⟩ => ⟨S2048x768, .bf16⟩
  | .local _ .vmem, ⟨6, _⟩ => ⟨S2048x768, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c6_i32 : BitVec 32 := 6#32
  let v1 : BitVec 32 := Scalar.addi arg0 c6_i32
  let v2 : BitVec 32 := Scalar.select v0 arg0 v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S2x2048x19968 : Shape := ⟨3, ![2, 2048, 19968]⟩
abbrev S1x2048x19968 : Shape := ⟨3, ![1, 2048, 19968]⟩
abbrev S2048x19968 : Shape := ⟨2, ![2048, 19968]⟩
abbrev S16384x19968 : Shape := ⟨2, ![16384, 19968]⟩
abbrev S16384x3072 : Shape := ⟨2, ![16384, 3072]⟩
abbrev S16384x12288 : Shape := ⟨2, ![16384, 12288]⟩
abbrev S16384x15360 : Shape := ⟨2, ![16384, 15360]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x19968, .f32⟩
  | .hbm, ⟨2, _⟩ => ⟨S16384x2048, .f32⟩
  | .hbm, ⟨3, _⟩ => ⟨S1x2048x19968, .f32⟩
  | .hbm, ⟨4, _⟩ => ⟨S2048x19968, .f32⟩
  | .hbm, ⟨5, _⟩ => ⟨S16384x19968, .f32⟩
  | .hbm, ⟨6, _⟩ => ⟨S16384x3072, .f32⟩
  | .hbm, ⟨7, _⟩ => ⟨S16384x12288, .f32⟩
  | .hbm, ⟨8, _⟩ => ⟨S16384x15360, .f32⟩
  | .hbm, ⟨9, _⟩ => ⟨S16384x15360, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel3.lean ====
abbrev S16384x2048 : Shape := ⟨2, ![16384, 2048]⟩
abbrev S2x2048x19968 : Shape := ⟨3, ![2, 2048, 19968]⟩
abbrev S16384x4608 : Shape := ⟨2, ![16384, 4608]⟩
abbrev S2048x2048 : Shape := ⟨2, ![2048, 2048]⟩
abbrev S1x2048x768 : Shape := ⟨3, ![1, 2048, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2x2048x19968, .f32⟩
  | .hbm, ⟨2, _⟩ => ⟨S16384x4608, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x768, .f32⟩
  | .local _ .vmem, ⟨3, _⟩ => ⟨S1x2048x768, .f32⟩
  | .local _ .vmem, ⟨4, _⟩ => ⟨S2048x768, .f32⟩
  | .local _ .vmem, ⟨5, _⟩ => ⟨S2048x768, .f32⟩
  | .local _ .vmem, ⟨6, _⟩ => ⟨S2048x768, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2x2048x19968 : Shape := ⟨3, ![2, 2048, 19968]⟩
abbrev S1x2048x19968 : Shape := ⟨3, ![1, 2048, 19968]⟩
abbrev S2048x19968 : Shape := ⟨2, ![2048, 19968]⟩
abbrev S16384x19968 : Shape := ⟨2, ![16384, 19968]⟩
abbrev S16384x4608 : Shape := ⟨2, ![16384, 4608]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x19968, .f32⟩
  | .hbm, ⟨2, _⟩ => ⟨S16384x2048, .f32⟩
  | .hbm, ⟨3, _⟩ => ⟨S1x2048x19968, .f32⟩
  | .hbm, ⟨4, _⟩ => ⟨S2048x19968, .f32⟩
  | .hbm, ⟨5, _⟩ => ⟨S16384x19968, .f32⟩
  | .hbm, ⟨6, _⟩ => ⟨S16384x4608, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048 : Shape := ⟨1, ![2048]⟩
abbrev S2x4x12288 : Shape := ⟨3, ![2, 4, 12288]⟩
abbrev S2048x5632 : Shape := ⟨2, ![2048, 5632]⟩
abbrev S5632x2048 : Shape := ⟨2, ![5632, 2048]⟩
abbrev S16384x2048 : Shape := ⟨2, ![16384, 2048]⟩
abbrev S48x1x2048 : Shape := ⟨3, ![48, 1, 2048]⟩
abbrev S1x2048 : Shape := ⟨2, ![1, 2048]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2x4x12288, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S16384x2048, .f32⟩
  | .hbm, ⟨7, _⟩ => ⟨S48x1x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi c0_i32_4 v17
  let c4_i32 : BitVec 32 := 4#32
  let v19 : BitVec 32 := Scalar.addi v18 c4_i32
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi c0_i32_4 v17
  let c3_i32 : BitVec 32 := 3#32
  let v19 : BitVec 32 := Scalar.addi v18 c3_i32
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi c0_i32_4 v17
  let c5_i32 : BitVec 32 := 5#32
  let v19 : BitVec 32 := Scalar.addi v18 c5_i32
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S4x4096x2048 : Shape := ⟨3, ![4, 4096, 2048]⟩
abbrev S2048 : Shape := ⟨1, ![2048]⟩
abbrev S2x4x12288 : Shape := ⟨3, ![2, 4, 12288]⟩
abbrev S2048x5632 : Shape := ⟨2, ![2048, 5632]⟩
abbrev S5632x2048 : Shape := ⟨2, ![5632, 2048]⟩
abbrev S1x4x12288 : Shape := ⟨3, ![1, 4, 12288]⟩
abbrev S4x12288 : Shape := ⟨2, ![4, 12288]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x5632 : Shape := ⟨3, ![4, 4096, 5632]⟩
abbrev S16384x2048 : Shape := ⟨2, ![16384, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2x4x12288, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S1x4x12288, .f32⟩
  | .hbm, ⟨7, _⟩ => ⟨S4x12288, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S4x1x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S_, .f32⟩
  | .hbm, ⟨43, _⟩ => ⟨S4x4096x5632, .f32⟩
  | .hbm, ⟨44, _⟩ => ⟨S4x4096x5632, .f32⟩
  | .hbm, ⟨45, _⟩ => ⟨S_, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S4x4096x5632, .f32⟩
  | .hbm, ⟨51, _⟩ => ⟨S4x4096x2048, .f32⟩
  | .hbm, ⟨52, _⟩ => ⟨S4x1x2048, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | .hbm, ⟨56, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Kernel5.lean ====
abbrev S16384x1536 : Shape := ⟨2, ![16384, 1536]⟩
abbrev S16384x512 : Shape := ⟨2, ![16384, 512]⟩
abbrev S16384x2048 : Shape := ⟨2, ![16384, 2048]⟩
abbrev S1536x2048 : Shape := ⟨2, ![1536, 2048]⟩
abbrev S512x2048 : Shape := ⟨2, ![512, 2048]⟩
abbrev S2048x2048 : Shape := ⟨2, ![2048, 2048]⟩
abbrev S16384x15360 : Shape := ⟨2, ![16384, 15360]⟩
abbrev S1024x1536 : Shape := ⟨2, ![1024, 1536]⟩
abbrev S1024x512 : Shape := ⟨2, ![1024, 512]⟩
abbrev S1024x2048 : Shape := ⟨2, ![1024, 2048]⟩
abbrev S1536x512 : Shape := ⟨2, ![1536, 512]⟩
abbrev S512x512 : Shape := ⟨2, ![512, 512]⟩
abbrev S2048x512 : Shape := ⟨2, ![2048, 512]⟩

abbrev nBuf : Space → Nat
  | .hbm => 11
  | .vmem => 20
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S16384x2048, .bf16⟩
  | .hbm, ⟨3, _⟩ => ⟨S1536x2048, .f32⟩
  | .hbm, ⟨4, _⟩ => ⟨S512x2048, .f32⟩
  | .hbm, ⟨5, _⟩ => ⟨S2048x2048, .f32⟩
  | .hbm, ⟨6, _⟩ => ⟨S16384x15360, .bf16⟩
  | .hbm, ⟨7, _⟩ => ⟨S1536x2048, .bf16⟩
  | .hbm, ⟨8, _⟩ => ⟨S512x2048, .bf16⟩
  | .hbm, ⟨9, _⟩ => ⟨S2048x2048, .bf16⟩
  | .hbm, ⟨10, _⟩ => ⟨S16384x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x512, .bf16⟩
  | .local _ .vmem, ⟨3, _⟩ => ⟨S1024x512, .bf16⟩
  | .local _ .vmem, ⟨4, _⟩ => ⟨S1024x2048, .bf16⟩
  | .local _ .vmem, ⟨5, _⟩ => ⟨S1024x2048, .bf16⟩
  | .local _ .vmem, ⟨6, _⟩ => ⟨S1536x512, .bf16⟩
  | .local _ .vmem, ⟨7, _⟩ => ⟨S1536x512, .bf16⟩
  | .local _ .vmem, ⟨8, _⟩ => ⟨S512x512, .bf16⟩
  | .local _ .vmem, ⟨9, _⟩ => ⟨S512x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S16384x1536 : Shape := ⟨2, ![16384, 1536]⟩
abbrev S16384x512 : Shape := ⟨2, ![16384, 512]⟩
abbrev S16384x2048 : Shape := ⟨2, ![16384, 2048]⟩
abbrev S1536x2048 : Shape := ⟨2, ![1536, 2048]⟩
abbrev S512x2048 : Shape := ⟨2, ![512, 2048]⟩
abbrev S2048x2048 : Shape := ⟨2, ![2048, 2048]⟩
abbrev S16384x15360 : Shape := ⟨2, ![16384, 15360]⟩
abbrev S16384x6144 : Shape := ⟨2, ![16384, 6144]⟩
abbrev S16384x3x2048 : Shape := ⟨3, ![16384, 3, 2048]⟩
abbrev S_ : Shape := ⟨0, ![]⟩
abbrev S16384x1x2048 : Shape := ⟨3, ![16384, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S16384x2048, .bf16⟩
  | .hbm, ⟨3, _⟩ => ⟨S1536x2048, .f32⟩
  | .hbm, ⟨4, _⟩ => ⟨S512x2048, .f32⟩
  | .hbm, ⟨5, _⟩ => ⟨S2048x2048, .f32⟩
  | .hbm, ⟨6, _⟩ => ⟨S16384x15360, .bf16⟩
  | .hbm, ⟨7, _⟩ => ⟨S16384x1536, .f32⟩
  | .hbm, ⟨8, _⟩ => ⟨S16384x2048, .f32⟩
  | .hbm, ⟨9, _⟩ => ⟨S16384x512, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x6144, .bf16⟩
  | .hbm, ⟨14, _⟩ => ⟨S16384x6144, .f32⟩
  | .hbm, ⟨15, _⟩ => ⟨S16384x3x2048, .f32⟩
  | .hbm, ⟨16, _⟩ => ⟨S16384x3x2048, .f32⟩
  | .hbm, ⟨17, _⟩ => ⟨S16384x3x2048, .f32⟩
  | .hbm, ⟨18, _⟩ => ⟨S_, .f32⟩
  | .hbm, ⟨19, _⟩ => ⟨S16384x3x2048, .f32⟩
  | .hbm, ⟨20, _⟩ => ⟨S16384x3x2048, .f32⟩
  | .hbm, ⟨21, _⟩ => ⟨S_, .f32⟩
  | .hbm, ⟨22, _⟩ => ⟨S16384x3x2048, .f32⟩
  | .hbm, ⟨23, _⟩ => ⟨S16384x3x2048, .f32⟩
  | .hbm, ⟨24, _⟩ => ⟨S16384x1x2048, .f32⟩
  | .hbm, ⟨25, _⟩ => ⟨S16384x2048, .f32⟩
  | .hbm, ⟨26, _⟩ => ⟨S16384x2048, .f32⟩
  | .hbm, ⟨27, _⟩ => ⟨S16384x1x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x1x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S4x4096x2048 : Shape := ⟨3, ![4, 4096, 2048]⟩
abbrev S2x4x12288 : Shape := ⟨3, ![2, 4, 12288]⟩
abbrev S48x1x2048 : Shape := ⟨3, ![48, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S2x4x12288, .f32⟩
  | .hbm, ⟨4, _⟩ => ⟨S2048x2048, .bf16⟩
  | .hbm, ⟨5, _⟩ => ⟨S16384x2048, .f32⟩
  | .hbm, ⟨6, _⟩ => ⟨S48x1x2048, .f32⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi c0_i32_4 v17
  let c2_i32 : BitVec 32 := 2#32
  let v19 : BitVec 32 := Scalar.addi v18 c2_i32
  let c0_i32_5 : BitVec 32 := 0#32
  let c0_i32_6 : BitVec 32 := 0#32
  ![v19.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16384x2048 : Shape := ⟨2, ![16384, 2048]⟩
abbrev S2048x2048 : Shape := ⟨2, ![2048, 2048]⟩
abbrev S4x4096x2048 : Shape := ⟨3, ![4, 4096, 2048]⟩
abbrev S2x4x12288 : Shape := ⟨3, ![2, 4, 12288]⟩
abbrev S1x4x12288 : Shape := ⟨3, ![1, 4, 12288]⟩
abbrev S4x12288 : Shape := ⟨2, ![4, 12288]⟩
abbrev S4x2048 : Shape := ⟨2, ![4, 2048]⟩
abbrev S4x1x2048 : Shape := ⟨3, ![4, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S2x4x12288, .f32⟩
  | .hbm, ⟨4, _⟩ => ⟨S1x4x12288, .f32⟩
  | .hbm, ⟨5, _⟩ => ⟨S4x12288, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S16384x2048, .f32⟩
  | .hbm, ⟨13, _⟩ => ⟨S4x4096x2048, .f32⟩
  | .hbm, ⟨14, _⟩ => ⟨S4x4096x2048, .f32⟩
  | .hbm, ⟨15, _⟩ => ⟨S4x1x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel7.lean ====
abbrev S36864x2048 : Shape := ⟨2, ![36864, 2048]⟩
abbrev S8 : Shape := ⟨1, ![8]⟩
abbrev S8x2048x7168 : Shape := ⟨3, ![8, 2048, 7168]⟩
abbrev S8x7168x2048 : Shape := ⟨3, ![8, 7168, 2048]⟩
abbrev S_ : Shape := ⟨0, ![]⟩
abbrev S1 : Shape := ⟨1, ![1]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 49
  | .vmem => 11
  | .smem => 2
  | _ => 0

abbrev bufTy : (tb : Table) → Fin (tcTables nBuf tb) → BufTy
  | .hbm, ⟨0, _⟩ => ⟨S36864x2048, .f32⟩
  | .hbm, ⟨1, _⟩ => ⟨S8, .i32⟩
  | .hbm, ⟨2, _⟩ => ⟨S8x2048x7168, .f32⟩
  | .hbm, ⟨3, _⟩ => ⟨S8x2048x7168, .f32⟩
  | .hbm, ⟨4, _⟩ => ⟨S8x7168x2048, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S8, .i32⟩
  | .hbm, ⟨32, _⟩ => ⟨S72, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S72, .i32⟩
  | .hbm, ⟨37, _⟩ => ⟨S72, .i32⟩
  | .hbm, ⟨38, _⟩ => ⟨S72x1, .i32⟩
  | .hbm, ⟨39, _⟩ => ⟨S1x8, .i32⟩
  | .hbm, ⟨40, _⟩ => ⟨S72x8, .i32⟩
  | .hbm, ⟨41, _⟩ => ⟨S72x8, .i32⟩
  | .hbm, ⟨42, _⟩ => ⟨S72x8, .i1⟩
  | .hbm, ⟨43, _⟩ => ⟨S72x8, .i32⟩
  | .hbm, ⟨44, _⟩ => ⟨S_, .i32⟩
  | .hbm, ⟨45, _⟩ => ⟨S8x2048x7168, .bf16⟩
  | .hbm, ⟨46, _⟩ => ⟨S8x2048x7168, .bf16⟩
  | .hbm, ⟨47, _⟩ => ⟨S8x7168x2048, .bf16⟩
  | .hbm, ⟨48, _⟩ => ⟨S36864x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .smem, ⟨0, _⟩ => ⟨S72, .i32⟩
  | .local _ .smem, ⟨1, _⟩ => ⟨S1, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v18 : Ref sig .tc := ⟨.smem, 0, rfl⟩
abbrev main_v6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_v18.idx, main_v6.idx], fun | 0 => main_v18.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond3 (i : grid0.Coords) (v0 : BitVec 32) : BitVec 1 :=
  let arg0 : BitVec 32 := BitVec.ofNat 32 (i 0).val
  let v1 : BitVec 1 := Scalar.cmpi .slt arg0 v0
  let v9 : BitVec 32 := Scalar.extui v1
  let c0_i32_3 : BitVec 32 := 0#32
  let v10 : BitVec 1 := Scalar.cmpi .ne v9 c0_i32_3
  v10

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S36864x2048 : Shape := ⟨2, ![36864, 2048]⟩
abbrev S8 : Shape := ⟨1, ![8]⟩
abbrev S8x2048x7168 : Shape := ⟨3, ![8, 2048, 7168]⟩
abbrev S8x7168x2048 : Shape := ⟨3, ![8, 7168, 2048]⟩
abbrev S_ : Shape := ⟨0, ![]⟩
abbrev S36864 : Shape := ⟨1, ![36864]⟩
abbrev S1 : Shape := ⟨1, ![1]⟩
abbrev S36864x1 : Shape := ⟨2, ![36864, 1]⟩
abbrev S1x2048x7168 : Shape := ⟨3, ![1, 2048, 7168]⟩
abbrev S2048x7168 : Shape := ⟨2, ![2048, 7168]⟩
abbrev S1x7168x2048 : Shape := ⟨3, ![1, 7168, 2048]⟩
abbrev S7168x2048 : Shape := ⟨2, ![7168, 2048]⟩
abbrev S36864x7168 : Shape := ⟨2, ![36864, 7168]⟩

abbrev nBuf : Space → Nat
  | .hbm => 382
  | .vmem => 0
  | .smem => 0
  | _ => 0

abbrev hbmTy0_0 (i : Nat) : BufTy := match i % 128 with
  | 0 => ⟨S36864x2048, .f32⟩
  | 1 => ⟨S8, .i32⟩
  | 2 => ⟨S8x2048x7168, .f32⟩
  | 3 => ⟨S8x2048x7168, .f32⟩
  | 4 => ⟨S8x7168x2048, .f32⟩
  | 5 => ⟨S_, .i32⟩
  | 6 => ⟨S8, .i32⟩
  | 7 => ⟨S8, .i32⟩
  | 8 => ⟨S_, .i32⟩
  | 9 => ⟨S8, .i32⟩
  | 10 => ⟨S8, .i32⟩
  | 11 => ⟨S_, .i32⟩
  | 12 => ⟨S_, .i32⟩
  | 13 => ⟨S8, .i32⟩
  | 14 => ⟨S8, .i32⟩
  | 15 => ⟨S8, .i32⟩
  | 16 => ⟨S_, .i32⟩
  | 17 => ⟨S8, .i32⟩
  | 18 => ⟨S8, .i1⟩
  | 19 => ⟨S8, .i32⟩
  | 20 => ⟨S8, .i32⟩
  | 21 => ⟨S_, .i32⟩
  | 22 => ⟨S8, .i32⟩
  | 23 => ⟨S8, .i1⟩
  | 24 => ⟨S8, .i1⟩
  | 25 => ⟨S_, .i32⟩
  | 26 => ⟨S8, .i32⟩
  | 27 => ⟨S8, .i32⟩
  | 28 => ⟨S8, .i32⟩
  | 29 => ⟨S_, .i32⟩
  | 30 => ⟨S_, .i32⟩
  | 31 => ⟨S8, .i32⟩
  | 32 => ⟨S_, .i32⟩
  | 33 => ⟨S8, .i32⟩
  | 34 => ⟨S8, .i32⟩
  | 35 => ⟨S36864, .i32⟩
  | 36 => ⟨S_, .f32⟩
  | 37 => ⟨S36864x2048, .f32⟩
  | 38 => ⟨S1, .i32⟩
  | 39 => ⟨S_, .i32⟩
  | 40 => ⟨S1, .i32⟩
  | 41 => ⟨S_, .i32⟩
  | 42 => ⟨S_, .i32⟩
  | 43 => ⟨S_, .i32⟩
  | 44 => ⟨S_, .i32⟩
  | 45 => ⟨S36864, .i32⟩
  | 46 => ⟨S36864, .i1⟩
  | 47 => ⟨S1, .i32⟩
  | 48 => ⟨S_, .i32⟩
  | 49 => ⟨S36864, .i32⟩
  | 50 => ⟨S36864, .i1⟩
  | 51 => ⟨S36864, .i1⟩
  | 52 => ⟨S_, .f32⟩
  | 53 => ⟨S_, .f32⟩
  | 54 => ⟨S36864, .f32⟩
  | 55 => ⟨S36864, .f32⟩
  | 56 => ⟨S36864, .f32⟩
  | 57 => ⟨S36864x1, .f32⟩
  | 58 => ⟨S1x2048x7168, .f32⟩
  | 59 => ⟨S2048x7168, .f32⟩
  | 60 => ⟨S1x2048x7168, .f32⟩
  | 61 => ⟨S2048x7168, .f32⟩
  | 62 => ⟨S1x7168x2048, .f32⟩
  | 63 => ⟨S7168x2048, .f32⟩
  | 64 => ⟨S36864x7168, .f32⟩
  | 65 => ⟨S36864x7168, .f32⟩
  | 66 => ⟨S36864x7168, .f32⟩
  | 67 => ⟨S_, .f32⟩
  | 68 => ⟨S36864x7168, .f32⟩
  | 69 => ⟨S36864x7168, .f32⟩
  | 70 => ⟨S_, .f32⟩
  | 71 => ⟨S36864x7168, .f32⟩
  | 72 => ⟨S36864x7168, .f32⟩
  | 73 => ⟨S36864x7168, .f32⟩
  | 74 => ⟨S36864x7168, .f32⟩
  | 75 => ⟨S36864x7168, .f32⟩
  | 76 => ⟨S36864x2048, .f32⟩
  | 77 => ⟨S36864x1, .f32⟩
  | 78 => ⟨S36864x2048, .f32⟩
  | 79 => ⟨S36864x2048, .f32⟩
  | 80 => ⟨S36864x2048, .f32⟩
  | 81 => ⟨S1, .i32⟩
  | 82 => ⟨S_, .i32⟩
  | 83 => ⟨S1, .i32⟩
  | 84 => ⟨S_, .i32⟩
  | 85 => ⟨S_, .i32⟩
  | 86 => ⟨S_, .i32⟩
  | 87 => ⟨S_, .i32⟩
  | 88 => ⟨S36864, .i32⟩
  | 89 => ⟨S36864, .i1⟩
  | 90 => ⟨S1, .i32⟩
  | 91 => ⟨S_, .i32⟩
  | 92 => ⟨S36864, .i32⟩
  | 93 => ⟨S36864, .i1⟩
  | 94 => ⟨S36864, .i1⟩
  | 95 => ⟨S_, .f32⟩
  | 96 => ⟨S_, .f32⟩
  | 97 => ⟨S36864, .f32⟩
  | 98 => ⟨S36864, .f32⟩
  | 99 => ⟨S36864, .f32⟩
  | 100 => ⟨S36864x1, .f32⟩
  | 101 => ⟨S1x2048x7168, .f32⟩
  | 102 => ⟨S2048x7168, .f32⟩
  | 103 => ⟨S1x2048x7168, .f32⟩
  | 104 => ⟨S2048x7168, .f32⟩
  | 105 => ⟨S1x7168x2048, .f32⟩
  | 106 => ⟨S7168x2048, .f32⟩
  | 107 => ⟨S36864x7168, .f32⟩
  | 108 => ⟨S36864x7168, .f32⟩
  | 109 => ⟨S36864x7168, .f32⟩
  | 110 => ⟨S_, .f32⟩
  | 111 => ⟨S36864x7168, .f32⟩
  | 112 => ⟨S36864x7168, .f32⟩
  | 113 => ⟨S_, .f32⟩
  | 114 => ⟨S36864x7168, .f32⟩
  | 115 => ⟨S36864x7168, .f32⟩
  | 116 => ⟨S36864x7168, .f32⟩
  | 117 => ⟨S36864x7168, .f32⟩
  | 118 => ⟨S36864x7168, .f32⟩
  | 119 => ⟨S36864x2048, .f32⟩
  | 120 => ⟨S36864x1, .f32⟩
  | 121 => ⟨S36864x2048, .f32⟩
  | 122 => ⟨S36864x2048, .f32⟩
  | 123 => ⟨S36864x2048, .f32⟩
  | 124 => ⟨S1, .i32⟩
  | 125 => ⟨S_, .i32⟩
  | 126 => ⟨S1, .i32⟩
  | 127 => ⟨S_, .i32⟩
  | _ => ⟨S36864x2048, .f32⟩

abbrev hbmTy0_1 (i : Nat) : BufTy := match i % 128 with
  | 0 => ⟨S_, .i32⟩
  | 1 => ⟨S_, .i32⟩
  | 2 => ⟨S_, .i32⟩
  | 3 => ⟨S36864, .i32⟩
  | 4 => ⟨S36864, .i1⟩
  | 5 => ⟨S1, .i32⟩
  | 6 => ⟨S_, .i32⟩
  | 7 => ⟨S36864, .i32⟩
  | 8 => ⟨S36864, .i1⟩
  | 9 => ⟨S36864, .i1⟩
  | 10 => ⟨S_, .f32⟩
  | 11 => ⟨S_, .f32⟩
  | 12 => ⟨S36864, .f32⟩
  | 13 => ⟨S36864, .f32⟩
  | 14 => ⟨S36864, .f32⟩
  | 15 => ⟨S36864x1, .f32⟩
  | 16 => ⟨S1x2048x7168, .f32⟩
  | 17 => ⟨S2048x7168, .f32⟩
  | 18 => ⟨S1x2048x7168, .f32⟩
  | 19 => ⟨S2048x7168, .f32⟩
  | 20 => ⟨S1x7168x2048, .f32⟩
  | 21 => ⟨S7168x2048, .f32⟩
  | 22 => ⟨S36864x7168, .f32⟩
  | 23 => ⟨S36864x7168, .f32⟩
  | 24 => ⟨S36864x7168, .f32⟩
  | 25 => ⟨S_, .f32⟩
  | 26 => ⟨S36864x7168, .f32⟩
  | 27 => ⟨S36864x7168, .f32⟩
  | 28 => ⟨S_, .f32⟩
  | 29 => ⟨S36864x7168, .f32⟩
  | 30 => ⟨S36864x7168, .f32⟩
  | 31 => ⟨S36864x7168, .f32⟩
  | 32 => ⟨S36864x7168, .f32⟩
  | 33 => ⟨S36864x7168, .f32⟩
  | 34 => ⟨S36864x2048, .f32⟩
  | 35 => ⟨S36864x1, .f32⟩
  | 36 => ⟨S36864x2048, .f32⟩
  | 37 => ⟨S36864x2048, .f32⟩
  | 38 => ⟨S36864x2048, .f32⟩
  | 39 => ⟨S1, .i32⟩
  | 40 => ⟨S_, .i32⟩
  | 41 => ⟨S1, .i32⟩
  | 42 => ⟨S_, .i32⟩
  | 43 => ⟨S_, .i32⟩
  | 44 => ⟨S_, .i32⟩
  | 45 => ⟨S_, .i32⟩
  | 46 => ⟨S36864, .i32⟩
  | 47 => ⟨S36864, .i1⟩
  | 48 => ⟨S1, .i32⟩
  | 49 => ⟨S_, .i32⟩
  | 50 => ⟨S36864, .i32⟩
  | 51 => ⟨S36864, .i1⟩
  | 52 => ⟨S36864, .i1⟩
  | 53 => ⟨S_, .f32⟩
  | 54 => ⟨S_, .f32⟩
  | 55 => ⟨S36864, .f32⟩
  | 56 => ⟨S36864, .f32⟩
  | 57 => ⟨S36864, .f32⟩
  | 58 => ⟨S36864x1, .f32⟩
  | 59 => ⟨S1x2048x7168, .f32⟩
  | 60 => ⟨S2048x7168, .f32⟩
  | 61 => ⟨S1x2048x7168, .f32⟩
  | 62 => ⟨S2048x7168, .f32⟩
  | 63 => ⟨S1x7168x2048, .f32⟩
  | 64 => ⟨S7168x2048, .f32⟩
  | 65 => ⟨S36864x7168, .f32⟩
  | 66 => ⟨S36864x7168, .f32⟩
  | 67 => ⟨S36864x7168, .f32⟩
  | 68 => ⟨S_, .f32⟩
  | 69 => ⟨S36864x7168, .f32⟩
  | 70 => ⟨S36864x7168, .f32⟩
  | 71 => ⟨S_, .f32⟩
  | 72 => ⟨S36864x7168, .f32⟩
  | 73 => ⟨S36864x7168, .f32⟩
  | 74 => ⟨S36864x7168, .f32⟩
  | 75 => ⟨S36864x7168, .f32⟩
  | 76 => ⟨S36864x7168, .f32⟩
  | 77 => ⟨S36864x2048, .f32⟩
  | 78 => ⟨S36864x1, .f32⟩
  | 79 => ⟨S36864x2048, .f32⟩
  | 80 => ⟨S36864x2048, .f32⟩
  | 81 => ⟨S36864x2048, .f32⟩
  | 82 => ⟨S1, .i32⟩
  | 83 => ⟨S_, .i32⟩
  | 84 => ⟨S1, .i32⟩
  | 85 => ⟨S_, .i32⟩
  | 86 => ⟨S_, .i32⟩
  | 87 => ⟨S_, .i32⟩
  | 88 => ⟨S_, .i32⟩
  | 89 => ⟨S36864, .i32⟩
  | 90 => ⟨S36864, .i1⟩
  | 91 => ⟨S1, .i32⟩
  | 92 => ⟨S_, .i32⟩
  | 93 => ⟨S36864, .i32⟩
  | 94 => ⟨S36864, .i1⟩
  | 95 => ⟨S36864, .i1⟩
  | 96 => ⟨S_, .f32⟩
  | 97 => ⟨S_, .f32⟩
  | 98 => ⟨S36864, .f32⟩
  | 99 => ⟨S36864, .f32⟩
  | 100 => ⟨S36864, .f32⟩
  | 101 => ⟨S36864x1, .f32⟩
  | 102 => ⟨S1x2048x7168, .f32⟩
  | 103 => ⟨S2048x7168, .f32⟩
  | 104 => ⟨S1x2048x7168, .f32⟩
  | 105 => ⟨S2048x7168, .f32⟩
  | 106 => ⟨S1x7168x2048, .f32⟩
  | 107 => ⟨S7168x2048, .f32⟩
  | 108 => ⟨S36864x7168, .f32⟩
  | 109 => ⟨S36864x7168, .f32⟩
  | 110 => ⟨S36864x7168, .f32⟩
  | 111 => ⟨S_, .f32⟩
  | 112 => ⟨S36864x7168, .f32⟩
  | 113 => ⟨S36864x7168, .f32⟩
  | 114 => ⟨S_, .f32⟩
  | 115 => ⟨S36864x7168, .f32⟩
  | 116 => ⟨S36864x7168, .f32⟩
  | 117 => ⟨S36864x7168, .f32⟩
  | 118 => ⟨S36864x7168, .f32⟩
  | 119 => ⟨S36864x7168, .f32⟩
  | 120 => ⟨S36864x2048, .f32⟩
  | 121 => ⟨S36864x1, .f32⟩
  | 122 => ⟨S36864x2048, .f32⟩
  | 123 => ⟨S36864x2048, .f32⟩
  | 124 => ⟨S36864x2048, .f32⟩
  | 125 => ⟨S1, .i32⟩
  | 126 => ⟨S_, .i32⟩
  | 127 => ⟨S1, .i32⟩
  | _ => ⟨S36864x2048, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S36864, .i32⟩
  | 5 => ⟨S36864, .i1⟩
  | 6 => ⟨S1, .i32⟩
  | 7 => ⟨S_, .i32⟩
  | 8 => ⟨S36864, .i32⟩
  | 9 => ⟨S36864, .i1⟩
  | 10 => ⟨S36864, .i1⟩
  | 11 => ⟨S_, .f32⟩
  | 12 => ⟨S_, .f32⟩
  | 13 => ⟨S36864, .f32⟩
  | 14 => ⟨S36864, .f32⟩
  | 15 => ⟨S36864, .f32⟩
  | 16 => ⟨S36864x1, .f32⟩
  | 17 => ⟨S1x2048x7168, .f32⟩
  | 18 => ⟨S2048x7168, .f32⟩
  | 19 => ⟨S1x2048x7168, .f32⟩
  | 20 => ⟨S2048x7168, .f32⟩
  | 21 => ⟨S1x7168x2048, .f32⟩
  | 22 => ⟨S7168x2048, .f32⟩
  | 23 => ⟨S36864x7168, .f32⟩
  | 24 => ⟨S36864x7168, .f32⟩
  | 25 => ⟨S36864x7168, .f32⟩
  | 26 => ⟨S_, .f32⟩
  | 27 => ⟨S36864x7168, .f32⟩
  | 28 => ⟨S36864x7168, .f32⟩
  | 29 => ⟨S_, .f32⟩
  | 30 => ⟨S36864x7168, .f32⟩
  | 31 => ⟨S36864x7168, .f32⟩
  | 32 => ⟨S36864x7168, .f32⟩
  | 33 => ⟨S36864x7168, .f32⟩
  | 34 => ⟨S36864x7168, .f32⟩
  | 35 => ⟨S36864x2048, .f32⟩
  | 36 => ⟨S36864x1, .f32⟩
  | 37 => ⟨S36864x2048, .f32⟩
  | 38 => ⟨S36864x2048, .f32⟩
  | 39 => ⟨S36864x2048, .f32⟩
  | 40 => ⟨S1, .i32⟩
  | 41 => ⟨S_, .i32⟩
  | 42 => ⟨S1, .i32⟩
  | 43 => ⟨S_, .i32⟩
  | 44 => ⟨S_, .i32⟩
  | 45 => ⟨S_, .i32⟩
  | 46 => ⟨S_, .i32⟩
  | 47 => ⟨S36864, .i32⟩
  | 48 => ⟨S36864, .i1⟩
  | 49 => ⟨S1, .i32⟩
  | 50 => ⟨S_, .i32⟩
  | 51 => ⟨S36864, .i32⟩
  | 52 => ⟨S36864, .i1⟩
  | 53 => ⟨S36864, .i1⟩
  | 54 => ⟨S_, .f32⟩
  | 55 => ⟨S_, .f32⟩
  | 56 => ⟨S36864, .f32⟩
  | 57 => ⟨S36864, .f32⟩
  | 58 => ⟨S36864, .f32⟩
  | 59 => ⟨S36864x1, .f32⟩
  | 60 => ⟨S1x2048x7168, .f32⟩
  | 61 => ⟨S2048x7168, .f32⟩
  | 62 => ⟨S1x2048x7168, .f32⟩
  | 63 => ⟨S2048x7168, .f32⟩
  | 64 => ⟨S1x7168x2048, .f32⟩
  | 65 => ⟨S7168x2048, .f32⟩
  | 66 => ⟨S36864x7168, .f32⟩
  | 67 => ⟨S36864x7168, .f32⟩
  | 68 => ⟨S36864x7168, .f32⟩
  | 69 => ⟨S_, .f32⟩
  | 70 => ⟨S36864x7168, .f32⟩
  | 71 => ⟨S36864x7168, .f32⟩
  | 72 => ⟨S_, .f32⟩
  | 73 => ⟨S36864x7168, .f32⟩
  | 74 => ⟨S36864x7168, .f32⟩
  | 75 => ⟨S36864x7168, .f32⟩
  | 76 => ⟨S36864x7168, .f32⟩
  | 77 => ⟨S36864x7168, .f32⟩
  | 78 => ⟨S36864x2048, .f32⟩
  | 79 => ⟨S36864x1, .f32⟩
  | 80 => ⟨S36864x2048, .f32⟩
  | 81 => ⟨S36864x2048, .f32⟩
  | 82 => ⟨S36864x2048, .f32⟩
  | 83 => ⟨S1, .i32⟩
  | 84 => ⟨S_, .i32⟩
  | 85 => ⟨S1, .i32⟩
  | 86 => ⟨S_, .i32⟩
  | 87 => ⟨S_, .i32⟩
  | 88 => ⟨S_, .i32⟩
  | 89 => ⟨S_, .i32⟩
  | 90 => ⟨S36864, .i32⟩
  | 91 => ⟨S36864, .i1⟩
  | 92 => ⟨S1, .i32⟩
  | 93 => ⟨S_, .i32⟩
  | 94 => ⟨S36864, .i32⟩
  | 95 => ⟨S36864, .i1⟩
  | 96 => ⟨S36864, .i1⟩
  | 97 => ⟨S_, .f32⟩
  | 98 => ⟨S_, .f32⟩
  | 99 => ⟨S36864, .f32⟩
  | 100 => ⟨S36864, .f32⟩
  | 101 => ⟨S36864, .f32⟩
  | 102 => ⟨S36864x1, .f32⟩
  | 103 => ⟨S1x2048x7168, .f32⟩
  | 104 => ⟨S2048x7168, .f32⟩
  | 105 => ⟨S1x2048x7168, .f32⟩
  | 106 => ⟨S2048x7168, .f32⟩
  | 107 => ⟨S1x7168x2048, .f32⟩
  | 108 => ⟨S7168x2048, .f32⟩
  | 109 => ⟨S36864x7168, .f32⟩
  | 110 => ⟨S36864x7168, .f32⟩
  | 111 => ⟨S36864x7168, .f32⟩
  | 112 => ⟨S_, .f32⟩
  | 113 => ⟨S36864x7168, .f32⟩
  | 114 => ⟨S36864x7168, .f32⟩
  | 115 => ⟨S_, .f32⟩
  | 116 => ⟨S36864x7168, .f32⟩
  | 117 => ⟨S36864x7168, .f32⟩
  | 118 => ⟨S36864x7168, .f32⟩
  | 119 => ⟨S36864x7168, .f32⟩
  | 120 => ⟨S36864x7168, .f32⟩
  | 121 => ⟨S36864x2048, .f32⟩
  | 122 => ⟨S36864x1, .f32⟩
  | 123 => ⟨S36864x2048, .f32⟩
  | 124 => ⟨S36864x2048, .f32⟩
  | 125 => ⟨S36864x2048, .f32⟩
  | _ => ⟨S36864x2048, .f32⟩

abbrev hbmTy (i : Nat) : BufTy := match i / 128 with
  | 0 => hbmTy0_0 i
  | 1 => hbmTy0_1 i
  | 2 => hbmTy0_2 i
  | _ => ⟨S36864x2048, .f32⟩

abbrev bufTy : (tb : Table) → Fin (tcTables nBuf tb) → BufTy
  | .hbm, ⟨i, _⟩ => hbmTy i
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_6 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_7 : Ref sig .tc := ⟨.hbm, 95, rfl⟩
abbrev main_cst_8 : Ref sig .tc := ⟨.hbm, 96, rfl⟩
abbrev main_call4_v0 : Ref sig .tc := ⟨.hbm, 97, rfl⟩
abbrev main_call4_v1 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_call5_v0 : Ref sig .tc := ⟨.hbm, 108, rfl⟩
abbrev main_call5_v1 : Ref sig .tc := ⟨.hbm, 109, rfl⟩
abbrev main_call5_cst : Ref sig .tc := ⟨.hbm, 110, rfl⟩
abbrev main_call5_v2 : Ref sig .tc := ⟨.hbm, 111, rfl⟩
abbrev main_call5_v3 : Ref sig .tc := ⟨.hbm, 112, rfl⟩
abbrev main_call5_cst_0 : Ref sig .tc := ⟨.hbm, 113, rfl⟩
abbrev main_call5_v4 : Ref sig .tc := ⟨.hbm, 114, rfl⟩
abbrev main_call5_v5 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_c_9 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_10 : Ref sig .tc := ⟨.hbm, 138, rfl⟩
abbrev main_cst_11 : Ref sig .tc := ⟨.hbm, 139, rfl⟩
abbrev main_call6_v0 : Ref sig .tc := ⟨.hbm, 140, rfl⟩
abbrev main_call6_v1 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_call7_v0 : Ref sig .tc := ⟨.hbm, 151, rfl⟩
abbrev main_call7_v1 : Ref sig .tc := ⟨.hbm, 152, rfl⟩
abbrev main_call7_cst : Ref sig .tc := ⟨.hbm, 153, rfl⟩
abbrev main_call7_v2 : Ref sig .tc := ⟨.hbm, 154, rfl⟩
abbrev main_call7_v3 : Ref sig .tc := ⟨.hbm, 155, rfl⟩
abbrev main_call7_cst_0 : Ref sig .tc := ⟨.hbm, 156, rfl⟩
abbrev main_call7_v4 : Ref sig .tc := ⟨.hbm, 157, rfl⟩
abbrev main_call7_v5 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_c_12 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_cst_13 : Ref sig .tc := ⟨.hbm, 181, rfl⟩
abbrev main_cst_14 : Ref sig .tc := ⟨.hbm, 182, rfl⟩
abbrev main_call8_v0 : Ref sig .tc := ⟨.hbm, 183, rfl⟩
abbrev main_call8_v1 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_call9_v0 : Ref sig .tc := ⟨.hbm, 194, rfl⟩
abbrev main_call9_v1 : Ref sig .tc := ⟨.hbm, 195, rfl⟩
abbrev main_call9_cst : Ref sig .tc := ⟨.hbm, 196, rfl⟩
abbrev main_call9_v2 : Ref sig .tc := ⟨.hbm, 197, rfl⟩
abbrev main_call9_v3 : Ref sig .tc := ⟨.hbm, 198, rfl⟩
abbrev main_call9_cst_0 : Ref sig .tc := ⟨.hbm, 199, rfl⟩
abbrev main_call9_v4 : Ref sig .tc := ⟨.hbm, 200, rfl⟩
abbrev main_call9_v5 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_c_15 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_cst_16 : Ref sig .tc := ⟨.hbm, 224, rfl⟩
abbrev main_cst_17 : Ref sig .tc := ⟨.hbm, 225, rfl⟩
abbrev main_call10_v0 : Ref sig .tc := ⟨.hbm, 226, rfl⟩
abbrev main_call10_v1 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_call11_v0 : Ref sig .tc := ⟨.hbm, 237, rfl⟩
abbrev main_call11_v1 : Ref sig .tc := ⟨.hbm, 238, rfl⟩
abbrev main_call11_cst : Ref sig .tc := ⟨.hbm, 239, rfl⟩
abbrev main_call11_v2 : Ref sig .tc := ⟨.hbm, 240, rfl⟩
abbrev main_call11_v3 : Ref sig .tc := ⟨.hbm, 241, rfl⟩
abbrev main_call11_cst_0 : Ref sig .tc := ⟨.hbm, 242, rfl⟩
abbrev main_call11_v4 : Ref sig .tc := ⟨.hbm, 243, rfl⟩
abbrev main_call11_v5 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_c_18 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_cst_19 : Ref sig .tc := ⟨.hbm, 267, rfl⟩
abbrev main_cst_20 : Ref sig .tc := ⟨.hbm, 268, rfl⟩
abbrev main_call12_v0 : Ref sig .tc := ⟨.hbm, 269, rfl⟩
abbrev main_call12_v1 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_call13_v0 : Ref sig .tc := ⟨.hbm, 280, rfl⟩
abbrev main_call13_v1 : Ref sig .tc := ⟨.hbm, 281, rfl⟩
abbrev main_call13_cst : Ref sig .tc := ⟨.hbm, 282, rfl⟩
abbrev main_call13_v2 : Ref sig .tc := ⟨.hbm, 283, rfl⟩
abbrev main_call13_v3 : Ref sig .tc := ⟨.hbm, 284, rfl⟩
abbrev main_call13_cst_0 : Ref sig .tc := ⟨.hbm, 285, rfl⟩
abbrev main_call13_v4 : Ref sig .tc := ⟨.hbm, 286, rfl⟩
abbrev main_call13_v5 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_c_21 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_cst_22 : Ref sig .tc := ⟨.hbm, 310, rfl⟩
abbrev main_cst_23 : Ref sig .tc := ⟨.hbm, 311, rfl⟩
abbrev main_call14_v0 : Ref sig .tc := ⟨.hbm, 312, rfl⟩
abbrev main_call14_v1 : Ref sig .tc := ⟨.hbm, 313, rfl⟩
abbrev main_v203 : Ref sig .tc := ⟨.hbm, 314, rfl⟩
abbrev main_v204 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_call15_v0 : Ref sig .tc := ⟨.hbm, 323, rfl⟩
abbrev main_call15_v1 : Ref sig .tc := ⟨.hbm, 324, rfl⟩
abbrev main_call15_cst : Ref sig .tc := ⟨.hbm, 325, rfl⟩
abbrev main_call15_v2 : Ref sig .tc := ⟨.hbm, 326, rfl⟩
abbrev main_call15_v3 : Ref sig .tc := ⟨.hbm, 327, rfl⟩
abbrev main_call15_cst_0 : Ref sig .tc := ⟨.hbm, 328, rfl⟩
abbrev main_call15_v4 : Ref sig .tc := ⟨.hbm, 329, rfl⟩
abbrev main_call15_v5 : Ref sig .tc := ⟨.hbm, 330, rfl⟩
abbrev main_v212 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_v217 : Ref sig .tc := ⟨.hbm, 336, rfl⟩
abbrev main_v218 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_c_24 : Ref sig .tc := ⟨.hbm, 343, rfl⟩
abbrev main_v224 : Ref sig .tc := ⟨.hbm, 344, rfl⟩
abbrev main_v225 : Ref sig .tc := ⟨.hbm, 345, rfl⟩
abbrev main_v226 : Ref sig .tc := ⟨.hbm, 346, rfl⟩
abbrev main_v227 : Ref sig .tc := ⟨.hbm, 347, rfl⟩
abbrev main_v228 : Ref sig .tc := ⟨.hbm, 348, rfl⟩
abbrev main_v229 : Ref sig .tc := ⟨.hbm, 349, rfl⟩
abbrev main_v230 : Ref sig .tc := ⟨.hbm, 350, rfl⟩
abbrev main_v231 : Ref sig .tc := ⟨.hbm, 351, rfl⟩
abbrev main_v232 : Ref sig .tc := ⟨.hbm, 352, rfl⟩
abbrev main_cst_25 : Ref sig .tc := ⟨.hbm, 353, rfl⟩
abbrev main_cst_26 : Ref sig .tc := ⟨.hbm, 354, rfl⟩
abbrev main_call16_v0 : Ref sig .tc := ⟨.hbm, 355, rfl⟩
abbrev main_call16_v1 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_call17_v0 : Ref sig .tc := ⟨.hbm, 366, rfl⟩
abbrev main_call17_v1 : Ref sig .tc := ⟨.hbm, 367, rfl⟩
abbrev main_call17_cst : Ref sig .tc := ⟨.hbm, 368, rfl⟩
abbrev main_call17_v2 : Ref sig .tc := ⟨.hbm, 369, rfl⟩
abbrev main_call17_v3 : Ref sig .tc := ⟨.hbm, 370, rfl⟩
abbrev main_call17_cst_0 : Ref sig .tc := ⟨.hbm, 371, rfl⟩
abbrev main_call17_v4 : Ref sig .tc := ⟨.hbm, 372, rfl⟩
abbrev main_call17_v5 : Ref sig .tc := ⟨.hbm, 373, rfl⟩
abbrev main_v242 : Ref sig .tc := ⟨.hbm, 374, rfl⟩
abbrev main_v243 : Ref sig .tc := ⟨.hbm, 375, rfl⟩
abbrev main_v244 : Ref sig .tc := ⟨.hbm, 376, rfl⟩
abbrev main_v245 : Ref sig .tc := ⟨.hbm, 377, rfl⟩
abbrev main_v246 : Ref sig .tc := ⟨.hbm, 378, rfl⟩
abbrev main_v247 : Ref sig .tc := ⟨.hbm, 379, rfl⟩
abbrev main_v248 : Ref sig .tc := ⟨.hbm, 380, rfl⟩
abbrev main_v249 : Ref sig .tc := ⟨.hbm, 381, rfl⟩

abbrev nD : Nat := 1
abbrev τ : Topo := Topo.v7x

variable {F : FTy → Type} [FloatOps F]
-- ==== Kernel8.lean ====
abbrev S4x4096x2048 : Shape := ⟨3, ![4, 4096, 2048]⟩
abbrev S2048 : Shape := ⟨1, ![2048]⟩
abbrev S2x4x12288 : Shape := ⟨3, ![2, 4, 12288]⟩
abbrev S16384x2048 : Shape := ⟨2, ![16384, 2048]⟩
abbrev S48x1x2048 : Shape := ⟨3, ![48, 1, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2x4x12288, .f32⟩
  | .hbm, ⟨3, _⟩ => ⟨S16384x2048, .f32⟩
  | .hbm, ⟨4, _⟩ => ⟨S48x1x2048, .f32⟩
  | .hbm, ⟨5, _⟩ => ⟨S1x2048, .f32⟩
  | .hbm, ⟨6, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi c0_i32_4 v17
  let c1_i32_5 : BitVec 32 := 1#32
  let v19 : BitVec 32 := Scalar.addi v18 c1_i32_5
  let c0_i32_6 : BitVec 32 := 0#32
  let c0_i32_7 : BitVec 32 := 0#32
  let c0_i32_8 : BitVec 32 := 0#32
  ![v19.toNat, c0_i32_6.toNat, c0_i32_7.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi c0_i32_4 v17
  let c0_i32_5 : BitVec 32 := 0#32
  let v19 : BitVec 32 := Scalar.addi v18 c0_i32_5
  let c0_i32_6 : BitVec 32 := 0#32
  let c0_i32_7 : BitVec 32 := 0#32
  let c0_i32_8 : BitVec 32 := 0#32
  ![v19.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4x4096x2048 : Shape := ⟨3, ![4, 4096, 2048]⟩
abbrev S2048 : Shape := ⟨1, ![2048]⟩
abbrev S2x4x12288 : Shape := ⟨3, ![2, 4, 12288]⟩
abbrev S1x4x12288 : Shape := ⟨3, ![1, 4, 12288]⟩
abbrev S4x12288 : Shape := ⟨2, ![4, 12288]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S16384x2048 : Shape := ⟨2, ![16384, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2x4x12288, .f32⟩
  | .hbm, ⟨3, _⟩ => ⟨S1x4x12288, .f32⟩
  | .hbm, ⟨4, _⟩ => ⟨S4x12288, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x4096x2048, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S1x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S16384x2048, .f32⟩
  | .hbm, ⟨37, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel9.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S1 : Shape := ⟨1, ![1]⟩
abbrev S2x1x12288 : Shape := ⟨3, ![2, 1, 12288]⟩
abbrev S2x8x12288 : Shape := ⟨3, ![2, 8, 12288]⟩
abbrev S1x2048x1536 : Shape := ⟨3, ![1, 2048, 1536]⟩
abbrev S1x1x1536 : Shape := ⟨3, ![1, 1, 1536]⟩
abbrev S1x8x1536 : Shape := ⟨3, ![1, 8, 1536]⟩
abbrev S2048x1536 : Shape := ⟨2, ![2048, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 34
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S_, .f32⟩
  | .hbm, ⟨4, _⟩ => ⟨S4x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S1x2048x12288, .f32⟩
  | .hbm, ⟨16, _⟩ => ⟨S2048x12288, .f32⟩
  | .hbm, ⟨17, _⟩ => ⟨S8x12288, .f32⟩
  | .hbm, ⟨18, _⟩ => ⟨S1x12288, .f32⟩
  | .hbm, ⟨19, _⟩ => ⟨S12288, .f32⟩
  | .hbm, ⟨20, _⟩ => ⟨S1x12288, .f32⟩
  | .hbm, ⟨21, _⟩ => ⟨S8x12288, .f32⟩
  | .hbm, ⟨22, _⟩ => ⟨S8x12288, .f32⟩
  | .hbm, ⟨23, _⟩ => ⟨S1x2048x12288, .f32⟩
  | .hbm, ⟨24, _⟩ => ⟨S2048x12288, .f32⟩
  | .hbm, ⟨25, _⟩ => ⟨S8x12288, .f32⟩
  | .hbm, ⟨26, _⟩ => ⟨S1x12288, .f32⟩
  | .hbm, ⟨27, _⟩ => ⟨S12288, .f32⟩
  | .hbm, ⟨28, _⟩ => ⟨S1x12288, .f32⟩
  | .hbm, ⟨29, _⟩ => ⟨S8x12288, .f32⟩
  | .hbm, ⟨30, _⟩ => ⟨S8x12288, .f32⟩
  | .hbm, ⟨31, _⟩ => ⟨S1x8x12288, .f32⟩
  | .hbm, ⟨32, _⟩ => ⟨S1x8x12288, .f32⟩
  | .hbm, ⟨33, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.InProj.lean ====
/-
  The input projection without the attention's columns: what the call's array holds, index by index, and what the
  reference computes; the two are one sum over the hidden columns.
-/
module

public import proofs.«01_k».proof.Proof.Gen.Kernel2Ideal.Frame
public import Idealize.ShloMosaic.Lib.Pipeline.Value
public import proofs.«01_k».proof.Proof.Gen.Reference2Ideal.Run
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.InProj

/-- The column of the layer's projection that column `j` of the call's array is. -/
def col (j : ℕ) : ℕ := if j < 3072 then j else j + 4608

theorem col_lt (j : Fin 15360) : col j.val < 19968 := by have := j.isLt; unfold col; split <;> omega

theorem col_block (j : ℕ) : col (j / 768 * 768) + j % 768 = col j := by unfold col; split <;> split <;> omega

/-- The projection at a row and a column. -/
def at' (h : FVec Ideal ⟨2, ![16384, 2048]⟩ .bf16) (w : FVec Ideal ⟨3, ![2, 2048, 19968]⟩ .f32) (r : Fin 16384) (j : Fin 15360) : EReal :=
  ∑ k : Fin 2048, h (ix2 r k) * w (ix3 0 k ⟨col j.val, col_lt j⟩)

end Cert.InProj

namespace Cert.Kernel2Ideal.Arr

open Cert.Kernel2Ideal Cert.Kernel2Ideal.Gen

variable (m : (ℓ : Loc nD τ sig) → Buf (Elt Ideal) ℓ)

/-- One block's result at an index, of the rows and the weights it was given. -/
theorem pay_at (x0 : Vec Ideal S2048x2048 .bf16) (x1 : Vec Ideal S1x2048x768 .f32) (i : Fin 2048) (j : Fin 768) :
    k0_pay2 x0 (k0_pay1 x1) (ix2 i j) = ∑ k : Fin 2048, x0 (ix2 i k) * x1 (ix3 0 k j) := by
  unfold k0_pay2 k0_pay1
  pointwise

theorem z2 : (![0, 0] : Fin 2 → Nat) = fun _ => 0 := by decide

theorem z3 : (![0, 0, 0] : Fin 3 → Nat) = fun _ => 0 := by decide

/-- The first point of a column block casts the weights into the scratch and multiplies by them. -/
theorem out_A (c : Dev nD) (t : Fin cfg0.N) (hc : cond0_0 (grid0.coords t)) (x0 : Vec Ideal S2048x2048 .bf16) (x1 : Vec Ideal S1x2048x768 .f32) :
    out0_A_2 c (grid0.coords t) (ms0_0 t) (hs0_0 t) (ms0_1 t) (hs0_1 t) (ms0_2 t) (hs0_2 t) scM0_0 (Memref.isWhole_whole _) hc x0 x1
      = k0_pay2 x0 (k0_pay1 x1) := by
  unfold out0_A_2
  rw [View.read_writes_junk_eq_canon]
  unfold kernelRun0_A
  dsimp only
  sl_unfold_words
  rw [View.canon_unit_zero z2, View.readCov_unit_zero _ z2]
  simp only [View.readAt_eq_ld, (hs0_0 t).read_unread, (hs0_1 t).read_unread]
  rw [View.ld_unit_zero z2, View.ld_unit_zero z3]

theorem st_A (c : Dev nD) (t : Fin cfg0.N) (hc : cond0_0 (grid0.coords t)) (x0 : Vec Ideal S2048x2048 .bf16) (x1 : Vec Ideal S1x2048x768 .f32) :
    sout0_A_0 c (grid0.coords t) (ms0_0 t) (hs0_0 t) (ms0_1 t) (hs0_1 t) (ms0_2 t) (hs0_2 t) scM0_0 (Memref.isWhole_whole _) hc x0 x1 = k0_pay1 x1 := by
  unfold sout0_A_0
  rw [View.read_writes_junk_eq_canon]
  unfold kernelRun0_A
  dsimp only
  sl_unfold_words
  rw [View.canon_unit_zero z2]
  simp only [View.readAt_eq_ld, (hs0_1 t).read_unread]
  rw [View.ld_unit_zero z3]

/-- A later point multiplies by the weights the scratch holds. -/
theorem out_B (c : Dev nD) (t : Fin cfg0.N) (hc : ¬cond0_0 (grid0.coords t)) (x0 : Vec Ideal S2048x2048 .bf16) (x1 : Vec Ideal S1x2048x768 .f32)
    (xs : Vec Ideal S2048x768 .bf16) :
    out0_B_2 c (grid0.coords t) (ms0_0 t) (hs0_0 t) (ms0_1 t) (hs0_1 t) (ms0_2 t) (hs0_2 t) scM0_0 (Memref.isWhole_whole _) hc x0 x1 xs
      = k0_pay2 x0 xs := by
  unfold out0_B_2
  rw [View.read_writes_junk_eq_canon]
  unfold kernelRun0_B
  dsimp only
  sl_unfold_words
  rw [View.canon_unit_zero z2]
  simp only [View.readAt_eq_ld, (hs0_0 t).read_unread, (Memref.isWhole_whole cc0_scratch0).read_unread]
  rw [View.ld_unit_zero z2, View.ld_unit_zero z2]

theorem idx0 : ∀ t : Fin grid0.N, win0_0.index t 0 = t.val % 8 ∧ win0_0.index t 1 = 0 := by decide +kernel
theorem idx1 : ∀ t : Fin grid0.N, win0_1.index t 0 = 0 ∧ win0_1.index t 1 = 0 ∧ win0_1.index t 2 * 768 = Cert.InProj.col (t.val / 8 * 768) := by decide +kernel

theorem blk0 (c : Dev nD) (t : Fin grid0.N) (i k : Fin 2048) (r : Fin 16384) (hr : t.val % 8 * 2048 + i.val = r.val) :
    iblk m c 0 t (ix2 i k) = m ((c : Thread nD τ).loc main_arg0) (ix2 r k) := by
  unfold iblk; rw [View.read_apply]
  show V m c main_arg0 _ = _
  rw [V_main_arg0]
  congr 1; funext a; apply Fin.ext
  match a with
  | ⟨0, _⟩ => show win0_0.index t 0 * 2048 + 1 * i.val = r.val; rw [(idx0 t).1, one_mul]; exact hr
  | ⟨1, _⟩ => show win0_0.index t 1 * 2048 + 1 * k.val = k.val; rw [(idx0 t).2, zero_mul, one_mul, zero_add]

theorem blk1 (c : Dev nD) (t : Fin grid0.N) (k : Fin 2048) (j : Fin 768) (q : Fin 19968) (hq : Cert.InProj.col (t.val / 8 * 768) + j.val = q.val) :
    iblk m c 1 t (ix3 0 k j) = m ((c : Thread nD τ).loc main_arg1) (ix3 0 k q) := by
  unfold iblk; rw [View.read_apply]
  show V m c main_arg1 _ = _
  rw [V_main_arg1]
  congr 1; funext a; apply Fin.ext
  match a with
  | ⟨0, _⟩ => show win0_1.index t 0 * 1 + 1 * 0 = 0; rw [(idx1 t).1]
  | ⟨1, _⟩ => show win0_1.index t 1 * 2048 + 1 * k.val = k.val; rw [(idx1 t).2.1, zero_mul, one_mul, zero_add]
  | ⟨2, _⟩ => show win0_1.index t 2 * 768 + 1 * j.val = q.val; rw [(idx1 t).2.2, one_mul]; exact hq

/-- Two points of one column block read the same weights. -/
theorem blk1_congr (c : Dev nD) (t t' : Fin grid0.N) (h : t.val / 8 = t'.val / 8) : iblk m c 1 t = iblk m c 1 t' := by
  unfold iblk
  funext y
  rw [View.read_apply, View.read_apply]
  show V m c main_arg1 _ = V m c main_arg1 _
  congr 1; funext a; apply Fin.ext
  match a with
  | ⟨0, _⟩ => show win0_1.index t 0 * 1 + 1 * (y 0).val = win0_1.index t' 0 * 1 + 1 * (y 0).val; rw [(idx1 t).1, (idx1 t').1]
  | ⟨1, _⟩ => show win0_1.index t 1 * 2048 + 1 * (y 1).val = win0_1.index t' 1 * 2048 + 1 * (y 1).val; rw [(idx1 t).2.1, (idx1 t').2.1]
  | ⟨2, _⟩ => show win0_1.index t 2 * 768 + 1 * (y 2).val = win0_1.index t' 2 * 768 + 1 * (y 2).val; rw [(idx1 t).2.2, (idx1 t').2.2, h]

/-- The scratch after a point: the cast weights of the point's column block. -/
theorem scratch (c : Dev nD) : ∀ (n : ℕ) (hn : n < cfg0.N), (outsAt0 m c n hn).2 = k0_pay1 (iblk m c 1 ⟨n, hn⟩)
  | 0, hn => by rw [outsAt0_A m c ⟨0, hn⟩ rfl, st_A]
  | n + 1, hn => by
    by_cases h0 : (n + 1) % 8 = 0
    · rw [outsAt0_A m c ⟨n + 1, hn⟩ h0, st_A]
    · have e : (outsAt0 m c (n + 1) hn).2 = (outsAt0 m c n (Nat.lt_of_succ_lt hn)).2 := by
        rw [outsAt0_B m c ⟨n + 1, hn⟩ h0]
        dsimp only
        unfold sout0_B_0
        rfl
      rw [e, scratch c n, blk1_congr m c ⟨n, Nat.lt_of_succ_lt hn⟩ ⟨n + 1, hn⟩ (show n / 8 = (n + 1) / 8 by omega)]

/-- The output's block after a point. -/
theorem out (c : Dev nD) (t : Fin cfg0.N) : (outsAt0 m c t.val t.isLt).1 = k0_pay2 (iblk m c 0 t) (k0_pay1 (iblk m c 1 t)) := by
  by_cases h0 : t.val % 8 = 0
  · rw [outsAt0_A m c t h0, out_A]
  · rw [outsAt0_B m c t h0]
    dsimp only
    rw [out_B, scratch, blk1_congr m c ⟨t.val - 1, _⟩ t]
    show (t.val - 1) / 8 = t.val / 8
    generalize t.val = n at h0 ⊢
    omega

theorem idx2 : ∀ t : Fin grid0.N, win0_2.index t 0 = t.val % 8 ∧ win0_2.index t 1 = t.val / 8 := by decide +kernel

theorem flush2 : ∀ t : Fin grid0.N, win0_2.flush t = true := by decide +kernel

/-- No two points write one block. -/
theorem apart (t t' : Fin cfg0.N) (h : t ≠ t') : Disjoint ((cfg0.win 2).blk t).view.set ((cfg0.win 2).blk t').view.set := by
  refine (cfg0.win 2).disjoint_blk fun e => h (Fin.ext ?_)
  have e' : win0_2.index t = win0_2.index t' := e
  have e0 := congrFun e' 0
  have e1 := congrFun e' 1
  rw [(idx2 t).1, (idx2 t').1] at e0
  rw [(idx2 t).2, (idx2 t').2] at e1
  rw [← Nat.div_add_mod t.val 8, ← Nat.div_add_mod t'.val 8, e0, e1]

/-- The call's array, index by index. -/
theorem arr_at (c : Dev nD) (r : Fin 16384) (j : Fin 15360) : (dats m 0 c).arrAt 2 cfg0.N (ix2 r j)
    = Cert.InProj.at' (m ((c : Thread nD τ).loc main_arg0)) (m ((c : Thread nD τ).loc main_arg1)) r j := by
  obtain ⟨n, hn⟩ : ∃ n, n = r.val / 2048 + 8 * (j.val / 768) := ⟨_, rfl⟩
  have hlt : n < grid0.N := by show n < 160; omega
  have h8 : n % 8 = r.val / 2048 := by omega
  have hd : n / 8 = j.val / 768 := by omega
  have h := congrFun ((dats m 0 c).read_blk_arrAt_eq_flushed 2 (fun t t' _ _ => apart t t') cfg0.N ⟨n, hlt⟩ hlt (flush2 _)) (ix2 ⟨r.val % 2048, by omega⟩ ⟨j.val % 768, by omega⟩)
  rw [View.read_apply] at h
  refine Eq.trans ?_ (h.trans ?_)
  · show (dats m 0 c).arrAt 2 cfg0.N _ = (dats m 0 c).arrAt 2 cfg0.N _
    congr 1; funext a; apply Fin.ext
    match a with
    | ⟨0, _⟩ => show r.val = win0_2.index ⟨n, hlt⟩ 0 * 2048 + 1 * (r.val % 2048); rw [(idx2 _).1]; show _ = n % 8 * 2048 + _; rw [h8, one_mul]; exact (Nat.div_add_mod' _ _).symm
    | ⟨1, _⟩ => show j.val = win0_2.index ⟨n, hlt⟩ 1 * 768 + 1 * (j.val % 768); rw [(idx2 _).2]; show _ = n / 8 * 768 + _; rw [hd, one_mul]; exact (Nat.div_add_mod' _ _).symm
  · show (cfg0.win 2).cut (grid0.coords ⟨n, hlt⟩) ((dats m 0 c).after 2 ⟨n, hlt⟩) _ = _
    rw [after0_2, out m c ⟨n, hlt⟩]
    refine (pay_at _ _ ⟨r.val % 2048, by omega⟩ ⟨j.val % 768, by omega⟩).trans ?_
    unfold Cert.InProj.at'
    refine Finset.sum_congr rfl fun k _ => ?_
    rw [blk0 m c ⟨n, hlt⟩ _ _ r (by show n % 8 * 2048 + r.val % 2048 = r.val; rw [h8]; exact Nat.div_add_mod' _ _),
      blk1 m c ⟨n, hlt⟩ _ _ ⟨Cert.InProj.col j.val, Cert.InProj.col_lt j⟩ (by show Cert.InProj.col (n / 8 * 768) + j.val % 768 = _; rw [hd]; exact Cert.InProj.col_block _)]

variable (ρ : Dev nD → PrngReg)

/-- A run's array and its arguments. -/
theorem run_arr : θ_run defs (onTc (τ := τ) (main (F := Ideal))) ⟨m, fun _ => 0, ρ⟩ fun r => ∀ c : Dev nD,
    r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

end Cert.Kernel2Ideal.Arr

namespace Cert.InProj

open Cert.Reference2Ideal Cert.Reference2Ideal.Gen

/-- The reference's whole product at a row and a column. -/
theorem dot_at (h : FVec Ideal S16384x2048 .bf16) (w : FVec Ideal S2x2048x19968 .f32) (r : Fin 16384) (j : Fin 19968) :
    Host.dotGeneral dot_S16384x2048_S2048x19968_S16384x19968_1_0_0_1_n_n none (extf .f32 h bitsLt_bf16_f32) (shapeCast _ (extractStridedSlice S1x2048x19968 ![0, 0, 0] w slices_S2x2048x19968_S1x2048x19968_0_0_0) shapeCasts_S1x2048x19968_S2048x19968) (ix2 r j)
      = ∑ k : Fin 2048, h (ix2 r k) * w (ix3 0 k j) := by
  pointwise

/-- Keeping the attention's columns out, the columns are those the call computes. -/
theorem ref_at (h : FVec Ideal S16384x2048 .bf16) (w : FVec Ideal S2x2048x19968 .f32) (d : FVec Ideal S16384x19968 .f32)
    (hd : ∀ r j, d (ix2 r j) = ∑ k : Fin 2048, h (ix2 r k) * w (ix3 0 k j)) (r : Fin 16384) (j : Fin 15360) :
    (truncf .bf16 (concatenate S16384x15360 1 [⟨S16384x3072, (extractStridedSlice S16384x3072 ![0, 0] d slices_S16384x19968_S16384x3072_0_0)⟩, ⟨S16384x12288, (extractStridedSlice S16384x12288 ![0, 7680] d slices_S16384x19968_S16384x12288_0_7680)⟩] concatenates_S16384x3072_S16384x12288_S16384x15360_d1) bitsLt_bf16_f32 : FVec Ideal S16384x15360 .bf16) (ix2 r j)
      = at' h w r j := by
  pointwise
  by_cases hj : j.val < 3072
  · rw [dif_pos hj, hd]
    exact Finset.sum_congr rfl fun k _ => congrArg (fun q => h (ix2 r k) * w (ix3 0 k q)) (Fin.ext (if_pos hj).symm)
  · rw [dif_neg hj, hd]
    refine Finset.sum_congr rfl fun k _ => congrArg (fun q => h (ix2 r k) * w (ix3 0 k q)) (Fin.ext (Eq.trans ?_ (if_neg hj).symm))
    show 7680 + (j.val - 3072) = j.val + 4608
    omega

end Cert.InProj

end

end
-- ==== Proof.InProjAtt.lean ====
/-
  The input projection's columns for the attention: what the call's array holds, index by index, and what the reference
  computes; the two are one sum over the hidden columns.
-/
module

public import proofs.«01_k».proof.Proof.Gen.Kernel3Ideal.Frame
public import Idealize.ShloMosaic.Lib.Pipeline.Value
public import proofs.«01_k».proof.Proof.Gen.Reference3Ideal.Run
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.InProjAtt

/-- The column of the layer's projection that column `j` of the call's array is. -/
def col (j : ℕ) : ℕ := 3072 + j

theorem col_lt (j : Fin 4608) : col j.val < 19968 := by have := j.isLt; unfold col; omega

theorem col_block (j : ℕ) : col (j / 768 * 768) + j % 768 = col j := by unfold col; omega

/-- The projection at a row and a column. -/
def at' (h : FVec Ideal ⟨2, ![16384, 2048]⟩ .bf16) (w : FVec Ideal ⟨3, ![2, 2048, 19968]⟩ .f32) (r : Fin 16384) (j : Fin 4608) : EReal :=
  ∑ k : Fin 2048, h (ix2 r k) * w (ix3 0 k ⟨col j.val, col_lt j⟩)

end Cert.InProjAtt

namespace Cert.Kernel3Ideal.Arr

open Cert.Kernel3Ideal Cert.Kernel3Ideal.Gen

variable (m : (ℓ : Loc nD τ sig) → Buf (Elt Ideal) ℓ)

/-- One block's result at an index, of the rows and the weights it was given. -/
theorem pay_at (x0 : Vec Ideal S2048x2048 .bf16) (x1 : Vec Ideal S1x2048x768 .f32) (i : Fin 2048) (j : Fin 768) :
    k0_pay2 x0 (k0_pay1 x1) (ix2 i j) = ∑ k : Fin 2048, x0 (ix2 i k) * x1 (ix3 0 k j) := by
  unfold k0_pay2 k0_pay1
  pointwise

theorem z2 : (![0, 0] : Fin 2 → Nat) = fun _ => 0 := by decide

theorem z3 : (![0, 0, 0] : Fin 3 → Nat) = fun _ => 0 := by decide

/-- The first point of a column block casts the weights into the scratch and multiplies by them. -/
theorem out_A (c : Dev nD) (t : Fin cfg0.N) (hc : cond0_0 (grid0.coords t)) (x0 : Vec Ideal S2048x2048 .bf16) (x1 : Vec Ideal S1x2048x768 .f32) :
    out0_A_2 c (grid0.coords t) (ms0_0 t) (hs0_0 t) (ms0_1 t) (hs0_1 t) (ms0_2 t) (hs0_2 t) scM0_0 (Memref.isWhole_whole _) hc x0 x1
      = k0_pay2 x0 (k0_pay1 x1) := by
  unfold out0_A_2
  rw [View.read_writes_junk_eq_canon]
  unfold kernelRun0_A
  dsimp only
  sl_unfold_words
  rw [View.canon_unit_zero z2, View.readCov_unit_zero _ z2]
  simp only [View.readAt_eq_ld, (hs0_0 t).read_unread, (hs0_1 t).read_unread]
  rw [View.ld_unit_zero z2, View.ld_unit_zero z3]

theorem st_A (c : Dev nD) (t : Fin cfg0.N) (hc : cond0_0 (grid0.coords t)) (x0 : Vec Ideal S2048x2048 .bf16) (x1 : Vec Ideal S1x2048x768 .f32) :
    sout0_A_0 c (grid0.coords t) (ms0_0 t) (hs0_0 t) (ms0_1 t) (hs0_1 t) (ms0_2 t) (hs0_2 t) scM0_0 (Memref.isWhole_whole _) hc x0 x1 = k0_pay1 x1 := by
  unfold sout0_A_0
  rw [View.read_writes_junk_eq_canon]
  unfold kernelRun0_A
  dsimp only
  sl_unfold_words
  rw [View.canon_unit_zero z2]
  simp only [View.readAt_eq_ld, (hs0_1 t).read_unread]
  rw [View.ld_unit_zero z3]

/-- A later point multiplies by the weights the scratch holds. -/
theorem out_B (c : Dev nD) (t : Fin cfg0.N) (hc : ¬cond0_0 (grid0.coords t)) (x0 : Vec Ideal S2048x2048 .bf16) (x1 : Vec Ideal S1x2048x768 .f32)
    (xs : Vec Ideal S2048x768 .bf16) :
    out0_B_2 c (grid0.coords t) (ms0_0 t) (hs0_0 t) (ms0_1 t) (hs0_1 t) (ms0_2 t) (hs0_2 t) scM0_0 (Memref.isWhole_whole _) hc x0 x1 xs
      = k0_pay2 x0 xs := by
  unfold out0_B_2
  rw [View.read_writes_junk_eq_canon]
  unfold kernelRun0_B
  dsimp only
  sl_unfold_words
  rw [View.canon_unit_zero z2]
  simp only [View.readAt_eq_ld, (hs0_0 t).read_unread, (Memref.isWhole_whole cc0_scratch0).read_unread]
  rw [View.ld_unit_zero z2, View.ld_unit_zero z2]

theorem idx0 : ∀ t : Fin grid0.N, win0_0.index t 0 = t.val % 8 ∧ win0_0.index t 1 = 0 := by decide +kernel
theorem idx1 : ∀ t : Fin grid0.N, win0_1.index t 0 = 0 ∧ win0_1.index t 1 = 0 ∧ win0_1.index t 2 * 768 = Cert.InProjAtt.col (t.val / 8 * 768) := by decide +kernel

theorem blk0 (c : Dev nD) (t : Fin grid0.N) (i k : Fin 2048) (r : Fin 16384) (hr : t.val % 8 * 2048 + i.val = r.val) :
    iblk m c 0 t (ix2 i k) = m ((c : Thread nD τ).loc main_arg0) (ix2 r k) := by
  unfold iblk; rw [View.read_apply]
  show V m c main_arg0 _ = _
  rw [V_main_arg0]
  congr 1; funext a; apply Fin.ext
  match a with
  | ⟨0, _⟩ => show win0_0.index t 0 * 2048 + 1 * i.val = r.val; rw [(idx0 t).1, one_mul]; exact hr
  | ⟨1, _⟩ => show win0_0.index t 1 * 2048 + 1 * k.val = k.val; rw [(idx0 t).2, zero_mul, one_mul, zero_add]

theorem blk1 (c : Dev nD) (t : Fin grid0.N) (k : Fin 2048) (j : Fin 768) (q : Fin 19968) (hq : Cert.InProjAtt.col (t.val / 8 * 768) + j.val = q.val) :
    iblk m c 1 t (ix3 0 k j) = m ((c : Thread nD τ).loc main_arg1) (ix3 0 k q) := by
  unfold iblk; rw [View.read_apply]
  show V m c main_arg1 _ = _
  rw [V_main_arg1]
  congr 1; funext a; apply Fin.ext
  match a with
  | ⟨0, _⟩ => show win0_1.index t 0 * 1 + 1 * 0 = 0; rw [(idx1 t).1]
  | ⟨1, _⟩ => show win0_1.index t 1 * 2048 + 1 * k.val = k.val; rw [(idx1 t).2.1, zero_mul, one_mul, zero_add]
  | ⟨2, _⟩ => show win0_1.index t 2 * 768 + 1 * j.val = q.val; rw [(idx1 t).2.2, one_mul]; exact hq

/-- Two points of one column block read the same weights. -/
theorem blk1_congr (c : Dev nD) (t t' : Fin grid0.N) (h : t.val / 8 = t'.val / 8) : iblk m c 1 t = iblk m c 1 t' := by
  unfold iblk
  funext y
  rw [View.read_apply, View.read_apply]
  show V m c main_arg1 _ = V m c main_arg1 _
  congr 1; funext a; apply Fin.ext
  match a with
  | ⟨0, _⟩ => show win0_1.index t 0 * 1 + 1 * (y 0).val = win0_1.index t' 0 * 1 + 1 * (y 0).val; rw [(idx1 t).1, (idx1 t').1]
  | ⟨1, _⟩ => show win0_1.index t 1 * 2048 + 1 * (y 1).val = win0_1.index t' 1 * 2048 + 1 * (y 1).val; rw [(idx1 t).2.1, (idx1 t').2.1]
  | ⟨2, _⟩ => show win0_1.index t 2 * 768 + 1 * (y 2).val = win0_1.index t' 2 * 768 + 1 * (y 2).val; rw [(idx1 t).2.2, (idx1 t').2.2, h]

/-- The scratch after a point: the cast weights of the point's column block. -/
theorem scratch (c : Dev nD) : ∀ (n : ℕ) (hn : n < cfg0.N), (outsAt0 m c n hn).2 = k0_pay1 (iblk m c 1 ⟨n, hn⟩)
  | 0, hn => by rw [outsAt0_A m c ⟨0, hn⟩ rfl, st_A]
  | n + 1, hn => by
    by_cases h0 : (n + 1) % 8 = 0
    · rw [outsAt0_A m c ⟨n + 1, hn⟩ h0, st_A]
    · have e : (outsAt0 m c (n + 1) hn).2 = (outsAt0 m c n (Nat.lt_of_succ_lt hn)).2 := by
        rw [outsAt0_B m c ⟨n + 1, hn⟩ h0]
        dsimp only
        unfold sout0_B_0
        rfl
      rw [e, scratch c n, blk1_congr m c ⟨n, Nat.lt_of_succ_lt hn⟩ ⟨n + 1, hn⟩ (show n / 8 = (n + 1) / 8 by omega)]

/-- The output's block after a point. -/
theorem out (c : Dev nD) (t : Fin cfg0.N) : (outsAt0 m c t.val t.isLt).1 = k0_pay2 (iblk m c 0 t) (k0_pay1 (iblk m c 1 t)) := by
  by_cases h0 : t.val % 8 = 0
  · rw [outsAt0_A m c t h0, out_A]
  · rw [outsAt0_B m c t h0]
    dsimp only
    rw [out_B, scratch, blk1_congr m c ⟨t.val - 1, _⟩ t]
    show (t.val - 1) / 8 = t.val / 8
    generalize t.val = n at h0 ⊢
    omega

theorem idx2 : ∀ t : Fin grid0.N, win0_2.index t 0 = t.val % 8 ∧ win0_2.index t 1 = t.val / 8 := by decide +kernel

theorem flush2 : ∀ t : Fin grid0.N, win0_2.flush t = true := by decide +kernel

/-- No two points write one block. -/
theorem apart (t t' : Fin cfg0.N) (h : t ≠ t') : Disjoint ((cfg0.win 2).blk t).view.set ((cfg0.win 2).blk t').view.set := by
  refine (cfg0.win 2).disjoint_blk fun e => h (Fin.ext ?_)
  have e' : win0_2.index t = win0_2.index t' := e
  have e0 := congrFun e' 0
  have e1 := congrFun e' 1
  rw [(idx2 t).1, (idx2 t').1] at e0
  rw [(idx2 t).2, (idx2 t').2] at e1
  rw [← Nat.div_add_mod t.val 8, ← Nat.div_add_mod t'.val 8, e0, e1]

/-- The call's array, index by index. -/
theorem arr_at (c : Dev nD) (r : Fin 16384) (j : Fin 4608) : (dats m 0 c).arrAt 2 cfg0.N (ix2 r j)
    = Cert.InProjAtt.at' (m ((c : Thread nD τ).loc main_arg0)) (m ((c : Thread nD τ).loc main_arg1)) r j := by
  obtain ⟨n, hn⟩ : ∃ n, n = r.val / 2048 + 8 * (j.val / 768) := ⟨_, rfl⟩
  have hlt : n < grid0.N := by show n < 48; omega
  have h8 : n % 8 = r.val / 2048 := by omega
  have hd : n / 8 = j.val / 768 := by omega
  have h := congrFun ((dats m 0 c).read_blk_arrAt_eq_flushed 2 (fun t t' _ _ => apart t t') cfg0.N ⟨n, hlt⟩ hlt (flush2 _)) (ix2 ⟨r.val % 2048, by omega⟩ ⟨j.val % 768, by omega⟩)
  rw [View.read_apply] at h
  refine Eq.trans ?_ (h.trans ?_)
  · show (dats m 0 c).arrAt 2 cfg0.N _ = (dats m 0 c).arrAt 2 cfg0.N _
    congr 1; funext a; apply Fin.ext
    match a with
    | ⟨0, _⟩ => show r.val = win0_2.index ⟨n, hlt⟩ 0 * 2048 + 1 * (r.val % 2048); rw [(idx2 _).1]; show _ = n % 8 * 2048 + _; rw [h8, one_mul]; exact (Nat.div_add_mod' _ _).symm
    | ⟨1, _⟩ => show j.val = win0_2.index ⟨n, hlt⟩ 1 * 768 + 1 * (j.val % 768); rw [(idx2 _).2]; show _ = n / 8 * 768 + _; rw [hd, one_mul]; exact (Nat.div_add_mod' _ _).symm
  · show (cfg0.win 2).cut (grid0.coords ⟨n, hlt⟩) ((dats m 0 c).after 2 ⟨n, hlt⟩) _ = _
    rw [after0_2, out m c ⟨n, hlt⟩]
    refine (pay_at _ _ ⟨r.val % 2048, by omega⟩ ⟨j.val % 768, by omega⟩).trans ?_
    unfold Cert.InProjAtt.at'
    refine Finset.sum_congr rfl fun k _ => ?_
    rw [blk0 m c ⟨n, hlt⟩ _ _ r (by show n % 8 * 2048 + r.val % 2048 = r.val; rw [h8]; exact Nat.div_add_mod' _ _),
      blk1 m c ⟨n, hlt⟩ _ _ ⟨Cert.InProjAtt.col j.val, Cert.InProjAtt.col_lt j⟩ (by show Cert.InProjAtt.col (n / 8 * 768) + j.val % 768 = _; rw [hd]; exact Cert.InProjAtt.col_block _)]

variable (ρ : Dev nD → PrngReg)

/-- A run's array and its arguments. -/
theorem run_arr : θ_run defs (onTc (τ := τ) (main (F := Ideal))) ⟨m, fun _ => 0, ρ⟩ fun r => ∀ c : Dev nD,
    r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

end Cert.Kernel3Ideal.Arr

namespace Cert.InProjAtt

open Cert.Reference3Ideal Cert.Reference3Ideal.Gen

/-- The reference's whole product at a row and a column. -/
theorem dot_at (h : FVec Ideal S16384x2048 .bf16) (w : FVec Ideal S2x2048x19968 .f32) (r : Fin 16384) (j : Fin 19968) :
    Host.dotGeneral dot_S16384x2048_S2048x19968_S16384x19968_1_0_0_1_n_n none (extf .f32 h bitsLt_bf16_f32) (shapeCast _ (extractStridedSlice S1x2048x19968 ![0, 0, 0] w slices_S2x2048x19968_S1x2048x19968_0_0_0) shapeCasts_S1x2048x19968_S2048x19968) (ix2 r j)
      = ∑ k : Fin 2048, h (ix2 r k) * w (ix3 0 k j) := by
  pointwise

/-- The attention's columns of it are those the call computes. -/
theorem ref_at (h : FVec Ideal S16384x2048 .bf16) (w : FVec Ideal S2x2048x19968 .f32) (d : FVec Ideal S16384x19968 .f32)
    (hd : ∀ r j, d (ix2 r j) = ∑ k : Fin 2048, h (ix2 r k) * w (ix3 0 k j)) (r : Fin 16384) (j : Fin 4608) :
    (extractStridedSlice S16384x4608 ![0, 3072] d slices_S16384x19968_S16384x4608_0_3072 : FVec Ideal S16384x4608 .f32) (ix2 r j) = at' h w r j := by
  pointwise
  exact hd r _

end Cert.InProjAtt

end

end
-- ==== Proof.Swiglu.lean ====
/-
  A gated hidden layer added up block by block of its hidden columns: the sum over the first blocks, and its last step.
-/
module

public import Idealize.ShloMosaic.Lib.Pointwise

@[expose] public section

set_option maxRecDepth 16384

noncomputable section

open Idealize.ShloMosaic Idealize.ShloMosaic.TcCoe Idealize.SL.Sem

namespace Cert.Swiglu

/-- A hidden column's value of its two products: the gate times its logistic, times the other. -/
def swi (a b : EReal) : EReal := a * Ideal.logistic a * b

/-- A function on the first `H` numbers, zero past them. -/
def ext {H : ℕ} (f : Fin H → EReal) (k : ℕ) : EReal := if h : k < H then f ⟨k, h⟩ else 0

/-- The sum over the first `n` hidden columns. -/
def upTo {H : ℕ} (f : Fin H → EReal) (n : ℕ) : EReal := ∑ k ∈ Finset.range n, ext f k

theorem upTo_zero {H : ℕ} (f : Fin H → EReal) : upTo f 0 = 0 := Finset.sum_range_zero _

theorem upTo_all {H : ℕ} (f : Fin H → EReal) : upTo f H = ∑ k : Fin H, f k := by
  unfold upTo
  rw [Finset.sum_range]
  exact Finset.sum_congr rfl fun k _ => by unfold ext; rw [dif_pos k.isLt]

/-- One block more. -/
theorem upTo_block {H : ℕ} (f : Fin H → EReal) (n b : ℕ) (g : Fin b → EReal) (hb : n + b ≤ H)
    (hg : ∀ k : Fin b, g k = f ⟨n + k.val, by omega⟩) : upTo f n + ∑ k : Fin b, g k = upTo f (n + b) := by
  unfold upTo
  rw [Finset.sum_range_add]
  refine congrArg _ ?_
  rw [Finset.sum_range]
  exact Finset.sum_congr rfl fun k _ => by unfold ext; rw [dif_pos (by omega)]; exact hg k

end Cert.Swiglu

end

end
-- ==== Proof.DenseFfn.lean ====
/-
  The dense feed-forward layer: what the call's array holds, index by index, and what the reference computes; the two are
  one sum over the hidden columns, which the call adds up in eleven blocks.
-/
module

public import proofs.«01_k».proof.Proof.Gen.Kernel4Ideal.Frame
public import Idealize.ShloMosaic.Lib.Pipeline.Value
public import proofs.«01_k».proof.Proof.Gen.Reference4Ideal.Run
public import Idealize.ShloMosaic.Lib.Pipeline.ReadBack
public import Idealize.ShloMosaic.Lib.StableHlo.Run
public import proofs.«01_k».proof.Proof.Swiglu

@[expose] public section

set_option maxRecDepth 16384

noncomputable section

open Idealize.ShloMosaic Idealize.ShloMosaic.TcCoe Idealize.SL.Sem

namespace Cert.DenseFfn

open Cert.Swiglu

/-- A row normalised and modulated, at a column, of the row's values, the scale of the norm and the modulation's two rows. -/
def nm (x g sc sh : Fin 2048 → EReal) (d : Fin 2048) : EReal :=
  x d * Ideal.rsqrt (Ideal.div (∑ e : Fin 2048, x e * x e) (Ideal.ofBits .f32 0x45000000#32) + Ideal.ofBits .f32 0x358637BD#32) * g d * (1 + sc d) + sh d

/-- A hidden column's part of the layer at a row and a column. -/
def part (x : FVec Ideal ⟨3, ![4, 4096, 2048]⟩ .f32) (g : FVec Ideal ⟨1, ![2048]⟩ .f32) (md : FVec Ideal ⟨3, ![2, 4, 12288]⟩ .f32)
    (wg wu : FVec Ideal ⟨2, ![2048, 5632]⟩ .f32) (wd : FVec Ideal ⟨2, ![5632, 2048]⟩ .f32) (b : Fin 4) (s : Fin 4096) (j : Fin 2048)
    (k : Fin 5632) : EReal :=
  let h : Fin 2048 → EReal := nm (fun d => x (ix3 b s d)) (fun d => g (ix1 d)) (fun d => md (ix3 0 b ⟨8192 + d.val, by omega⟩))
    (fun d => md (ix3 0 b ⟨6144 + d.val, by omega⟩))
  swi (∑ d : Fin 2048, h d * wg (ix2 d k)) (∑ d : Fin 2048, h d * wu (ix2 d k)) * wd (ix2 k j)

/-- The layer at a row and a column: the residual and the gated sum over the hidden columns. -/
def at' (x : FVec Ideal ⟨3, ![4, 4096, 2048]⟩ .f32) (g : FVec Ideal ⟨1, ![2048]⟩ .f32) (md : FVec Ideal ⟨3, ![2, 4, 12288]⟩ .f32)
    (wg wu : FVec Ideal ⟨2, ![2048, 5632]⟩ .f32) (wd : FVec Ideal ⟨2, ![5632, 2048]⟩ .f32) (b : Fin 4) (s : Fin 4096) (j : Fin 2048) : EReal :=
  x (ix3 b s j) + md (ix3 0 b ⟨10240 + j.val, by omega⟩) * ∑ k : Fin 5632, part x g md wg wu wd b s j k

end Cert.DenseFfn

namespace Cert.Kernel4Ideal.Arr

open Cert.Kernel4Ideal Cert.Kernel4Ideal.Gen Cert.Swiglu Cert.DenseFfn

variable (m : (ℓ : Loc nD τ sig) → Buf (Elt Ideal) ℓ)

/-- The normalised block at an index. -/
theorem norm_at (x0 : Vec Ideal S512x2048 .f32) (x1 : Vec Ideal S1x2048 .f32) (x2 x3 : Vec Ideal S1x1x2048 .f32) (i : Fin 512) (d : Fin 2048) :
    k0_pay1 x0 x1 x2 x3 (ix2 i d) = nm (fun d => x0 (ix2 i d)) (fun d => x1 (ix2 0 d)) (fun d => x2 (ix3 0 0 d)) (fun d => x3 (ix3 0 0 d)) d := by
  unfold k0_pay1
  pointwise
  rfl

/-- The block after one more block of hidden columns. -/
theorem step_at (o : Vec Ideal S512x2048 .f32) (h : Vec Ideal S512x2048 .bf16) (wg wu : Vec Ideal S2048x512 .bf16) (wd : Vec Ideal S512x2048 .bf16)
    (i : Fin 512) (j : Fin 2048) : k0_pay3 o h wg wu wd (ix2 i j)
      = o (ix2 i j) + ∑ k : Fin 512, swi (∑ d : Fin 2048, h (ix2 i d) * wg (ix2 d k)) (∑ d : Fin 2048, h (ix2 i d) * wu (ix2 d k)) * wd (ix2 k j) := by
  unfold k0_pay3
  pointwise
  rfl

/-- The block's end: the residual and the gate. -/
theorem last_at (x : Vec Ideal S512x2048 .f32) (gt : Vec Ideal S1x1x2048 .f32) (o : Vec Ideal S512x2048 .f32) (i : Fin 512) (j : Fin 2048) :
    k0_pay4 x gt o (ix2 i j) = x (ix2 i j) + gt (ix3 0 0 j) * o (ix2 i j) := by
  unfold k0_pay4
  pointwise

theorem zero_at (i : Fin 512) (j : Fin 2048) : k0_pay2 (F := Ideal) (ix2 i j) = 0 := by
  unfold k0_pay2
  pointwise

theorem z2 : (![0, 0] : Fin 2 → Nat) = fun _ => 0 := by decide

theorem z3 : (![0, 0, 0] : Fin 3 → Nat) = fun _ => 0 := by decide

/-- A row block's first point zeroes the output, keeps the normalised rows and adds the first hidden block. -/
theorem out_A (c : Dev nD) (t : Fin cfg0.N) (hc : cond0_0 (grid0.coords t)) (hc' : ¬cond0_1 (grid0.coords t)) (x0 : Vec Ideal S512x2048 .f32) (x1 : Vec Ideal S1x2048 .f32) (x2 x3 x4 : Vec Ideal S1x1x2048 .f32) (x5 x6 : Vec Ideal S2048x512 .bf16) (x7 : Vec Ideal S512x2048 .bf16) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc hc' x0 x1 x2 x3 x4 x5 x6 x7 = k0_pay3 k0_pay2 (k0_pay1 x0 x1 x2 x3) x5 x6 x7 := by
  unfold out0_A_8
  rw [View.read_writes_junk_eq_canon]
  unfold kernelRun0_A
  dsimp only
  sl_unfold_words
  rw [View.canon_cons_unit_zero z2, View.readCov_unit_zero _ z2, View.readCov_unit_zero _ z2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [View.ld_unit_zero (S := S512x2048) z2, View.ld_unit_zero (S := S2048x512) z2, View.ld_unit_zero (S := S1x2048) z2, View.ld_unit_zero (S := S1x1x2048) z3]

theorem st_A (c : Dev nD) (t : Fin cfg0.N) (hc : cond0_0 (grid0.coords t)) (hc' : ¬cond0_1 (grid0.coords t)) (x0 : Vec Ideal S512x2048 .f32) (x1 : Vec Ideal S1x2048 .f32) (x2 x3 x4 : Vec Ideal S1x1x2048 .f32) (x5 x6 : Vec Ideal S2048x512 .bf16) (x7 : Vec Ideal S512x2048 .bf16) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc hc' x0 x1 x2 x3 x4 x5 x6 x7 = k0_pay1 x0 x1 x2 x3 := by
  unfold sout0_A_0
  rw [View.read_writes_junk_eq_canon]
  unfold kernelRun0_A
  dsimp only
  sl_unfold_words
  rw [View.canon_unit_zero z2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [View.ld_unit_zero (S := S512x2048) z2, View.ld_unit_zero (S := S2048x512) z2, View.ld_unit_zero (S := S1x2048) z2, View.ld_unit_zero (S := S1x1x2048) z3]

/-- A middle point adds its hidden block. -/
theorem out_B (c : Dev nD) (t : Fin cfg0.N) (hc : ¬cond0_0 (grid0.coords t)) (hc' : ¬cond0_1 (grid0.coords t)) (x0 : Vec Ideal S512x2048 .f32) (x1 : Vec Ideal S1x2048 .f32) (x2 x3 x4 : Vec Ideal S1x1x2048 .f32) (x5 x6 : Vec Ideal S2048x512 .bf16) (x7 : Vec Ideal S512x2048 .bf16)
    (o : Vec Ideal S512x2048 .f32) (h : Vec Ideal S512x2048 .bf16) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc hc' x0 x1 x2 x3 x4 x5 x6 x7 o h = k0_pay3 o h x5 x6 x7 := by
  unfold out0_B_8
  rw [View.read_writes_junk_eq_canon]
  unfold kernelRun0_B
  dsimp only
  sl_unfold_words
  rw [View.canon_unit_zero z2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole cc0_scratch0).read_unread]
  simp only [View.ld_unit_zero (S := S512x2048) z2, View.ld_unit_zero (S := S2048x512) z2, View.ld_unit_zero (S := S1x2048) z2, View.ld_unit_zero (S := S1x1x2048) z3]

/-- The last point adds its hidden block, then gates the sum and adds the residual. -/
theorem out_C (c : Dev nD) (t : Fin cfg0.N) (hc : ¬cond0_0 (grid0.coords t)) (hc' : cond0_1 (grid0.coords t)) (x0 : Vec Ideal S512x2048 .f32) (x1 : Vec Ideal S1x2048 .f32) (x2 x3 x4 : Vec Ideal S1x1x2048 .f32) (x5 x6 : Vec Ideal S2048x512 .bf16) (x7 : Vec Ideal S512x2048 .bf16)
    (o : Vec Ideal S512x2048 .f32) (h : Vec Ideal S512x2048 .bf16) :
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc hc' x0 x1 x2 x3 x4 x5 x6 x7 o h = k0_pay4 x0 x4 (k0_pay3 o h x5 x6 x7) := by
  unfold out0_C_8
  rw [View.read_writes_junk_eq_canon]
  unfold kernelRun0_C
  dsimp only
  sl_unfold_words
  rw [View.canon_cons_unit_zero z2, View.readCov_unit_zero _ z2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole cc0_scratch0).read_unread]
  simp only [View.ld_unit_zero (S := S512x2048) z2, View.ld_unit_zero (S := S2048x512) z2, View.ld_unit_zero (S := S1x2048) z2, View.ld_unit_zero (S := S1x1x2048) z3]

theorem idx0 : ∀ t : Fin grid0.N, win0_0.index t 0 = t.val / 11 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val / 88 * 6 + 4 ∧ win0_2.index t 1 = 0 ∧ win0_2.index t 2 = 0 := by decide +kernel
theorem idx3 : ∀ t : Fin grid0.N, win0_3.index t 0 = t.val / 88 * 6 + 3 ∧ win0_3.index t 1 = 0 ∧ win0_3.index t 2 = 0 := by decide +kernel
theorem idx4 : ∀ t : Fin grid0.N, win0_4.index t 0 = t.val / 88 * 6 + 5 ∧ win0_4.index t 1 = 0 ∧ win0_4.index t 2 = 0 := by decide +kernel
theorem idx5 : ∀ t : Fin grid0.N, win0_5.index t 0 = 0 ∧ win0_5.index t 1 = t.val % 11 := by decide +kernel
theorem idx6 : ∀ t : Fin grid0.N, win0_6.index t 0 = 0 ∧ win0_6.index t 1 = t.val % 11 := by decide +kernel
theorem idx7 : ∀ t : Fin grid0.N, win0_7.index t 0 = t.val % 11 ∧ win0_7.index t 1 = 0 := by decide +kernel
theorem idx8 : ∀ t : Fin grid0.N, win0_8.index t 0 = t.val / 11 ∧ win0_8.index t 1 = 0 := by decide +kernel

/-- The residual as the call takes it. -/
theorem V_x (c : Dev nD) (b : Fin 4) (s : Fin 4096) (j : Fin 2048) : V m c main_v0 (ix2 ⟨b.val * 4096 + s.val, by omega⟩ j)
    = m ((c : Thread nD τ).loc main_arg0) (ix3 b s j) := by
  unfold V
  simp only [hostOps0, List.flatten_cons, List.flatten_nil, List.append_nil, List.cons_append, List.nil_append]
  after_results
  show shapeCast _ _ _ _ = _
  pointwise

/-- The norm's scale as the call takes it. -/
theorem V_g (c : Dev nD) (j : Fin 2048) : V m c main_v5 (ix2 0 j) = m ((c : Thread nD τ).loc main_arg1) (ix1 j) := by
  unfold V
  simp only [hostOps0, List.flatten_cons, List.flatten_nil, List.append_nil, List.cons_append, List.nil_append]
  after_results
  show shapeCast _ _ _ _ = _
  pointwise

/-- The modulation as the call takes it: the row of sequence `b` and part `p` of the first layer. -/
theorem V_mod (c : Dev nD) (b : Fin 4) (p : Fin 6) (j : Fin 2048) : V m c main_v1 (ix3 ⟨b.val * 6 + p.val, by omega⟩ 0 j)
    = m ((c : Thread nD τ).loc main_arg2) (ix3 0 b ⟨p.val * 2048 + j.val, by omega⟩) := by
  unfold V
  simp only [hostOps0, List.flatten_cons, List.flatten_nil, List.append_nil, List.cons_append, List.nil_append]
  after_results
  show shapeCast _ _ _ _ = _
  pointwise
  have hb := b.isLt
  have hp := p.isLt
  refine congrArg (m ((c : Thread nD τ).loc main_arg2)) (funext fun a => Fin.ext ?_)
  match a with
  | ⟨0, _⟩ => show (b.val * 6 + p.val) / 24 = 0; omega
  | ⟨1, _⟩ => rfl
  | ⟨2, _⟩ => show (b.val * 6 + p.val) % 6 * 2048 + j.val = p.val * 2048 + j.val; omega

theorem V_wg (c : Dev nD) (k : Fin 2048) (j : Fin 5632) : V m c main_v2 (ix2 k j) = m ((c : Thread nD τ).loc main_arg3) (ix2 k j) := by
  unfold V
  simp only [hostOps0, List.flatten_cons, List.flatten_nil, List.append_nil, List.cons_append, List.nil_append]
  after_results
  rfl

theorem V_wu (c : Dev nD) (k : Fin 2048) (j : Fin 5632) : V m c main_v3 (ix2 k j) = m ((c : Thread nD τ).loc main_arg4) (ix2 k j) := by
  unfold V
  simp only [hostOps0, List.flatten_cons, List.flatten_nil, List.append_nil, List.cons_append, List.nil_append]
  after_results
  rfl

theorem V_wd (c : Dev nD) (k : Fin 5632) (j : Fin 2048) : V m c main_v4 (ix2 k j) = m ((c : Thread nD τ).loc main_arg5) (ix2 k j) := by
  unfold V
  simp only [hostOps0, List.flatten_cons, List.flatten_nil, List.append_nil, List.cons_append, List.nil_append]
  after_results
  rfl

theorem blk0 (c : Dev nD) (t : Fin grid0.N) (i : Fin 512) (d : Fin 2048) (b : Fin 4) (s : Fin 4096) (h : t.val / 11 * 512 + i.val = b.val * 4096 + s.val) :
    iblk m c 0 t (ix2 i d) = m ((c : Thread nD τ).loc main_arg0) (ix3 b s d) := by
  unfold iblk; rw [View.read_apply]
  refine Eq.trans ?_ (V_x m c b s d)
  show V m c main_v0 _ = _
  congr 1; funext a; apply Fin.ext
  match a with
  | ⟨0, _⟩ => show win0_0.index t 0 * 512 + 1 * i.val = b.val * 4096 + s.val; rw [(idx0 t).1, one_mul]; exact h
  | ⟨1, _⟩ => show win0_0.index t 1 * 2048 + 1 * d.val = d.val; rw [(idx0 t).2, zero_mul, one_mul, zero_add]

theorem blk1 (c : Dev nD) (t : Fin grid0.N) (d : Fin 2048) : iblk m c 1 t (ix2 0 d) = m ((c : Thread nD τ).loc main_arg1) (ix1 d) := by
  unfold iblk; rw [View.read_apply]
  refine Eq.trans ?_ (V_g m c d)
  show V m c main_v5 _ = _
  congr 1; funext a; apply Fin.ext
  match a with
  | ⟨0, _⟩ => show win0_1.index t 0 * 1 + 1 * 0 = 0; rw [(idx1 t).1]
  | ⟨1, _⟩ => show win0_1.index t 1 * 2048 + 1 * d.val = d.val; rw [(idx1 t).2, zero_mul, one_mul, zero_add]

/-- The modulation's scale of a point's sequence. -/
theorem blk2 (c : Dev nD) (t : Fin grid0.N) (d : Fin 2048) (b : Fin 4) (h : t.val / 88 = b.val) :
    iblk m c 2 t (ix3 0 0 d) = m ((c : Thread nD τ).loc main_arg2) (ix3 0 b ⟨8192 + d.val, by omega⟩) := by
  unfold iblk; rw [View.read_apply]
  refine Eq.trans ?_ (V_mod m c b 4 d)
  show V m c main_v1 _ = _
  congr 1; funext a; apply Fin.ext
  match a with
  | ⟨0, _⟩ => show win0_2.index t 0 * 1 + 1 * 0 = b.val * 6 + 4; rw [(idx2 t).1, h]; omega
  | ⟨1, _⟩ => show win0_2.index t 1 * 1 + 1 * 0 = 0; rw [(idx2 t).2.1]
  | ⟨2, _⟩ => show win0_2.index t 2 * 2048 + 1 * d.val = d.val; rw [(idx2 t).2.2, zero_mul, one_mul, zero_add]

/-- The modulation's shift of a point's sequence. -/
theorem blk3 (c : Dev nD) (t : Fin grid0.N) (d : Fin 2048) (b : Fin 4) (h : t.val / 88 = b.val) :
    iblk m c 3 t (ix3 0 0 d) = m ((c : Thread nD τ).loc main_arg2) (ix3 0 b ⟨6144 + d.val, by omega⟩) := by
  unfold iblk; rw [View.read_apply]
  refine Eq.trans ?_ (V_mod m c b 3 d)
  show V m c main_v1 _ = _
  congr 1; funext a; apply Fin.ext
  match a with
  | ⟨0, _⟩ => show win0_3.index t 0 * 1 + 1 * 0 = b.val * 6 + 3; rw [(idx3 t).1, h]; omega
  | ⟨1, _⟩ => show win0_3.index t 1 * 1 + 1 * 0 = 0; rw [(idx3 t).2.1]
  | ⟨2, _⟩ => show win0_3.index t 2 * 2048 + 1 * d.val = d.val; rw [(idx3 t).2.2, zero_mul, one_mul, zero_add]

/-- The modulation's gate of a point's sequence. -/
theorem blk4 (c : Dev nD) (t : Fin grid0.N) (d : Fin 2048) (b : Fin 4) (h : t.val / 88 = b.val) :
    iblk m c 4 t (ix3 0 0 d) = m ((c : Thread nD τ).loc main_arg2) (ix3 0 b ⟨10240 + d.val, by omega⟩) := by
  unfold iblk; rw [View.read_apply]
  refine Eq.trans ?_ (V_mod m c b 5 d)
  show V m c main_v1 _ = _
  congr 1; funext a; apply Fin.ext
  match a with
  | ⟨0, _⟩ => show win0_4.index t 0 * 1 + 1 * 0 = b.val * 6 + 5; rw [(idx4 t).1, h]; omega
  | ⟨1, _⟩ => show win0_4.index t 1 * 1 + 1 * 0 = 0; rw [(idx4 t).2.1]
  | ⟨2, _⟩ => show win0_4.index t 2 * 2048 + 1 * d.val = d.val; rw [(idx4 t).2.2, zero_mul, one_mul, zero_add]

theorem blk5 (c : Dev nD) (t : Fin grid0.N) (d : Fin 2048) (k : Fin 512) (q : Fin 5632) (hq : t.val % 11 * 512 + k.val = q.val) :
    iblk m c 5 t (ix2 d k) = m ((c : Thread nD τ).loc main_arg3) (ix2 d q) := by
  unfold iblk; rw [View.read_apply]
  refine Eq.trans ?_ (V_wg m c d q)
  show V m c main_v2 _ = _
  congr 1; funext a; apply Fin.ext
  match a with
  | ⟨0, _⟩ => show win0_5.index t 0 * 2048 + 1 * d.val = d.val; rw [(idx5 t).1, zero_mul, one_mul, zero_add]
  | ⟨1, _⟩ => show win0_5.index t 1 * 512 + 1 * k.val = q.val; rw [(idx5 t).2, one_mul]; exact hq

theorem blk6 (c : Dev nD) (t : Fin grid0.N) (d : Fin 2048) (k : Fin 512) (q : Fin 5632) (hq : t.val % 11 * 512 + k.val = q.val) :
    iblk m c 6 t (ix2 d k) = m ((c : Thread nD τ).loc main_arg4) (ix2 d q) := by
  unfold iblk; rw [View.read_apply]
  refine Eq.trans ?_ (V_wu m c d q)
  show V m c main_v3 _ = _
  congr 1; funext a; apply Fin.ext
  match a with
  | ⟨0, _⟩ => show win0_6.index t 0 * 2048 + 1 * d.val = d.val; rw [(idx6 t).1, zero_mul, one_mul, zero_add]
  | ⟨1, _⟩ => show win0_6.index t 1 * 512 + 1 * k.val = q.val; rw [(idx6 t).2, one_mul]; exact hq

theorem blk7 (c : Dev nD) (t : Fin grid0.N) (k : Fin 512) (j : Fin 2048) (q : Fin 5632) (hq : t.val % 11 * 512 + k.val = q.val) :
    iblk m c 7 t (ix2 k j) = m ((c : Thread nD τ).loc main_arg5) (ix2 q j) := by
  unfold iblk; rw [View.read_apply]
  refine Eq.trans ?_ (V_wd m c q j)
  show V m c main_v4 _ = _
  congr 1; funext a; apply Fin.ext
  match a with
  | ⟨0, _⟩ => show win0_7.index t 0 * 512 + 1 * k.val = q.val; rw [(idx7 t).1, one_mul]; exact hq
  | ⟨1, _⟩ => show win0_7.index t 1 * 2048 + 1 * j.val = j.val; rw [(idx7 t).2, zero_mul, one_mul, zero_add]

/-- The layer's parts, of the arguments. -/
def partM (c : Dev nD) : Fin 4 → Fin 4096 → Fin 2048 → Fin 5632 → EReal :=
  part (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The normalised row of a sequence's position, of the arguments. -/
def rowM (c : Dev nD) (b : Fin 4) (s : Fin 4096) : Fin 2048 → EReal :=
  nm (fun d => m ((c : Thread nD τ).loc main_arg0) (ix3 b s d)) (fun d => m ((c : Thread nD τ).loc main_arg1) (ix1 d))
    (fun d => m ((c : Thread nD τ).loc main_arg2) (ix3 0 b ⟨8192 + d.val, by omega⟩)) (fun d => m ((c : Thread nD τ).loc main_arg2) (ix3 0 b ⟨6144 + d.val, by omega⟩))

/-- The normalised block of a point, of the arguments. -/
theorem norm_blk (c : Dev nD) (t : Fin grid0.N) (i : Fin 512) (b : Fin 4) (s : Fin 4096) (h : t.val / 11 * 512 + i.val = b.val * 4096 + s.val)
    (hb : t.val / 88 = b.val) (d : Fin 2048) : k0_pay1 (iblk m c 0 t) (iblk m c 1 t) (iblk m c 2 t) (iblk m c 3 t) (ix2 i d) = rowM m c b s d := by
  refine (norm_at _ _ _ _ i d).trans ?_
  simp only [blk0 m c t i _ b s h, blk1 m c t, blk2 m c t _ b hb, blk3 m c t _ b hb]
  rfl

/-- What one point adds, of the arguments. -/
theorem step_blk (c : Dev nD) (t : Fin grid0.N) (i : Fin 512) (b : Fin 4) (s : Fin 4096) (j : Fin 2048) (o : Vec Ideal S512x2048 .f32) (h : Vec Ideal S512x2048 .bf16)
    (hh : ∀ d, h (ix2 i d) = rowM m c b s d) (ho : o (ix2 i j) = upTo (partM m c b s j) (t.val % 11 * 512)) :
    k0_pay3 o h (iblk m c 5 t) (iblk m c 6 t) (iblk m c 7 t) (ix2 i j) = upTo (partM m c b s j) (t.val % 11 * 512 + 512) := by
  have hlt : t.val % 11 * 512 + 512 ≤ 5632 := by generalize t.val = n; omega
  rw [step_at, ho]
  refine upTo_block _ _ _ _ hlt fun k => ?_
  simp only [hh, blk5 m c t _ k ⟨t.val % 11 * 512 + k.val, lt_of_lt_of_le (Nat.add_lt_add_left k.isLt _) hlt⟩ rfl,
    blk6 m c t _ k ⟨t.val % 11 * 512 + k.val, lt_of_lt_of_le (Nat.add_lt_add_left k.isLt _) hlt⟩ rfl,
    blk7 m c t k _ ⟨t.val % 11 * 512 + k.val, lt_of_lt_of_le (Nat.add_lt_add_left k.isLt _) hlt⟩ rfl]
  rfl

/-- After a point that is not a row block's last: the normalised rows, and the sum over the hidden blocks so far. -/
theorem partial_sum (c : Dev nD) : ∀ (n : ℕ) (hn : n < cfg0.N) (i : Fin 512) (b : Fin 4) (s : Fin 4096), n / 11 * 512 + i.val = b.val * 4096 + s.val →
    n / 88 = b.val → (∀ d, (outsAt0 m c n hn).2 (ix2 i d) = rowM m c b s d)
      ∧ (n % 11 ≠ 10 → ∀ j, (outsAt0 m c n hn).1 (ix2 i j) = upTo (partM m c b s j) (n % 11 * 512 + 512)) := by
  intro n
  induction n with
  | zero =>
    intro hn i b s h hb
    rw [outsAt0_A m c ⟨0, hn⟩ rfl (show ¬(0 % 11 = 10) by decide), st_A, out_A]
    have hrow := norm_blk m c ⟨0, hn⟩ i b s h hb
    exact ⟨hrow, fun _ j => step_blk m c ⟨0, hn⟩ i b s j _ _ hrow ((zero_at i j).trans (upTo_zero _).symm)⟩
  | succ n ih =>
    intro hn i b s h hb
    by_cases h0 : (n + 1) % 11 = 0
    · have h1 : ¬(n + 1) % 11 = 10 := by rw [h0]; decide
      rw [outsAt0_A m c ⟨n + 1, hn⟩ h0 h1, st_A, out_A]
      have hrow := norm_blk m c ⟨n + 1, hn⟩ i b s h hb
      refine ⟨hrow, fun _ j => step_blk m c ⟨n + 1, hn⟩ i b s j _ _ hrow ((zero_at i j).trans ?_)⟩
      show 0 = upTo _ ((n + 1) % 11 * 512)
      rw [h0]
      exact (upTo_zero _).symm
    · have hd : n / 11 = (n + 1) / 11 := by omega
      have hd' : n / 88 = (n + 1) / 88 := by omega
      obtain ⟨hrow, hsum⟩ := ih (Nat.lt_of_succ_lt hn) i b s (by rw [hd]; exact h) (by rw [hd']; exact hb)
      by_cases h1 : (n + 1) % 11 = 10
      · refine ⟨fun d => ?_, fun hne => absurd h1 hne⟩
        rw [outsAt0_C m c ⟨n + 1, hn⟩ h0 h1]
        dsimp only
        unfold sout0_C_0
        exact hrow d
      · rw [outsAt0_B m c ⟨n + 1, hn⟩ h0 h1]
        dsimp only
        unfold sout0_B_0
        refine ⟨hrow, fun _ j => ?_⟩
        rw [out_B]
        refine step_blk m c ⟨n + 1, hn⟩ i b s j _ _ hrow ((hsum (by omega) j).trans (congrArg _ ?_))
        show n % 11 * 512 + 512 = (n + 1) % 11 * 512
        omega

/-- After a row block's last point: the layer. -/
theorem last_sum (c : Dev nD) (n : ℕ) (hn : n + 1 < cfg0.N) (h1 : (n + 1) % 11 = 10) (i : Fin 512) (b : Fin 4) (s : Fin 4096) (h : (n + 1) / 11 * 512 + i.val = b.val * 4096 + s.val)
    (hb : (n + 1) / 88 = b.val) (j : Fin 2048) : (outsAt0 m c (n + 1) hn).1 (ix2 i j)
      = at' (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s j := by
  have h0 : ¬(n + 1) % 11 = 0 := by rw [h1]; decide
  have hd : n / 11 = (n + 1) / 11 := by omega
  have hd' : n / 88 = (n + 1) / 88 := by omega
  obtain ⟨hrow, hsum⟩ := partial_sum m c n (Nat.lt_of_succ_lt hn) i b s (by rw [hd]; exact h) (by rw [hd']; exact hb)
  have e := step_blk m c ⟨n + 1, hn⟩ i b s j _ _ hrow ((hsum (by omega) j).trans (congrArg _ (show n % 11 * 512 + 512 = (n + 1) % 11 * 512 by omega)))
  rw [outsAt0_C m c ⟨n + 1, hn⟩ h0 h1]
  dsimp only
  rw [out_C, last_at, blk0 m c ⟨n + 1, hn⟩ i j b s h, blk4 m c ⟨n + 1, hn⟩ j b hb]
  refine congrArg₂ (· + ·) rfl (congrArg₂ (· * ·) rfl (e.trans ?_))
  show upTo _ ((n + 1) % 11 * 512 + 512) = _
  rw [h1]
  exact upTo_all _

theorem flush8 : ∀ t : Fin grid0.N, t.val % 11 = 10 → win0_8.flush t = true := by decide +kernel

theorem flush8' : ∀ t : Fin grid0.N, win0_8.flush t = true → t.val % 11 = 10 := by decide +kernel

/-- No two points that write back write one block. -/
theorem apart (t t' : Fin cfg0.N) (hf : (cfg0.win 8).flush t = true) (hf' : (cfg0.win 8).flush t' = true) (h : t ≠ t') :
    Disjoint ((cfg0.win 8).blk t).view.set ((cfg0.win 8).blk t').view.set := by
  refine (cfg0.win 8).disjoint_blk fun e => h (Fin.ext ?_)
  have e' : win0_8.index t = win0_8.index t' := e
  have e0 := congrFun e' 0
  rw [(idx8 t).1, (idx8 t').1] at e0
  have e1 := flush8' t hf
  have e2 := flush8' t' hf'
  rw [← Nat.div_add_mod t.val 11, ← Nat.div_add_mod t'.val 11, e0, e1, e2]

/-- The call's array, index by index. -/
theorem arr_at (c : Dev nD) (r : Fin 16384) (j : Fin 2048) : (dats m 0 c).arrAt 8 cfg0.N (ix2 r j)
    = at' (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨r.val / 4096, by omega⟩ ⟨r.val % 4096, by omega⟩ j := by
  obtain ⟨n, hn⟩ : ∃ n, n = r.val / 512 * 11 + 9 := ⟨_, rfl⟩
  have hlt : n + 1 < grid0.N := by show n + 1 < 352; omega
  have h1 : (n + 1) % 11 = 10 := by omega
  have hd : (n + 1) / 11 = r.val / 512 := by omega
  have h := congrFun ((dats m 0 c).read_blk_arrAt_eq_flushed 8 apart cfg0.N ⟨n + 1, hlt⟩ hlt (flush8 _ h1)) (ix2 ⟨r.val % 512, by omega⟩ j)
  rw [View.read_apply] at h
  refine Eq.trans ?_ (h.trans ?_)
  · show (dats m 0 c).arrAt 8 cfg0.N _ = (dats m 0 c).arrAt 8 cfg0.N _
    congr 1; funext a; apply Fin.ext
    match a with
    | ⟨0, _⟩ => show r.val = win0_8.index ⟨n + 1, hlt⟩ 0 * 512 + 1 * (r.val % 512); rw [(idx8 _).1]; show _ = (n + 1) / 11 * 512 + _; rw [hd, one_mul]; exact (Nat.div_add_mod' _ _).symm
    | ⟨1, _⟩ => show j.val = win0_8.index ⟨n + 1, hlt⟩ 1 * 2048 + 1 * j.val; rw [(idx8 _).2, zero_mul, one_mul, zero_add]
  · show (cfg0.win 8).cut (grid0.coords ⟨n + 1, hlt⟩) ((dats m 0 c).after 8 ⟨n + 1, hlt⟩) _ = _
    rw [after0_8]
    exact last_sum m c n hlt h1 ⟨r.val % 512, by omega⟩ ⟨r.val / 4096, by omega⟩ ⟨r.val % 4096, by omega⟩
      (by show (n + 1) / 11 * 512 + r.val % 512 = r.val / 4096 * 4096 + r.val % 4096; omega) (by show (n + 1) / 88 = r.val / 4096; omega) j

variable (ρ : Dev nD → PrngReg)

/-- A run's array and its arguments. -/
theorem run_arr : θ_run defs (onTc (τ := τ) (main (F := Ideal))) ⟨m, fun _ => 0, ρ⟩ fun r => ∀ c : Dev nD,
    r.2.mem ((c : Thread nD τ).loc main_v6) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 8,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.Kernel4Ideal.Arr

namespace Cert.DenseFfn

open Cert.Reference4Ideal Cert.Reference4Ideal.Gen Cert.Swiglu

/-- The reference's normalised rows. -/
theorem ref_norm (x : FVec Ideal S4x4096x2048 .f32) (g : FVec Ideal S2048 .f32) (md : FVec Ideal S2x4x12288 .f32) (b : Fin 4) (s : Fin 4096) (d : Fin 2048) :
    (addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 8192] (shapeCast _ (extractStridedSlice S1x4x12288 ![0, 0, 0] md slices_S2x4x12288_S1x4x12288_0_0_0) shapeCasts_S1x4x12288_S4x12288) slices_S4x12288_S4x2048_0_8192))))) (broadcastInDim S4x4096x2048 ![0, 1, 2] bcast_S4x1x2048_S4x4096x2048_0_1_2 (broadcastInDim S4x1x2048 ![0, 2] bcast_S4x2048_S4x1x2048_0_2 (extractStridedSlice S4x2048 ![0, 6144] (shapeCast _ (extractStridedSlice S1x4x12288 ![0, 0, 0] md slices_S2x4x12288_S1x4x12288_0_0_0) shapeCasts_S1x4x12288_S4x12288) slices_S4x12288_S4x2048_0_6144))) : FVec Ideal S4x4096x2048 .f32) (ix3 b s d)
      = nm (fun d => x (ix3 b s d)) (fun d => g (ix1 d)) (fun d => md (ix3 0 b ⟨8192 + d.val, by omega⟩)) (fun d => md (ix3 0 b ⟨6144 + d.val, by omega⟩)) d := by
  pointwise
  rfl

/-- The reference's layer, of its normalised rows. -/
theorem ref_layer (x h : FVec Ideal S4x4096x2048 .f32) (md : FVec Ideal S2x4x12288 .f32) (wg wu : FVec Ideal S2048x5632 .f32) (wd : FVec Ideal S5632x2048 .f32)
    (r : Fin 16384) (j : Fin 2048) :
    (shapeCast S16384x2048 (addf x (mulf (broadcastInDim S4x4096x2048 ![0, 1, 2] bcast_S4x1x2048_S4x4096x2048_0_1_2 (broadcastInDim S4x1x2048 ![0, 2] bcast_S4x2048_S4x1x2048_0_2 (extractStridedSlice S4x2048 ![0, 10240] (shapeCast _ (extractStridedSlice S1x4x12288 ![0, 0, 0] md slices_S2x4x12288_S1x4x12288_0_0_0) shapeCasts_S1x4x12288_S4x12288) slices_S4x12288_S4x2048_0_10240))) (Host.dotGeneral dot_S4x4096x5632_S5632x2048_S4x4096x2048_2_0_01_1_n_n none (mulf (mulf (Host.dotGeneral dot_S4x4096x2048_S2048x5632_S4x4096x5632_2_0_01_1_n_n none h wg) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (Host.dotGeneral dot_S4x4096x2048_S2048x5632_S4x4096x5632_2_0_01_1_n_n none h wg)))))) (Host.dotGeneral dot_S4x4096x2048_S2048x5632_S4x4096x5632_2_0_01_1_n_n none h wu)) wd))) shapeCasts_S4x4096x2048_S16384x2048 : FVec Ideal S16384x2048 .f32) (ix2 r j)
      = x (ix3 ⟨r.val / 4096, by omega⟩ ⟨r.val % 4096, by omega⟩ j) + md (ix3 0 ⟨r.val / 4096, by omega⟩ ⟨10240 + j.val, by omega⟩)
        * ∑ k : Fin 5632, swi (∑ d : Fin 2048, h (ix3 ⟨r.val / 4096, by omega⟩ ⟨r.val % 4096, by omega⟩ d) * wg (ix2 d k))
            (∑ d : Fin 2048, h (ix3 ⟨r.val / 4096, by omega⟩ ⟨r.val % 4096, by omega⟩ d) * wu (ix2 d k)) * wd (ix2 k j) := by
  pointwise
  rfl

/-- The reference's array, index by index. -/
theorem ref_at (m : (ℓ : Loc nD τ sig) → Buf (Elt Ideal) ℓ) (c : Dev nD) (r : Fin 16384) (j : Fin 2048) :
    Cert.Reference4Ideal.Value.res_main_v38 m c (ix2 r j)
      = at' (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          ⟨r.val / 4096, by omega⟩ ⟨r.val % 4096, by omega⟩ j := by
  unfold Cert.Reference4Ideal.Value.res_main_v38
  refine (ref_layer _ _ _ _ _ _ r j).trans ?_
  refine congrArg₂ (· + ·) rfl (congrArg₂ (· * ·) rfl (Finset.sum_congr rfl fun k _ => ?_))
  exact congrArg₂ (· * ·) (congrArg₂ swi (Finset.sum_congr rfl fun d _ => congrArg (· * _) (ref_norm _ _ _ _ _ d))
    (Finset.sum_congr rfl fun d _ => congrArg (· * _) (ref_norm _ _ _ _ _ d))) rfl

end Cert.DenseFfn

end

end
-- ==== Proof.Merge.lean ====
/-
  The gated merge of the three branches: what the call's array holds, index by index, and what the reference computes; the
  two are one sum of three gated products.
-/
module

public import proofs.«01_k».proof.Proof.Gen.Kernel5Ideal.Value
public import proofs.«01_k».proof.Proof.Gen.Reference5Ideal.Run
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem

namespace Cert.Merge

/-- The merge at a row and a column: each branch's product with its own weights, gated by a column of the projection. -/
def at' (a : FVec Ideal ⟨2, ![16384, 1536]⟩ .bf16) (b : FVec Ideal ⟨2, ![16384, 512]⟩ .bf16) (r : FVec Ideal ⟨2, ![16384, 2048]⟩ .bf16)
    (wa : FVec Ideal ⟨2, ![1536, 2048]⟩ .f32) (wb : FVec Ideal ⟨2, ![512, 2048]⟩ .f32) (wc : FVec Ideal ⟨2, ![2048, 2048]⟩ .f32)
    (u : FVec Ideal ⟨2, ![16384, 15360]⟩ .bf16) (i : Fin 16384) (j : Fin 2048) : EReal :=
  Ideal.logistic (u (ix2 i ⟨9216 + j.val, by omega⟩)) * (∑ k : Fin 1536, a (ix2 i k) * wa (ix2 k j))
    + Ideal.logistic (u (ix2 i ⟨11264 + j.val, by omega⟩)) * (∑ k : Fin 512, b (ix2 i k) * wb (ix2 k j))
    + Ideal.logistic (u (ix2 i ⟨13312 + j.val, by omega⟩)) * (∑ k : Fin 2048, r (ix2 i k) * wc (ix2 k j))

end Cert.Merge

namespace Cert.Kernel5Ideal.Value

open Cert.Kernel5Ideal Cert.Kernel5Ideal.Gen

variable (m : (ℓ : Loc nD τ sig) → Buf (Elt Ideal) ℓ)

/-- One block's result at an index. -/
theorem pay_at (v0 : Vec Ideal S1024x1536 .bf16) (v1 : Vec Ideal S1536x512 .bf16) (v4 v8 : Vec Ideal S1024x512 .bf16)
    (v9 : Vec Ideal S512x512 .bf16) (v12 : Vec Ideal S1024x512 .bf16) (v17 : Vec Ideal S1024x2048 .bf16)
    (v18 : Vec Ideal S2048x512 .bf16) (v21 : Vec Ideal S1024x512 .bf16) (i : Fin 1024) (j : Fin 512) :
    k0_pay1 v0 v1 v4 v8 v9 v12 v17 v18 v21 (ix2 i j)
      = Ideal.logistic (v4 (ix2 i j)) * (∑ k : Fin 1536, v0 (ix2 i k) * v1 (ix2 k j))
        + Ideal.logistic (v12 (ix2 i j)) * (∑ k : Fin 512, v8 (ix2 i k) * v9 (ix2 k j))
        + Ideal.logistic (v21 (ix2 i j)) * (∑ k : Fin 2048, v17 (ix2 i k) * v18 (ix2 k j)) := by
  unfold k0_pay1
  pointwise

theorem idx0 : ∀ t : Fin grid0.N, win0_0.index t 0 = t.val / 4 ∧ win0_0.index t 1 = 0 := by decide +kernel
theorem idx1 : ∀ t : Fin grid0.N, win0_1.index t 0 = t.val / 4 ∧ win0_1.index t 1 = 0 := by decide +kernel
theorem idx2 : ∀ t : Fin grid0.N, win0_2.index t 0 = t.val / 4 ∧ win0_2.index t 1 = 0 := by decide +kernel
theorem idx3 : ∀ t : Fin grid0.N, win0_3.index t 0 = 0 ∧ win0_3.index t 1 = t.val % 4 := by decide +kernel
theorem idx4 : ∀ t : Fin grid0.N, win0_4.index t 0 = 0 ∧ win0_4.index t 1 = t.val % 4 := by decide +kernel
theorem idx5 : ∀ t : Fin grid0.N, win0_5.index t 0 = 0 ∧ win0_5.index t 1 = t.val % 4 := by decide +kernel
theorem idx6 : ∀ t : Fin grid0.N, win0_6.index t 0 = t.val / 4 ∧ win0_6.index t 1 = 18 + t.val % 4 := by decide +kernel
theorem idx7 : ∀ t : Fin grid0.N, win0_7.index t 0 = t.val / 4 ∧ win0_7.index t 1 = 22 + t.val % 4 := by decide +kernel
theorem idx8 : ∀ t : Fin grid0.N, win0_8.index t 0 = t.val / 4 ∧ win0_8.index t 1 = 26 + t.val % 4 := by decide +kernel
theorem idx9 : ∀ t : Fin grid0.N, win0_9.index t 0 = t.val / 4 ∧ win0_9.index t 1 = t.val % 4 := by decide +kernel

theorem z2 : (![0, 0] : Fin 2 → Nat) = fun _ => 0 := by decide

theorem col_off (c : ℕ) {n j q : ℕ} (h : n * 512 + j = q) : (c + n) * 512 + 1 * j = c * 512 + q := by omega

/-- Branch weights as the call takes them. -/
theorem V_wa (c : Dev nD) (k : Fin 1536) (j : Fin 2048) : V m c main_v0 (ix2 k j) = m ((c : Thread nD τ).loc main_arg3) (ix2 k j) := by
  unfold V
  simp only [hostOps0, List.flatten_cons, List.flatten_nil, List.append_nil, List.cons_append, List.nil_append]
  after_results
  rfl

/-- Branch weights as the call takes them. -/
theorem V_wb (c : Dev nD) (k : Fin 512) (j : Fin 2048) : V m c main_v1 (ix2 k j) = m ((c : Thread nD τ).loc main_arg4) (ix2 k j) := by
  unfold V
  simp only [hostOps0, List.flatten_cons, List.flatten_nil, List.append_nil, List.cons_append, List.nil_append]
  after_results
  rfl

/-- Branch weights as the call takes them. -/
theorem V_wc (c : Dev nD) (k : Fin 2048) (j : Fin 2048) : V m c main_v2 (ix2 k j) = m ((c : Thread nD τ).loc main_arg5) (ix2 k j) := by
  unfold V
  simp only [hostOps0, List.flatten_cons, List.flatten_nil, List.append_nil, List.cons_append, List.nil_append]
  after_results
  rfl

theorem blk0 (c : Dev nD) (t : Fin grid0.N) (i : Fin 1024) (k : Fin 1536) (r : Fin 16384) (hr : t.val / 4 * 1024 + i.val = r.val) :
    iblk m c 0 t (ix2 i k) = m ((c : Thread nD τ).loc main_arg0) (ix2 r k) := by
  unfold iblk; rw [View.read_apply]
  show V m c main_arg0 _ = _
  rw [V_main_arg0]
  congr 1; funext a; apply Fin.ext
  match a with
  | ⟨0, _⟩ => show win0_0.index t 0 * 1024 + 1 * i.val = r.val; rw [(idx0 t).1, one_mul]; exact hr
  | ⟨1, _⟩ => show win0_0.index t 1 * 1536 + 1 * k.val = k.val; rw [(idx0 t).2, zero_mul, one_mul, zero_add]

theorem blk1 (c : Dev nD) (t : Fin grid0.N) (i : Fin 1024) (k : Fin 512) (r : Fin 16384) (hr : t.val / 4 * 1024 + i.val = r.val) :
    iblk m c 1 t (ix2 i k) = m ((c : Thread nD τ).loc main_arg1) (ix2 r k) := by
  unfold iblk; rw [View.read_apply]
  show V m c main_arg1 _ = _
  rw [V_main_arg1]
  congr 1; funext a; apply Fin.ext
  match a with
  | ⟨0, _⟩ => show win0_1.index t 0 * 1024 + 1 * i.val = r.val; rw [(idx1 t).1, one_mul]; exact hr
  | ⟨1, _⟩ => show win0_1.index t 1 * 512 + 1 * k.val = k.val; rw [(idx1 t).2, zero_mul, one_mul, zero_add]

theorem blk2 (c : Dev nD) (t : Fin grid0.N) (i : Fin 1024) (k : Fin 2048) (r : Fin 16384) (hr : t.val / 4 * 1024 + i.val = r.val) :
    iblk m c 2 t (ix2 i k) = m ((c : Thread nD τ).loc main_arg2) (ix2 r k) := by
  unfold iblk; rw [View.read_apply]
  show V m c main_arg2 _ = _
  rw [V_main_arg2]
  congr 1; funext a; apply Fin.ext
  match a with
  | ⟨0, _⟩ => show win0_2.index t 0 * 1024 + 1 * i.val = r.val; rw [(idx2 t).1, one_mul]; exact hr
  | ⟨1, _⟩ => show win0_2.index t 1 * 2048 + 1 * k.val = k.val; rw [(idx2 t).2, zero_mul, one_mul, zero_add]

theorem blk3 (c : Dev nD) (t : Fin grid0.N) (k : Fin 1536) (j : Fin 512) (q : Fin 2048) (hq : t.val % 4 * 512 + j.val = q.val) :
    iblk m c 3 t (ix2 k j) = m ((c : Thread nD τ).loc main_arg3) (ix2 k q) := by
  unfold iblk; rw [View.read_apply]
  refine Eq.trans ?_ (V_wa m c k q)
  show V m c main_v0 _ = _
  congr 1; funext a; apply Fin.ext
  match a with
  | ⟨0, _⟩ => show win0_3.index t 0 * 1536 + 1 * k.val = k.val; rw [(idx3 t).1, zero_mul, one_mul, zero_add]
  | ⟨1, _⟩ => show win0_3.index t 1 * 512 + 1 * j.val = q.val; rw [(idx3 t).2, one_mul]; exact hq

theorem blk4 (c : Dev nD) (t : Fin grid0.N) (k : Fin 512) (j : Fin 512) (q : Fin 2048) (hq : t.val % 4 * 512 + j.val = q.val) :
    iblk m c 4 t (ix2 k j) = m ((c : Thread nD τ).loc main_arg4) (ix2 k q) := by
  unfold iblk; rw [View.read_apply]
  refine Eq.trans ?_ (V_wb m c k q)
  show V m c main_v1 _ = _
  congr 1; funext a; apply Fin.ext
  match a with
  | ⟨0, _⟩ => show win0_4.index t 0 * 512 + 1 * k.val = k.val; rw [(idx4 t).1, zero_mul, one_mul, zero_add]
  | ⟨1, _⟩ => show win0_4.index t 1 * 512 + 1 * j.val = q.val; rw [(idx4 t).2, one_mul]; exact hq

theorem blk5 (c : Dev nD) (t : Fin grid0.N) (k : Fin 2048) (j : Fin 512) (q : Fin 2048) (hq : t.val % 4 * 512 + j.val = q.val) :
    iblk m c 5 t (ix2 k j) = m ((c : Thread nD τ).loc main_arg5) (ix2 k q) := by
  unfold iblk; rw [View.read_apply]
  refine Eq.trans ?_ (V_wc m c k q)
  show V m c main_v2 _ = _
  congr 1; funext a; apply Fin.ext
  match a with
  | ⟨0, _⟩ => show win0_5.index t 0 * 2048 + 1 * k.val = k.val; rw [(idx5 t).1, zero_mul, one_mul, zero_add]
  | ⟨1, _⟩ => show win0_5.index t 1 * 512 + 1 * j.val = q.val; rw [(idx5 t).2, one_mul]; exact hq

theorem blk6 (c : Dev nD) (t : Fin grid0.N) (i : Fin 1024) (j : Fin 512) (r : Fin 16384) (hr : t.val / 4 * 1024 + i.val = r.val)
    (q : Fin 2048) (hq : t.val % 4 * 512 + j.val = q.val) :
    iblk m c 6 t (ix2 i j) = m ((c : Thread nD τ).loc main_arg6) (ix2 r ⟨9216 + q.val, by omega⟩) := by
  unfold iblk; rw [View.read_apply]
  show V m c main_arg6 _ = _
  rw [V_main_arg6]
  congr 1; funext a; apply Fin.ext
  match a with
  | ⟨0, _⟩ => show win0_6.index t 0 * 1024 + 1 * i.val = r.val; rw [(idx6 t).1, one_mul]; exact hr
  | ⟨1, _⟩ => show win0_6.index t 1 * 512 + 1 * j.val = 9216 + q.val; rw [(idx6 t).2]; exact col_off 18 hq

theorem blk7 (c : Dev nD) (t : Fin grid0.N) (i : Fin 1024) (j : Fin 512) (r : Fin 16384) (hr : t.val / 4 * 1024 + i.val = r.val)
    (q : Fin 2048) (hq : t.val % 4 * 512 + j.val = q.val) :
    iblk m c 7 t (ix2 i j) = m ((c : Thread nD τ).loc main_arg6) (ix2 r ⟨11264 + q.val, by omega⟩) := by
  unfold iblk; rw [View.read_apply]
  show V m c main_arg6 _ = _
  rw [V_main_arg6]
  congr 1; funext a; apply Fin.ext
  match a with
  | ⟨0, _⟩ => show win0_7.index t 0 * 1024 + 1 * i.val = r.val; rw [(idx7 t).1, one_mul]; exact hr
  | ⟨1, _⟩ => show win0_7.index t 1 * 512 + 1 * j.val = 11264 + q.val; rw [(idx7 t).2]; exact col_off 22 hq

theorem blk8 (c : Dev nD) (t : Fin grid0.N) (i : Fin 1024) (j : Fin 512) (r : Fin 16384) (hr : t.val / 4 * 1024 + i.val = r.val)
    (q : Fin 2048) (hq : t.val % 4 * 512 + j.val = q.val) :
    iblk m c 8 t (ix2 i j) = m ((c : Thread nD τ).loc main_arg6) (ix2 r ⟨13312 + q.val, by omega⟩) := by
  unfold iblk; rw [View.read_apply]
  show V m c main_arg6 _ = _
  rw [V_main_arg6]
  congr 1; funext a; apply Fin.ext
  match a with
  | ⟨0, _⟩ => show win0_8.index t 0 * 1024 + 1 * i.val = r.val; rw [(idx8 t).1, one_mul]; exact hr
  | ⟨1, _⟩ => show win0_8.index t 1 * 512 + 1 * j.val = 13312 + q.val; rw [(idx8 t).2]; exact col_off 26 hq

/-- The call's array, index by index. -/
theorem arr_at (c : Dev nD) (r : Fin 16384) (j : Fin 2048) : (dats m 0 c).arrAt 9 cfg0.N (ix2 r j)
    = Cert.Merge.at' (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) r j := by
  obtain ⟨t, htv⟩ : ∃ t : Fin grid0.N, t.val = r.val / 1024 * 4 + j.val / 512 := ⟨⟨_, show r.val / 1024 * 4 + j.val / 512 < 64 by omega⟩, rfl⟩
  have hr : t.val / 4 * 1024 + r.val % 1024 = r.val := by omega
  have hj : t.val % 4 * 512 + j.val % 512 = j.val := by omega
  have h := congrFun (blocks9 m c t (flush0_9 _)) (ix2 ⟨r.val % 1024, by omega⟩ ⟨j.val % 512, by omega⟩)
  rw [View.read_apply] at h
  refine Eq.trans ?_ (h.trans ?_)
  · show (dats m 0 c).arrAt 9 cfg0.N _ = (dats m 0 c).arrAt 9 cfg0.N _
    congr 1; funext a; apply Fin.ext
    match a with
    | ⟨0, _⟩ => show r.val = win0_9.index t 0 * 1024 + 1 * (r.val % 1024); rw [(idx9 _).1]; omega
    | ⟨1, _⟩ => show j.val = win0_9.index t 1 * 512 + 1 * (j.val % 512); rw [(idx9 _).2]; omega
  · rw [flushed9]
    show out0_9 _ _ _ _ _ _ _ _ _ (ix2 ⟨r.val % 1024, _⟩ ⟨j.val % 512, _⟩) = _
    unfold out0_9
    rw [View.canon_unit_zero z2]
    rw [View.ld_unit_zero z2, View.ld_unit_zero z2, View.ld_unit_zero z2, View.ld_unit_zero z2, View.ld_unit_zero z2, View.ld_unit_zero z2, View.ld_unit_zero z2, View.ld_unit_zero z2, View.ld_unit_zero z2]
    rw [pay_at, blk6 m c t _ _ r hr j hj, blk7 m c t _ _ r hr j hj, blk8 m c t _ _ r hr j hj]
    unfold Cert.Merge.at'
    refine congrArg₂ (· + ·) (congrArg₂ (· + ·) (congrArg _ (Finset.sum_congr rfl fun k _ => ?_)) (congrArg _ (Finset.sum_congr rfl fun k _ => ?_)))
      (congrArg _ (Finset.sum_congr rfl fun k _ => ?_))
    · rw [blk0 m c t _ _ r hr, blk3 m c t _ _ j hj]
    · rw [blk1 m c t _ _ r hr, blk4 m c t _ _ j hj]
    · rw [blk2 m c t _ _ r hr, blk5 m c t _ _ j hj]

end Cert.Kernel5Ideal.Value

namespace Cert.Merge

open Cert.Reference5Ideal Cert.Reference5Ideal.Gen

/-- The reference's three gates: the logistic of the projection's last columns. -/
theorem gate_at (u : FVec Ideal S16384x15360 .bf16) (r : Fin 16384) (g : Fin 3) (j : Fin 2048) :
    (Host.divf (broadcastInDim S16384x3x2048 ![] bcast_S_S16384x3x2048 (constant S_ .f32 0x3F800000#32)) (addf (broadcastInDim S16384x3x2048 ![] bcast_S_S16384x3x2048 (constant S_ .f32 0x3F800000#32)) (Host.exp (Host.negf (shapeCast _ (extf .f32 (extractStridedSlice S16384x6144 ![0, 9216] u slices_S16384x15360_S16384x6144_0_9216) bitsLt_bf16_f32) shapeCasts_S16384x6144_S16384x3x2048)))) : FVec Ideal S16384x3x2048 .f32) (ix3 r g j)
      = Ideal.logistic (u (ix2 r ⟨9216 + (g.val * 2048 + j.val), by omega⟩)) := by
  pointwise
  rfl

theorem ref_at (a : FVec Ideal S16384x1536 .bf16) (b : FVec Ideal S16384x512 .bf16) (rc : FVec Ideal S16384x2048 .bf16)
    (wa : FVec Ideal S1536x2048 .f32) (wb : FVec Ideal S512x2048 .f32) (wc : FVec Ideal S2048x2048 .f32)
    (g : FVec Ideal S16384x3x2048 .f32) (r : Fin 16384) (j : Fin 2048) :
    truncf .bf16 (addf (addf (mulf (shapeCast S16384x2048 (extractStridedSlice S16384x1x2048 ![0, 0, 0] g slices_S16384x3x2048_S16384x1x2048_0_0_0) shapeCasts_S16384x1x2048_S16384x2048) (Host.dotGeneral dot_S16384x1536_S1536x2048_S16384x2048_1_0_0_1_n_n none (extf .f32 a bitsLt_bf16_f32) wa)) (mulf (shapeCast _ (extractStridedSlice S16384x1x2048 ![0, 1, 0] g slices_S16384x3x2048_S16384x1x2048_0_1_0) shapeCasts_S16384x1x2048_S16384x2048) (Host.dotGeneral dot_S16384x512_S512x2048_S16384x2048_1_0_0_1_n_n none (extf .f32 b bitsLt_bf16_f32) wb))) (mulf (shapeCast _ (extractStridedSlice S16384x1x2048 ![0, 2, 0] g slices_S16384x3x2048_S16384x1x2048_0_2_0) shapeCasts_S16384x1x2048_S16384x2048) (Host.dotGeneral dot_S16384x2048_S2048x2048_S16384x2048_1_0_0_1_n_n none (extf .f32 rc bitsLt_bf16_f32) wc))) bitsLt_bf16_f32 (ix2 r j)
      = g (ix3 r 0 j) * (∑ k : Fin 1536, a (ix2 r k) * wa (ix2 k j)) + g (ix3 r 1 j) * (∑ k : Fin 512, b (ix2 r k) * wb (ix2 k j))
        + g (ix3 r 2 j) * (∑ k : Fin 2048, rc (ix2 r k) * wc (ix2 k j)) := by
  pointwise

/-- The reference's gates are at the columns the call takes them from. -/
theorem gates_eq (a : FVec Ideal S16384x1536 .bf16) (b : FVec Ideal S16384x512 .bf16) (rc : FVec Ideal S16384x2048 .bf16)
    (wa : FVec Ideal S1536x2048 .f32) (wb : FVec Ideal S512x2048 .f32) (wc : FVec Ideal S2048x2048 .f32)
    (u : FVec Ideal S16384x15360 .bf16) (r : Fin 16384) (j : Fin 2048) :
    Ideal.logistic (u (ix2 r ⟨9216 + ((0 : Fin 3).val * 2048 + j.val), by omega⟩)) * (∑ k : Fin 1536, a (ix2 r k) * wa (ix2 k j))
      + Ideal.logistic (u (ix2 r ⟨9216 + ((1 : Fin 3).val * 2048 + j.val), by omega⟩)) * (∑ k : Fin 512, b (ix2 r k) * wb (ix2 k j))
      + Ideal.logistic (u (ix2 r ⟨9216 + ((2 : Fin 3).val * 2048 + j.val), by omega⟩)) * (∑ k : Fin 2048, rc (ix2 r k) * wc (ix2 k j))
      = at' a b rc wa wb wc u r j := by
  have e0 : (⟨9216 + ((0 : Fin 3).val * 2048 + j.val), by omega⟩ : Fin 15360) = ⟨9216 + j.val, by omega⟩ := Fin.ext (by show 9216 + (0 * 2048 + j.val) = 9216 + j.val; omega)
  have e1 : (⟨9216 + ((1 : Fin 3).val * 2048 + j.val), by omega⟩ : Fin 15360) = ⟨11264 + j.val, by omega⟩ := Fin.ext (by show 9216 + (1 * 2048 + j.val) = 11264 + j.val; omega)
  have e2 : (⟨9216 + ((2 : Fin 3).val * 2048 + j.val), by omega⟩ : Fin 15360) = ⟨13312 + j.val, by omega⟩ := Fin.ext (by show 9216 + (2 * 2048 + j.val) = 13312 + j.val; omega)
  rw [e0, e1, e2]
  rfl

end Cert.Merge

end

end
-- ==== Proof.OutProj.lean ====
/-
  The output projection with its gate and residual: what the call's array holds, index by index, and what the reference
  computes; the two are one sum.
-/
module

public import proofs.«01_k».proof.Proof.Gen.Kernel6Ideal.Value
public import proofs.«01_k».proof.Proof.Gen.Reference6Ideal.Run
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem

namespace Cert.OutProj

/-- The projection at a row and a column: the residual and the gated product. -/
def at' (a : FVec Ideal ⟨2, ![16384, 2048]⟩ .bf16) (w : FVec Ideal ⟨2, ![2048, 2048]⟩ .f32)
    (x : FVec Ideal ⟨3, ![4, 4096, 2048]⟩ .f32) (md : FVec Ideal ⟨3, ![2, 4, 12288]⟩ .f32) (r : Fin 16384) (j : Fin 2048) : EReal :=
  x (ix3 ⟨r.val / 4096, by omega⟩ ⟨r.val % 4096, by omega⟩ j)
    + md (ix3 0 ⟨r.val / 4096, by omega⟩ ⟨4096 + j.val, by omega⟩) * ∑ k : Fin 2048, a (ix2 r k) * w (ix2 k j)

end Cert.OutProj

namespace Cert.Kernel6Ideal.Value

open Cert.Kernel6Ideal Cert.Kernel6Ideal.Gen

variable (m : (ℓ : Loc nD τ sig) → Buf (Elt Ideal) ℓ)

/-- One block's result at an index. -/
theorem pay_at (v0 : Vec Ideal S1024x2048 .bf16) (v1 : Vec Ideal S2048x1024 .bf16) (v4 : Vec Ideal S1024x1024 .f32)
    (v6 : Vec Ideal S1x1x1024 .f32) (i j : Fin 1024) :
    k0_pay1 v0 v1 v4 v6 (ix2 i j) = v4 (ix2 i j) + v6 (ix3 0 0 j) * ∑ k : Fin 2048, v0 (ix2 i k) * v1 (ix2 k j) := by
  unfold k0_pay1
  pointwise

theorem idx0 : ∀ t : Fin grid0.N, win0_0.index t 0 = t.val / 2 ∧ win0_0.index t 1 = 0 := by decide +kernel
theorem idx1 : ∀ t : Fin grid0.N, win0_1.index t 0 = 0 ∧ win0_1.index t 1 = t.val % 2 := by decide +kernel
theorem idx2 : ∀ t : Fin grid0.N, win0_2.index t 0 = t.val / 2 ∧ win0_2.index t 1 = t.val % 2 := by decide +kernel
theorem idx3 : ∀ t : Fin grid0.N, win0_3.index t 0 = t.val / 8 * 6 + 2 ∧ win0_3.index t 1 = 0 ∧ win0_3.index t 2 = t.val % 2 := by
  decide +kernel
theorem idx4 : ∀ t : Fin grid0.N, win0_4.index t 0 = t.val / 2 ∧ win0_4.index t 1 = t.val % 2 := by decide +kernel

theorem z2 : (![0, 0] : Fin 2 → Nat) = fun _ => 0 := by decide
theorem z3 : (![0, 0, 0] : Fin 3 → Nat) = fun _ => 0 := by decide

theorem t_lt (t : Fin grid0.N) : t.val < 32 := t.isLt

/-- The weights as the call takes them. -/
theorem V_w (c : Dev nD) (k j : Fin 2048) : V m c main_v0 (ix2 k j) = m ((c : Thread nD τ).loc main_arg1) (ix2 k j) := by
  unfold V
  simp only [hostOps0, List.flatten_cons, List.flatten_nil, List.append_nil, List.cons_append, List.nil_append]
  after_results
  rfl

/-- The residual as the call takes it. -/
theorem V_x (c : Dev nD) (r : Fin 16384) (j : Fin 2048) : V m c main_v1 (ix2 r j)
    = m ((c : Thread nD τ).loc main_arg2) (ix3 ⟨r.val / 4096, by omega⟩ ⟨r.val % 4096, by omega⟩ j) := by
  unfold V
  simp only [hostOps0, List.flatten_cons, List.flatten_nil, List.append_nil, List.cons_append, List.nil_append]
  after_results
  show shapeCast _ _ _ _ = _
  pointwise

/-- The modulation as the call takes it: the row of sequence `b` and part `p` of the first layer. -/
theorem V_mod (c : Dev nD) (b : Fin 4) (p : Fin 6) (j : Fin 2048) : V m c main_v2 (ix3 ⟨b.val * 6 + p.val, by omega⟩ 0 j)
    = m ((c : Thread nD τ).loc main_arg3) (ix3 0 b ⟨p.val * 2048 + j.val, by omega⟩) := by
  unfold V
  simp only [hostOps0, List.flatten_cons, List.flatten_nil, List.append_nil, List.cons_append, List.nil_append]
  after_results
  show shapeCast _ _ _ _ = _
  pointwise
  have hb := b.isLt
  have hp := p.isLt
  refine congrArg (m ((c : Thread nD τ).loc main_arg3)) (funext fun a => Fin.ext ?_)
  match a with
  | ⟨0, _⟩ => show (b.val * 6 + p.val) / 24 = 0; omega
  | ⟨1, _⟩ => rfl
  | ⟨2, _⟩ => show (b.val * 6 + p.val) % 6 * 2048 + j.val = p.val * 2048 + j.val; omega

theorem blk0 (c : Dev nD) (t : Fin grid0.N) (i : Fin 1024) (k : Fin 2048) :
    iblk m c 0 t (ix2 i k) = m ((c : Thread nD τ).loc main_arg0) (ix2 ⟨t.val / 2 * 1024 + i.val, by have := t_lt t; omega⟩ k) := by
  unfold iblk; rw [View.read_apply]
  show V m c main_arg0 _ = _
  rw [V_main_arg0]
  congr 1; funext a; apply Fin.ext
  match a with
  | ⟨0, _⟩ => show win0_0.index t 0 * 1024 + 1 * i.val = t.val / 2 * 1024 + i.val; rw [(idx0 t).1]; omega
  | ⟨1, _⟩ => show win0_0.index t 1 * 2048 + 1 * k.val = k.val; rw [(idx0 t).2]; omega

theorem blk1 (c : Dev nD) (t : Fin grid0.N) (k : Fin 2048) (j : Fin 1024) :
    iblk m c 1 t (ix2 k j) = m ((c : Thread nD τ).loc main_arg1) (ix2 k ⟨t.val % 2 * 1024 + j.val, by omega⟩) := by
  unfold iblk; rw [View.read_apply]
  refine Eq.trans ?_ (V_w m c k ⟨t.val % 2 * 1024 + j.val, by omega⟩)
  show V m c main_v0 _ = _
  congr 1; funext a; apply Fin.ext
  match a with
  | ⟨0, _⟩ => show win0_1.index t 0 * 2048 + 1 * k.val = k.val; rw [(idx1 t).1]; omega
  | ⟨1, _⟩ => show win0_1.index t 1 * 1024 + 1 * j.val = t.val % 2 * 1024 + j.val; rw [(idx1 t).2]; omega

theorem blk2 (c : Dev nD) (t : Fin grid0.N) (i : Fin 1024) (j : Fin 1024) (r : Fin 16384) (hr : r.val = t.val / 2 * 1024 + i.val) :
    iblk m c 2 t (ix2 i j) = m ((c : Thread nD τ).loc main_arg2) (ix3 ⟨r.val / 4096, by omega⟩ ⟨r.val % 4096, by omega⟩ ⟨t.val % 2 * 1024 + j.val, by omega⟩) := by
  unfold iblk; rw [View.read_apply]
  refine Eq.trans ?_ (V_x m c r ⟨t.val % 2 * 1024 + j.val, by omega⟩)
  show V m c main_v1 _ = _
  congr 1; funext a; apply Fin.ext
  match a with
  | ⟨0, _⟩ => show win0_2.index t 0 * 1024 + 1 * i.val = r.val; rw [(idx2 t).1]; omega
  | ⟨1, _⟩ => show win0_2.index t 1 * 1024 + 1 * j.val = t.val % 2 * 1024 + j.val; rw [(idx2 t).2]; omega

theorem blk3 (c : Dev nD) (t : Fin grid0.N) (j : Fin 1024) :
    iblk m c 3 t (ix3 0 0 j) = m ((c : Thread nD τ).loc main_arg3) (ix3 0 ⟨t.val / 8, by have := t_lt t; omega⟩ ⟨2 * 2048 + (t.val % 2 * 1024 + j.val), by omega⟩) := by
  unfold iblk; rw [View.read_apply]
  refine Eq.trans ?_ (V_mod m c ⟨t.val / 8, by have := t_lt t; omega⟩ 2 ⟨t.val % 2 * 1024 + j.val, by omega⟩)
  show V m c main_v2 _ = _
  congr 1; funext a; apply Fin.ext
  match a with
  | ⟨0, _⟩ => show win0_3.index t 0 * 1 + 1 * 0 = t.val / 8 * 6 + 2; rw [(idx3 t).1]; omega
  | ⟨1, _⟩ => show win0_3.index t 1 * 1 + 1 * 0 = 0; rw [(idx3 t).2.1]
  | ⟨2, _⟩ => show win0_3.index t 2 * 1024 + 1 * j.val = t.val % 2 * 1024 + j.val; rw [(idx3 t).2.2]; omega

/-- The call's array, index by index. -/
theorem arr_at (c : Dev nD) (r : Fin 16384) (j : Fin 2048) : (dats m 0 c).arrAt 4 cfg0.N (ix2 r j)
    = Cert.OutProj.at' (m ((c : Thread nD τ).loc main_arg0)) (m ((c : Thread nD τ).loc main_arg1))
        (m ((c : Thread nD τ).loc main_arg2)) (m ((c : Thread nD τ).loc main_arg3)) r j := by
  have ht : r.val / 1024 * 2 + j.val / 1024 < 32 := by omega
  have h := congrFun (blocks4 m c ⟨_, ht⟩ (flush0_4 _)) (ix2 ⟨r.val % 1024, by omega⟩ ⟨j.val % 1024, by omega⟩)
  rw [View.read_apply] at h
  refine Eq.trans ?_ (h.trans ?_)
  · show (dats m 0 c).arrAt 4 cfg0.N _ = (dats m 0 c).arrAt 4 cfg0.N _
    congr 1; funext a; apply Fin.ext
    match a with
    | ⟨0, _⟩ => show r.val = win0_4.index ⟨_, ht⟩ 0 * 1024 + 1 * (r.val % 1024); rw [(idx4 _).1]; show r.val = (r.val / 1024 * 2 + j.val / 1024) / 2 * 1024 + 1 * (r.val % 1024); omega
    | ⟨1, _⟩ => show j.val = win0_4.index ⟨_, ht⟩ 1 * 1024 + 1 * (j.val % 1024); rw [(idx4 _).2]; show j.val = (r.val / 1024 * 2 + j.val / 1024) % 2 * 1024 + 1 * (j.val % 1024); omega
  · rw [flushed4]
    show out0_4 _ _ _ _ (ix2 ⟨r.val % 1024, _⟩ ⟨j.val % 1024, _⟩) = _
    unfold out0_4
    rw [View.canon_unit_zero z2, View.ld_unit_zero z2, View.ld_unit_zero z2, View.ld_unit_zero z2, View.ld_unit_zero z3, pay_at, blk3,
      blk2 m c _ _ _ r (by show r.val = (r.val / 1024 * 2 + j.val / 1024) / 2 * 1024 + r.val % 1024; omega)]
    unfold Cert.OutProj.at'
    have hj : (⟨(r.val / 1024 * 2 + j.val / 1024) % 2 * 1024 + j.val % 1024, by omega⟩ : Fin 2048) = j := Fin.ext (by show (r.val / 1024 * 2 + j.val / 1024) % 2 * 1024 + j.val % 1024 = j.val; omega)
    have hr : (⟨(r.val / 1024 * 2 + j.val / 1024) / 2 * 1024 + r.val % 1024, by omega⟩ : Fin 16384) = r := Fin.ext (by show (r.val / 1024 * 2 + j.val / 1024) / 2 * 1024 + r.val % 1024 = r.val; omega)
    refine congrArg₂ (· + ·) (congrArg (m ((c : Thread nD τ).loc main_arg2)) (congrArg _ hj)) (congrArg₂ (· * ·) ?_ (Finset.sum_congr rfl fun k _ => ?_))
    · refine congrArg (m ((c : Thread nD τ).loc main_arg3)) (funext fun a => Fin.ext ?_)
      match a with
      | ⟨0, _⟩ => rfl
      | ⟨1, _⟩ => show (r.val / 1024 * 2 + j.val / 1024) / 8 = r.val / 4096; omega
      | ⟨2, _⟩ => show 2 * 2048 + ((r.val / 1024 * 2 + j.val / 1024) % 2 * 1024 + j.val % 1024) = 4096 + j.val; omega
    · rw [blk0, blk1]
      exact congrArg₂ (· * ·) (congrArg (fun r => m ((c : Thread nD τ).loc main_arg0) (ix2 r k)) hr)
        (congrArg (fun j => m ((c : Thread nD τ).loc main_arg1) (ix2 k j)) hj)

end Cert.Kernel6Ideal.Value

namespace Cert.OutProj
open Cert.Reference6Ideal Cert.Reference6Ideal.Gen
theorem ref_at (a : FVec Ideal S16384x2048 .bf16) (w : FVec Ideal S2048x2048 .f32)
    (x : FVec Ideal S4x4096x2048 .f32) (md : FVec Ideal S2x4x12288 .f32) (r : Fin 16384) (j : Fin 2048) :
    shapeCast S16384x2048 (addf x (mulf (broadcastInDim S4x4096x2048 ![0, 1, 2] bcast_S4x1x2048_S4x4096x2048_0_1_2 (broadcastInDim S4x1x2048 ![0, 2] bcast_S4x2048_S4x1x2048_0_2 (extractStridedSlice S4x2048 ![0, 4096] (shapeCast _ (extractStridedSlice S1x4x12288 ![0, 0, 0] md slices_S2x4x12288_S1x4x12288_0_0_0) shapeCasts_S1x4x12288_S4x12288) slices_S4x12288_S4x2048_0_4096))) (Host.dotGeneral dot_S4x4096x2048_S2048x2048_S4x4096x2048_2_0_01_1_n_n none (shapeCast _ (extf .f32 a bitsLt_bf16_f32) shapeCasts_S16384x2048_S4x4096x2048) w))) shapeCasts_S4x4096x2048_S16384x2048 (ix2 r j) = at' a w x md r j := by
  pointwise
  rfl
end Cert.OutProj

end

end
-- ==== Proof.ExpertsRun.lean ====
/-
  One grid point of the experts' kernel, run on any whole staging memrefs: the four cases of its three conditionals (the
  tile active or not, the first block of the hidden columns or not), each with what it leaves in the output block and in
  the scratch block that keeps the tile's rows.
-/
module

public import proofs.«01_k».proof.Proof.Gen.Kernel7Ideal.Launch
public import proofs.«01_k».proof.Proof.Gen.Kernel7Ideal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Experts

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the second conditional: the tile is active and the block of hidden columns is the first. -/
def cond2 (i : grid0.Coords) (v0 : BitVec 32) : BitVec 1 :=
  Scalar.cmpi .ne (Scalar.extui (Scalar.andi (Scalar.cmpi .slt (BitVec.ofNat 32 (i 0).val) v0) (Scalar.cmpi .eq (BitVec.ofNat 32 (i 1).val) 0#32)) : BitVec 32) 0#32

/-- The rows the scratch block holds after a point: the tile's, narrowed, from the first point of an active tile on. -/
def rowsOf (i : grid0.Coords) (w : BitVec 32) (x0 : Vec F S512x2048 .f32) (h : Vec F S512x2048 .bf16) : Vec F S512x2048 .bf16 :=
  if cond2 i w = 1#1 then k0_pay2 x0 else h

/-- The output block before a point's own part: zero at the first block of hidden columns. -/
def startOf (i : grid0.Coords) (o : Vec F S512x2048 .f32) : Vec F S512x2048 .f32 :=
  if k0_cond1 i = 1#1 then k0_pay1 else o

/-- The output block after a point: an active tile has the point's part added. -/
def sumOf (i : grid0.Coords) (w : BitVec 32) (x0 : Vec F S512x2048 .f32) (x1 x2 : Vec F S1x2048x1024 .bf16) (x3 : Vec F S1x1024x2048 .bf16)
    (o : Vec F S512x2048 .f32) (h : Vec F S512x2048 .bf16) : Vec F S512x2048 .f32 :=
  if k0_cond3 i w = 1#1 then k0_pay3 (startOf i o) (rowsOf i w x0 h) x1 x2 x3 else startOf i o

/-- The word of a table of one. -/
def word (n : Vec F S1 .i32) : BitVec 32 := n (fun | 0 => (0 : Fin 1))

theorem z1 : (![0] : Fin 1 → Nat) = fun _ => 0 := by decide
theorem z2 : (![0, 0] : Fin 2 → Nat) = fun _ => 0 := by decide
theorem z3 : (![0, 0, 0] : Fin 3 → Nat) = fun _ => 0 := by decide

/-- A store of the whole block reads back as its payload, whatever was there. -/
theorem read_store {sp : Space} {S : Shape} {e : EltTy} (m : Memref sig .tc sp S e) (f : m.view.ty.Contents (Elt F)) {off : Fin S.rank → Nat}
    (h : off = fun _ => 0) (inb : ∀ a, off a + S.size a ≤ S.size a) (w : S.Idx → Elt F e) :
    View.read (Elt F) m.view (m.view.writes (Elt F) f [⟨Rect.unit off S.size inb, w⟩]) = w := by
  rw [View.read_writes_of_cover _ _ m.view m.view.junk _ (fun y => ⟨_, List.mem_singleton_self _, by
    subst h; show y ∈ (Rect.whole S).set; rw [Rect.set_whole]; exact Finset.mem_univ y⟩), View.read_writes_junk_eq_canon, View.canon_unit_zero h]

set_option maxHeartbeats 2000000 in
/-- One point, from the table word, the four input blocks, the output block and the scratch block to the two blocks above. -/
theorem run_point (c : Dev nD) (i : grid0.Coords) (arg2 : Memref sig .tc .smem S72 .i32) (harg2 : arg2.IsWhole)
    (arg3 : Memref sig .tc .smem S1 .i32) (harg3 : arg3.IsWhole) (arg4 : Memref sig .tc .vmem S512x2048 .f32) (harg4 : arg4.IsWhole)
    (arg5 : Memref sig .tc .vmem S1x2048x1024 .bf16) (harg5 : arg5.IsWhole) (arg6 : Memref sig .tc .vmem S1x2048x1024 .bf16) (harg6 : arg6.IsWhole)
    (arg7 : Memref sig .tc .vmem S1x1024x2048 .bf16) (harg7 : arg7.IsWhole) (arg8 : Memref sig .tc .vmem S512x2048 .f32) (harg8 : arg8.IsWhole)
    (arg9 : Memref sig .tc .vmem S512x2048 .bf16) (harg9 : arg9.IsWhole) (q : PosShare TreeShare)
    (n : Vec F S1 .i32) (x0 : Vec F S512x2048 .f32) (x1 x2 : Vec F S1x2048x1024 .bf16) (x3 : Vec F S1x1024x2048 .bf16)
    (o : Vec F S512x2048 .f32) (h : Vec F S512x2048 .bf16) (w : BitVec 32) (hw : word n = w) (E : Set ℕ) (K : PUnit → sProp 𝕄) :
    iprop(owns (c : Thread nD τ) arg3 q n ∗ owns (c : Thread nD τ) arg4 fullShare x0 ∗ owns (c : Thread nD τ) arg5 fullShare x1
        ∗ owns (c : Thread nD τ) arg6 fullShare x2 ∗ owns (c : Thread nD τ) arg7 fullShare x3
        ∗ owns (c : Thread nD τ) arg8 fullShare o ∗ owns (c : Thread nD τ) arg9 fullShare h
        ∗ (iprop(owns (c : Thread nD τ) arg3 q n ∗ owns (c : Thread nD τ) arg4 fullShare x0 ∗ owns (c : Thread nD τ) arg5 fullShare x1
        ∗ owns (c : Thread nD τ) arg6 fullShare x2 ∗ owns (c : Thread nD τ) arg7 fullShare x3
        ∗ owns (c : Thread nD τ) arg8 fullShare (sumOf i w x0 x1 x2 x3 o h) ∗ owns (c : Thread nD τ) arg9 fullShare (rowsOf i w x0 h)) -∗ K ⟨⟩))
      ⊢ wp frame (wpE (defs₀ (F := F)) Variants.none c none) E (cc0_expert_ffn i arg2 harg2 arg3 harg3 arg4 harg4 arg5 harg5 arg6 harg6 arg7 harg7 arg8 harg8 arg9 harg9) K := by
  simp only [cc0_expert_ffn_eq_skeleton]; unfold cc0_expert_ffn_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  have hword : View.readAt (Elt F) arg3.view (Rect.unit (s := S1) ![0] S1.size inb_S1_S1_0).toLoadRect (harg3.unread n) (Shape.Idx.first (by decide)) = w := by
    rw [View.readAt_eq_ld, harg3.read_unread, View.ld_unit_zero (S := S1) z1, ← hw]; unfold word
    exact congrArg n (funext fun a => Fin.ext (by fin_cases a; rfl))
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    rw [hword]
    simp only [View.readAt_eq_ld, harg4.read_unread, harg5.read_unread, harg6.read_unread, harg7.read_unread, View.ld_unit_zero (S := S512x2048) z2,
      View.ld_unit_zero (S := S1x2048x1024) z3, View.ld_unit_zero (S := S1x1024x2048) z3]
    unfold sumOf startOf rowsOf cond2
    split_ifs <;> simp only [read_store arg8 _ z2, read_store arg9 _ z2, harg8.read_unread, harg9.read_unread]
  · iexists _; isplitr; swap; · iexact H9
    ipureintro
    sl_unfold_words
    rw [hword]
    simp only [View.readAt_eq_ld, harg4.read_unread, View.ld_unit_zero (S := S512x2048) z2]
    unfold rowsOf cond2
    split_ifs <;> simp only [read_store arg9 _ z2, harg9.read_unread]

attribute [irreducible] sumOf rowsOf startOf

end Cert.Experts
end
-- ==== Proof.ExpertsFrame.lean ====
/-
  The experts' call as a pipeline with its two tables: what the output block and the scratch block hold after every grid
  point, the proof data, the body's obligation at a point, and the run of @main.
-/
module

public import proofs.«01_k».proof.Proof.ExpertsRun
public import Idealize.ShloMosaic.Lib.Pipeline.Frame
public import Idealize.ShloMosaic.Lib.Pipeline.TableIdle
public import Idealize.ShloMosaic.Lib.Claim

@[expose] public section

set_option maxRecDepth 16384

noncomputable section

namespace Cert.Experts

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the call finds them: the host's operations done. -/
def V (c : Dev nD) (b : Ref sig .tc) : Buf (Elt F) ((c.tc : Thread nD τ).loc b) :=
  StableHlo.after [hostOps0 (F := F), hostOps0_1, hostOps0_2, hostOps0_3].flatten (fun b => m (c, b)) b

/-- The two tables the call is handed: the tiles' experts, and how many tiles hold rows. -/
def tabs : pre0.Contents (Elt F) := fun k => V m 0 (pre0.ref k)

/-- How many tiles hold rows, as a word. -/
def used : BitVec 32 := word (F := F) (tabs m 1)

theorem used_eq : word (F := F) (tabs m 1) = used m := rfl

attribute [irreducible] used

variable (hok : ok0 (tabs m))

/-- The tables, inside what the call admits. -/
abbrev adm : (p : Fin 1) → (pcfgs (F := F) p).Adm := fun _ => ⟨tabs m, hok⟩

/-- The pipeline at these tables. -/
abbrev cfgE : Cfg sig Λ₀ := cfg0 (F := F) ⟨tabs m, hok⟩

/-- Window `w`'s block at point `t`, read off its array as the call finds it. -/
def iblk (c : Dev nD) (w : Fin (cfgE m hok).W) (t : Fin (cfgE m hok).N) : (((cfgE m hok).win w).xblock ((cfgE m hok).grid.coords t)).Idx → Elt F ((cfgE m hok).win w).elt :=
  (((cfgE m hok).win w).blk t).view.read (Elt F) (V m c (Pipeline.arrRef spec0 w))

/-- The blocks a point works on: the tile's rows, and its expert's blocks of the three weights. -/
def blk0 (c : Dev nD) (t : Fin (cfgE m hok).N) : Vec F S512x2048 .f32 := iblk m hok c 0 t
def blk1 (c : Dev nD) (t : Fin (cfgE m hok).N) : Vec F S1x2048x1024 .bf16 := iblk m hok c 1 t
def blk2 (c : Dev nD) (t : Fin (cfgE m hok).N) : Vec F S1x2048x1024 .bf16 := iblk m hok c 2 t
def blk3 (c : Dev nD) (t : Fin (cfgE m hok).N) : Vec F S1x1024x2048 .bf16 := iblk m hok c 3 t

/-- One point on the output block and the scratch block. -/
def step (c : Dev nD) (t : Fin (cfgE m hok).N) (p : Vec F S512x2048 .f32 × Vec F S512x2048 .bf16) : Vec F S512x2048 .f32 × Vec F S512x2048 .bf16 :=
  (sumOf (grid0.coords t) (used m) (blk0 m hok c t) (blk1 m hok c t) (blk2 m hok c t) (blk3 m hok c t) p.1 p.2,
    rowsOf (grid0.coords t) (used m) (blk0 m hok c t) p.2)

/-- The two blocks after point `n`. -/
def outsAt (c : Dev nD) : (n : ℕ) → n < (cfgE m hok).N → Vec F S512x2048 .f32 × Vec F S512x2048 .bf16
  | 0, h => step m hok c ⟨0, h⟩ (k0_pay1, k0_pay2 k0_pay1)
  | n + 1, h => step m hok c ⟨n + 1, h⟩ (outsAt c n (Nat.lt_of_succ_lt h))

theorem outsAt_pos (c : Dev nD) (t : Fin (cfgE m hok).N) (hz : t.val ≠ 0) :
    outsAt m hok c t.val t.isLt = step m hok c t (outsAt m hok c (t.val - 1) (Nat.lt_of_le_of_lt (Nat.sub_le _ _) t.isLt)) := by
  obtain ⟨n, hn⟩ := t
  cases n with
  | zero => exact absurd rfl hz
  | succ n => rfl

/-- The scratch block. -/
abbrev scr : Memref sig .tc .vmem S512x2048 .bf16 := Memref.whole cc0_scratch0

/-- The two tables on a core, at the share the body is lent. -/
def tabsHeld (c : Dev nD) : sProp 𝕄 :=
  iprop(owns (c : Thread nD τ) (Memref.whole main_v18) fullShare.right (tabs m 0) ∗ owns (c : Thread nD τ) (Memref.whole main_v6) fullShare.right (tabs m 1))

theorem tabsHeld_eq (c : Dev nD) : (Pipeline.ΦT pre0 (tabs m) c : sProp 𝕄) = tabsHeld m c := by
  unfold Pipeline.ΦT Pipeline.prefHeld tabsHeld
  rw [bigSep_univ_eq_bigSepL [(0 : Fin 2), (1 : Fin 2)] (by decide) (by decide)]
  exact congrArg₂ _ (owns_whole _ _ _ _).symm (owns_whole _ _ _ _).symm

theorem PhiA_eq (c : Dev nD) : (Pipeline.ΦA spec0 c : sProp 𝕄) = iprop((∃ f, owns (c : Thread nD τ) scr fullShare f) ∗ (∃ r, prngReg c r)) := by
  unfold Pipeline.ΦA; rw [scopedRest0_eq]; simp only [scr, owns_whole]; try rfl

/-- The invariant before point `n`: the tables; the scratch block at anything before the first point, afterwards at what
    the point before left; the generator's register at some state. -/
def Inv (c : Dev nD) : (n : ℕ) → n ≤ (cfgE m hok).N → sProp 𝕄
  | 0, _ => iprop(Pipeline.ΦA spec0 c ∗ tabsHeld m c)
  | n + 1, hn => iprop(iprop(owns (c : Thread nD τ) scr fullShare (outsAt m hok c n hn).2 ∗ (∃ r, prngReg c r)) ∗ tabsHeld m c)

theorem Inv_zero (c : Dev nD) (n : ℕ) (h : n ≤ (cfgE m hok).N) (hz : n = 0) : Inv m hok c n h = iprop(Pipeline.ΦA spec0 c ∗ tabsHeld m c) := by
  subst hz; rfl

theorem Inv_succ (c : Dev nD) (n : ℕ) (hn : n < (cfgE m hok).N) :
    Inv m hok c (n + 1) hn = iprop(iprop(owns (c : Thread nD τ) scr fullShare (outsAt m hok c n hn).2 ∗ (∃ r, prngReg c r)) ∗ tabsHeld m c) := rfl

theorem Inv_pos (c : Dev nD) (n : ℕ) (h : n ≤ (cfgE m hok).N) (hz : n ≠ 0) :
    Inv m hok c n h = iprop(iprop(owns (c : Thread nD τ) scr fullShare (outsAt m hok c (n - 1) (by omega)).2 ∗ (∃ r, prngReg c r)) ∗ tabsHeld m c) := by
  cases n with
  | zero => exact absurd rfl hz
  | succ n => rfl

/-- The proof data on core `c`: the arrays as the call finds them; each input's buffer left at its block, the output's at
    the running sum; the invariant above; nothing owed. -/
def dats (_ : Fin 1) (c : Dev nD) : Dat τ (Elt F) Unit ℕ (UR sig nD τ) ℕ (cfgE m hok) c where
  A w := V m c (Pipeline.arrRef spec0 w)
  after w t := match w with
    | ⟨0, _⟩ => blk0 m hok c t
    | ⟨1, _⟩ => blk1 m hok c t
    | ⟨2, _⟩ => blk2 m hok c t
    | ⟨3, _⟩ => blk3 m hok c t
    | ⟨4, _⟩ => (outsAt m hok c t.val t.isLt).1
  Φ t := Inv m hok c t.val (Nat.le_of_lt_succ t.isLt)
  q w := Pipeline.shareOf spec0 w
  owed _ := 0

theorem A_eq (c : Dev nD) (w : Fin (cfgE m hok).W) : (dats m hok 0 c).A w = V m c (Pipeline.arrRef spec0 w) := by
  dsimp only [dats]

theorem Inv_castSucc (c : Dev nD) (t : Fin (cfgE m hok).N) :
    (dats m hok 0 c).Φ t.castSucc = Inv m hok c t.val (Nat.le_of_lt t.isLt) := by
  dsimp only [dats]; exact Pipeline.Dat.Φ_castSucc (Inv m hok c) t

theorem after_0 (c : Dev nD) (t : Fin (cfgE m hok).N) : (dats m hok 0 c).after 0 t = blk0 m hok c t := rfl
theorem after_1 (c : Dev nD) (t : Fin (cfgE m hok).N) : (dats m hok 0 c).after 1 t = blk1 m hok c t := rfl
theorem after_2 (c : Dev nD) (t : Fin (cfgE m hok).N) : (dats m hok 0 c).after 2 t = blk2 m hok c t := rfl
theorem after_3 (c : Dev nD) (t : Fin (cfgE m hok).N) : (dats m hok 0 c).after 3 t = blk3 m hok c t := rfl
theorem after_4 (c : Dev nD) (t : Fin (cfgE m hok).N) : (dats m hok 0 c).after 4 t = (outsAt m hok c t.val t.isLt).1 := rfl

theorem before_0 (c : Dev nD) (t : Fin (cfgE m hok).N) (d) : (dats m hok 0 c).before 0 t d = blk0 m hok c t :=
  ((dats m hok 0 c).before_in_eq_fetched 0 rfl (fun _ => rfl) (fun _ _ _ => rfl) (fun t => by rw [after_0]; unfold Dat.blockOf blk0 iblk; rw [A_eq]; try rfl) t d).trans
    (by unfold Dat.fetched Dat.blockOf blk0 iblk; rw [A_eq]; try rfl)
theorem before_1 (c : Dev nD) (t : Fin (cfgE m hok).N) (d) : (dats m hok 0 c).before 1 t d = blk1 m hok c t :=
  ((dats m hok 0 c).before_in_eq_fetched 1 rfl (fun _ => rfl) (fun _ _ _ => rfl) (fun t => by rw [after_1]; unfold Dat.blockOf blk1 iblk; rw [A_eq]; try rfl) t d).trans
    (by unfold Dat.fetched Dat.blockOf blk1 iblk; rw [A_eq]; try rfl)
theorem before_2 (c : Dev nD) (t : Fin (cfgE m hok).N) (d) : (dats m hok 0 c).before 2 t d = blk2 m hok c t :=
  ((dats m hok 0 c).before_in_eq_fetched 2 rfl (fun _ => rfl) (fun _ _ _ => rfl) (fun t => by rw [after_2]; unfold Dat.blockOf blk2 iblk; rw [A_eq]; try rfl) t d).trans
    (by unfold Dat.fetched Dat.blockOf blk2 iblk; rw [A_eq]; try rfl)
theorem before_3 (c : Dev nD) (t : Fin (cfgE m hok).N) (d) : (dats m hok 0 c).before 3 t d = blk3 m hok c t :=
  ((dats m hok 0 c).before_in_eq_fetched 3 rfl (fun _ => rfl) (fun _ _ _ => rfl) (fun t => by rw [after_3]; unfold Dat.blockOf blk3 iblk; rw [A_eq]; try rfl) t d).trans
    (by unfold Dat.fetched Dat.blockOf blk3 iblk; rw [A_eq]; try rfl)

/-! ## The schedule of the output window -/

theorem coord0 (t : Fin grid0.N) : (grid0.coords t 0).val = t.val / 7 % 72 := Pipeline.Grid.coords_val t 0 (by decide) rfl
theorem coord1 (t : Fin grid0.N) : (grid0.coords t 1).val = t.val / 1 % 7 := Pipeline.Grid.coords_val t 1 (by decide) rfl

/-- The output block is written back at the last block of hidden columns. -/
theorem flush_4 : ∀ t : Fin (cfgE m hok).N, ((cfgE m hok).win 4).flush t = true ↔ t.val % 7 = 6 :=
  (fun t => Pipeline.Window.flush_reads ((cfgE m hok).win 4) rfl 0 (show 1 < grid0.bound 0 by decide) (show grid0.fixedAfter reads0_4 0 = true by decide) (Pipeline.Window.sep_of_coord cc0_transform_4 0 0 (fun _ => rfl) (by decide)) (P := 7) (m := 6) (show grid0.stride 0 = 7 by decide) rfl t :
    ∀ t : Fin grid0.N, ((cfgE m hok).win 4).flush t = true ↔ t.val % 7 = 6)

/-- The first conditional is taken at the first block of hidden columns. -/
theorem cond1_iff (t : Fin grid0.N) : k0_cond1 (grid0.coords t) = 1#1 ↔ t.val % 7 = 0 := by
  have h : k0_cond1 (grid0.coords t) = Scalar.cmpi .ne (Scalar.extui (Scalar.cmpi .eq (BitVec.ofNat 32 (t.val % 7)) 0#32) : BitVec 32) 0#32 := by
    unfold k0_cond1; rw [coord1, Nat.div_one]
  rw [h]
  have hlt : t.val % 7 < 7 := Nat.mod_lt _ (by decide)
  generalize t.val % 7 = n at hlt ⊢
  revert n; decide

/-- Where no conditional of the output is taken. -/
theorem idle_4 (i : grid0.Coords) : (cfgE m hok).idle 4 i = (!(k0_cond1 i == 1#1) && !(k0_cond3 i (used m) == 1#1)) := by
  have h : (tabs m).atD 1 ![0] = used m := by
    unfold Pipeline.Prefetch.Contents.atD used word
    rw [dif_pos (by intro a; fin_cases a; decide)]
    exact congrArg (tabs m 1) (funext fun a => by fin_cases a; rfl)
  show (!(k0_cond1 i == 1#1) && !(k0_cond3 i ((tabs m).atD 1 ![0]) == 1#1)) = _
  rw [h]

/-- Inside a tile's points the output block is never fresh. -/
theorem not_fresh : ∀ (n : ℕ) (h : n < (cfgE m hok).N), n % 7 ≠ 0 → (cfgE m hok).fresh 4 n = false
  | 0, _, h => absurd rfl h
  | n + 1, hn, h => by
      have hn' : n < (cfgE m hok).N := Nat.lt_of_succ_lt hn
      rw [Cfg.fresh_succ _ _ _ hn', Bool.or_eq_false_iff]
      refine ⟨Bool.eq_false_iff.mpr fun hf => ?_, ?_⟩
      · have := (flush_4 m hok ⟨n, hn'⟩).mp hf
        dsimp only at this; omega
      · by_cases h0 : n % 7 = 0
        · have hc : k0_cond1 (grid0.coords ⟨n, hn'⟩) = 1#1 := (cond1_iff ⟨n, hn'⟩).mpr h0
          have : (cfgE m hok).idle 4 ((cfgE m hok).grid.coords ⟨n, hn'⟩) = false := by
            rw [idle_4]
            show (!(k0_cond1 (grid0.coords ⟨n, hn'⟩) == 1#1) && _) = false
            rw [hc]; rfl
          rw [this, Bool.false_and]
        · rw [not_fresh n hn' h0, Bool.and_false]

/-- At an idle point the output block stays. -/
theorem sumOf_idle (t : Fin (cfgE m hok).N) (h : (cfgE m hok).idle 4 (grid0.coords t) = true) (x0 x1 x2 x3) (o : Vec F S512x2048 .f32) (hh) :
    sumOf (grid0.coords t) (used m) x0 x1 x2 x3 o hh = o := by
  rw [idle_4] at h
  simp only [Bool.and_eq_true, Bool.not_eq_true', beq_eq_false_iff_ne, ne_eq] at h
  unfold sumOf startOf
  rw [if_neg h.2, if_neg h.1]

theorem step_idle (c : Dev nD) (t : Fin (cfgE m hok).N) (hi : (cfgE m hok).idle 4 (grid0.coords t) = true) (p : Vec F S512x2048 .f32 × Vec F S512x2048 .bf16) :
    (step m hok c t p).1 = p.1 := by
  obtain ⟨o, h⟩ := p
  unfold step
  dsimp only
  exact sumOf_idle m hok t hi (blk0 m hok c t) (blk1 m hok c t) (blk2 m hok c t) (blk3 m hok c t) o h

theorem carried (c : Dev nD) (t : Fin (cfgE m hok).N) (hz : t.val ≠ 0) (hi : (cfgE m hok).idle 4 (grid0.coords t) = true) :
    (outsAt m hok c t.val t.isLt).1 = (outsAt m hok c (t.val - 1) (Nat.lt_of_le_of_lt (Nat.sub_le _ _) t.isLt)).1 :=
  (congrArg Prod.fst (outsAt_pos m hok c t hz)).trans (step_idle m hok c t hi _)

/-- After the first point of a tile the output block is what the point before left. -/
theorem before_4 (c : Dev nD) (t : Fin (cfgE m hok).N) (h : t.val % 7 ≠ 0) (d) :
    (dats m hok 0 c).before 4 t d = (outsAt m hok c (t.val - 1) (Nat.lt_of_le_of_lt (Nat.sub_le _ _) t.isLt)).1 :=
  ((dats m hok 0 c).before_out_traj 4 rfl (fun _ _ => rfl) (fun t hz hi _ => carried m hok c t hz hi) t.val t rfl d).trans
    ((if_neg (by rw [not_fresh m hok t.val t.isLt h]; exact Bool.false_ne_true)).trans (after_4 m hok c _))

/-! ## The body at a point -/

theorem step_start (c : Dev nD) (t : Fin (cfgE m hok).N) (h0 : t.val % 7 = 0) (o o' : Vec F S512x2048 .f32) (h : Vec F S512x2048 .bf16) :
    step m hok c t (o, h) = step m hok c t (o', h) := by
  have hs : startOf (grid0.coords t) o = startOf (grid0.coords t) o' := by
    unfold startOf; rw [if_pos ((cond1_iff t).mpr h0), if_pos ((cond1_iff t).mpr h0)]
  unfold step sumOf
  dsimp only
  rw [hs]

theorem rowsOf_first (i : grid0.Coords) (w : BitVec 32) (hc : cond2 i w = 1#1) (x0 : Vec F S512x2048 .f32) (h h' : Vec F S512x2048 .bf16) :
    rowsOf i w x0 h = rowsOf i w x0 h' := by
  unfold rowsOf; rw [if_pos hc, if_pos hc]

theorem step_first (c : Dev nD) (t : Fin (cfgE m hok).N) (hc : cond2 (grid0.coords t) (used m) = 1#1) (o : Vec F S512x2048 .f32) (h h' : Vec F S512x2048 .bf16) :
    step m hok c t (o, h) = step m hok c t (o, h') := by
  unfold step sumOf
  dsimp only
  rw [rowsOf_first _ _ hc _ h h']

variable (hfirst : ∀ t : Fin grid0.N, t.val = 0 → cond2 (grid0.coords t) (used m) = 1#1)

include hfirst in
/-- Whatever the two buffers hold that agrees with the point before, the step leaves the point's contents. -/
theorem step_eq (c : Dev nD) (t : Fin (cfgE m hok).N) (h : Vec F S512x2048 .bf16) (d)
    (hh : ∀ hz : t.val ≠ 0, h = (outsAt m hok c (t.val - 1) (Nat.lt_of_le_of_lt (Nat.sub_le _ _) t.isLt)).2) :
    step m hok c t ((dats m hok 0 c).before 4 t d, h) = outsAt m hok c t.val t.isLt := by
  by_cases hz : t.val = 0
  · obtain ⟨n, hn⟩ := t
    dsimp only at hz
    subst hz
    exact (step_start m hok c ⟨0, hn⟩ rfl _ _ _).trans (step_first m hok c ⟨0, hn⟩ (hfirst _ rfl) _ _ _)
  · rw [outsAt_pos m hok c t hz, hh hz]
    by_cases h0 : t.val % 7 = 0
    · exact step_start m hok c t h0 _ _ _
    · rw [before_4 m hok c t h0 d]

theorem step_fst (c : Dev nD) (t : Fin (cfgE m hok).N) (o : Vec F S512x2048 .f32) (h : Vec F S512x2048 .bf16) (p : Vec F S512x2048 .f32 × Vec F S512x2048 .bf16)
    (hp : step m hok c t (o, h) = p) :
    sumOf (grid0.coords t) (used m) (blk0 m hok c t) (blk1 m hok c t) (blk2 m hok c t) (blk3 m hok c t) o h = p.1
      ∧ rowsOf (grid0.coords t) (used m) (blk0 m hok c t) h = p.2 := by
  subst hp
  unfold step
  exact ⟨rfl, rfl⟩

theorem owes_succ (c : Dev nD) (t : Fin (cfgE m hok).N) : (dats m hok 0 c).owesAt () t.succ = (dats m hok 0 c).owesAt () t.castSucc := rfl

theorem Phi_succ (c : Dev nD) (t : Fin (cfgE m hok).N) : (dats m hok 0 c).Φ t.succ =
    iprop(iprop(owns (c : Thread nD τ) scr fullShare (outsAt m hok c t.val t.isLt).2 ∗ (∃ r, prngReg c r)) ∗ tabsHeld m c) := by
  dsimp only [dats]; rfl

/-- The body at point `t`, on the buffers the pipeline hands it. -/
abbrev bodyAt (t : Fin (cfgE m hok).N) : Prog (TpuEff nD τ sig (Elt F) Λ₀ .tc) PUnit :=
  cc0_expert_ffn (grid0.coords t) (Memref.whole main_v18) (Memref.isWhole_whole _) (Memref.whole main_v6) (Memref.isWhole_whole _)
    (spec0_0.stage ((cfgE m hok).slots t 0)) (hstage0_0 (((cfgE m hok).slots t 0).cast nbuf0_0))
    (spec0_1.stage ((cfgE m hok).slots t 1)) (hstage0_1 (((cfgE m hok).slots t 1).cast nbuf0_1))
    (spec0_2.stage ((cfgE m hok).slots t 2)) (hstage0_2 (((cfgE m hok).slots t 2).cast nbuf0_2))
    (spec0_3.stage ((cfgE m hok).slots t 3)) (hstage0_3 (((cfgE m hok).slots t 3).cast nbuf0_3))
    (spec0_4.stage ((cfgE m hok).slots t 4)) (hstage0_4 (((cfgE m hok).slots t 4).cast nbuf0_4))
    (Memref.whole cc0_scratch0) (Memref.isWhole_whole _)

/-- The staging buffers of point `t`. -/
abbrev st (w : Fin (cfgE m hok).W) (t : Fin (cfgE m hok).N) := ((cfgE m hok).win w).stage ((cfgE m hok).slots t w)

/-- What the body must leave in the output's buffer: where it is idle, what it found, unless the block is written back. -/
def left4 (c : Dev nD) (t : Fin (cfgE m hok).N) : sProp 𝕄 :=
  match (cfgE m hok).idle 4 ((cfgE m hok).grid.coords t) with
  | true =>
    match ((cfgE m hok).win 4).flush t with
    | false => iprop(∃ d, owns (c : Thread nD τ) (st m hok 4 t) fullShare ((dats m hok 0 c).before 4 t d))
    | true => owns (c : Thread nD τ) (st m hok 4 t) fullShare ((dats m hok 0 c).after 4 t)
  | false => owns (c : Thread nD τ) (st m hok 4 t) fullShare ((dats m hok 0 c).after 4 t)

theorem left4_intro (c : Dev nD) (t : Fin (cfgE m hok).N) (X) (h1 : X = (dats m hok 0 c).after 4 t)
    (h2 : (cfgE m hok).idle 4 ((cfgE m hok).grid.coords t) = true → ∃ d, X = (dats m hok 0 c).before 4 t d) :
    owns (c : Thread nD τ) (st m hok 4 t) fullShare X ⊢ left4 m hok c t := by
  unfold left4
  cases hi : (cfgE m hok).idle 4 ((cfgE m hok).grid.coords t)
  · dsimp only; rw [h1]
  · cases hf : ((cfgE m hok).win 4).flush t
    · dsimp only
      obtain ⟨d, hd⟩ := h2 hi
      rw [hd]
      iintro H; iexists d; iexact H
    · dsimp only; rw [h1]

/-- The invariant opened: the scratch block at some contents, those of the point before unless there is none. -/
theorem Inv_open (c : Dev nD) (n : ℕ) (hn : n ≤ (cfgE m hok).N) :
    Inv m hok c n hn ⊢ iprop(∃ h, ⌜∀ hz : n ≠ 0, h = (outsAt m hok c (n - 1) (by omega)).2⌝ ∗ owns (c : Thread nD τ) scr fullShare h ∗ (∃ r, prngReg c r) ∗ tabsHeld m c) := by
  by_cases hz : n = 0
  · rw [Inv_zero m hok c n hn hz, PhiA_eq]
    iintro ⟨⟨⟨%h, HS⟩, Hg⟩, HT⟩
    iexists h
    isplitr; · ipureintro; exact fun h => absurd hz h
    isplitl [HS]; · iexact HS
    isplitl [Hg]; · iexact Hg
    iexact HT
  · rw [Inv_pos m hok c n hn hz]
    iintro ⟨⟨HS, Hg⟩, HT⟩
    iexists (outsAt m hok c (n - 1) (by omega)).2
    isplitr; · ipureintro; exact fun _ => rfl
    isplitl [HS]; · iexact HS
    isplitl [Hg]; · iexact Hg
    iexact HT

/-- What the body is called with at point `t`, -/
def bodyPre (c : Dev nD) (t : Fin (cfgE m hok).N) : sProp 𝕄 :=
  iprop((dats m hok 0 c).Φ t.castSucc ∗ (dats m hok 0 c).owesAt () t.castSucc
    ∗ (∃ d, owns (c : Thread nD τ) (st m hok 0 t) fullShare ((dats m hok 0 c).before 0 t d))
    ∗ (∃ d, owns (c : Thread nD τ) (st m hok 1 t) fullShare ((dats m hok 0 c).before 1 t d))
    ∗ (∃ d, owns (c : Thread nD τ) (st m hok 2 t) fullShare ((dats m hok 0 c).before 2 t d))
    ∗ (∃ d, owns (c : Thread nD τ) (st m hok 3 t) fullShare ((dats m hok 0 c).before 3 t d))
    ∗ (∃ d, owns (c : Thread nD τ) (st m hok 4 t) fullShare ((dats m hok 0 c).before 4 t d)))

/-- and what it returns. -/
def bodyPost (c : Dev nD) (t : Fin (cfgE m hok).N) : sProp 𝕄 :=
  iprop((dats m hok 0 c).Φ t.succ ∗ (dats m hok 0 c).owesAt () t.succ
    ∗ owns (c : Thread nD τ) (st m hok 0 t) fullShare ((dats m hok 0 c).after 0 t)
    ∗ owns (c : Thread nD τ) (st m hok 1 t) fullShare ((dats m hok 0 c).after 1 t)
    ∗ owns (c : Thread nD τ) (st m hok 2 t) fullShare ((dats m hok 0 c).after 2 t)
    ∗ owns (c : Thread nD τ) (st m hok 3 t) fullShare ((dats m hok 0 c).after 3 t)
    ∗ left4 m hok c t)

include hfirst in
set_option maxHeartbeats 1600000 in
/-- The body at any point. -/
theorem sound_body (c : Dev nD) (t : Fin (cfgE m hok).N) :
    bodyPre m hok c t ⊢ wp frame (wpE (defs₀ (F := F)) Variants.none c none) Set.univ (bodyAt m hok t) (fun _ => bodyPost m hok c t) := by
  unfold bodyPre bodyPost bodyAt
  simp only [before_0, before_1, before_2, before_3]
  rw [owes_succ, after_0, after_1, after_2, after_3, Phi_succ, Inv_castSucc m hok c t]
  refine (sep_mono (Inv_open m hok c t.val _) .rfl).trans ?_
  iintro ⟨⟨%h, %hh, HS, Hg, HT⟩, Ho, ⟨%d0, H0⟩, ⟨%d1, H1⟩, ⟨%d2, H2⟩, ⟨%d3, H3⟩, ⟨%d4, H4⟩⟩
  unfold tabsHeld
  icases HT with ⟨HT0, HT1⟩
  obtain ⟨hs1, hs2⟩ := step_fst m hok c t _ h _ (step_eq m hok hfirst c t h d4 hh)
  iapply (run_point c (grid0.coords t) _ _ _ _ _ _ _ _ _ _ _ _ _ _ _ _ fullShare.right (tabs m 1) (blk0 m hok c t) (blk1 m hok c t)
    (blk2 m hok c t) (blk3 m hok c t) ((dats m hok 0 c).before 4 t d4) h (used m) (used_eq m) Set.univ _)
  isplitl [HT1]; · iexact HT1
  isplitl [H0]; · iexact H0
  isplitl [H1]; · iexact H1
  isplitl [H2]; · iexact H2
  isplitl [H3]; · iexact H3
  isplitl [H4]; · iexact H4
  isplitl [HS]; · iexact HS
  iintro ⟨HT1, H0, H1, H2, H3, H4, HS⟩
  rw [hs1, hs2]
  isplitl [HS Hg HT0 HT1]
  · isplitl [HS Hg]
    · isplitl [HS]; · iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iapply (left4_intro m hok c t _ rfl (fun hi => ⟨d4, hs1.symm.trans (sumOf_idle m hok t hi _ _ _ _ _ _)⟩))
  iexact H4

theorem defs₀_row (t : Fin (cfgE m hok).N) :
    defs₀ (F := F) .tc (cfgE m hok).body ((cfgE m hok).bodyArgs t ((cfgE m hok).slots t)) = bodyAt m hok t := by
  unfold defs₀; rw [Defs.onTc_tc]

include hfirst in
/-- The library's body obligation, at every point. -/
theorem body_obligation (c : Dev nD) : BodyObligation (dats m hok 0 c) (defs₀ (F := F)) Variants.none () Set.univ := fun t => by
  rw [bigSep_W0, bigSep_W0, defs₀_row]
  exact triple_restated (sound_body m hok hfirst c t) rfl .rfl fun _ => .rfl

theorem hin (c : Dev nD) : iprop(Pipeline.ΦA spec0 c ∗ Pipeline.ΦT pre0 (tabs m) c) ⊢ (dats m hok 0 c).Φ 0 := by
  rw [show (dats m hok 0 c).Φ 0 = Inv m hok c 0 (Nat.zero_le _) from rfl, Inv_zero m hok c 0 _ rfl, tabsHeld_eq]

theorem hout (c : Dev nD) : (dats m hok 0 c).Φ (Fin.last (cfgE m hok).N) ⊢ Pipeline.ΦA spec0 c := by
  rw [show (dats m hok 0 c).Φ (Fin.last (cfgE m hok).N) = Inv m hok c (cfgE m hok).N (Nat.le_refl _) from rfl,
    Inv_pos m hok c _ _ (by show grid0.N ≠ 0; rw [N_0]; decide), PhiA_eq]
  iintro ⟨⟨HS, Hg⟩, -⟩
  isplitl [HS]; · iexists _; iexact HS
  iexact Hg

/-! ## The run -/

theorem hmain : Pipeline.HMainP (Ix := Unit) (Name := ℕ) (U := UR sig nD τ) (Lvl := ℕ) (pcfgs (F := F)) 0 defs₀ Variants.none m (main (F := F)) (V m) :=
  Pipeline.hmainP_prefixes (pcfgs (F := F)) 0 defs₀ Variants.none m main [hostOps0, hostOps0_1, hostOps0_2, hostOps0_3]
    ⟨hostOps0_sub, hostOps0_1_sub, hostOps0_2_sub, hostOps0_3_sub⟩ (by simp only [List.Forall]; repeat' constructor) main_chain

set_option backward.isDefEq.respectTransparency.types false in
include hfirst in
theorem run : θ_run defs (onTc (τ := τ) (main (F := F))) (s₀ m ρ)
    (fun r => Pipeline.FramePost (Pipeline.pin (pcfgs (F := F)) (adm m hok)) (dats m hok) 0 (V m) r ∧ r.2.sem = fun _ => 0) :=
  Pipeline.θ_run_frameP_track_shared (Q' := _) (pcfgs (F := F)) (adm m hok) (dats m hok) (0 : Fin 1) launch0.to₀ defs₀ Variants.none m ρ main
    (hbody := fun c => (body_obligation m hok hfirst c).loose) (hq := fun _ _ _ => rfl)
    (howed := fun _ _ => rfl) (V := V m) (hmain := hmain m) (hA := A_eq m hok)
    (hpf := fun c k => by obtain rfl : c = 0 := Subsingleton.elim _ _; rfl) (hin := hin m hok) (hout := hout m hok)

end Cert.Experts
end
-- ==== Proof.ExpertsTables.lean ====
/-
  The experts' two tables, of counts that add up to the number of pairs: how many tiles each expert has, where its tiles
  end, how many tiles hold rows, which expert a tile belongs to; and that every block the call asks for lies inside its
  array.
-/
module

public import proofs.«01_k».proof.Proof.ExpertsFrame
public import proofs.«01_k».proof.Pre_counts_of_all_pairs
public import Idealize.ShloMosaic.Lib.Routing.Ops
public import Idealize.ShloMosaic.Lib.Routing.Words
public import Idealize.ShloMosaic.Lib.PlanTiles.Rows
public import Idealize.ShloMosaic.Lib.WordCmp
public import Idealize.ShloMosaic.Lib.Affine
public import Idealize.ShloMosaic.Lib.StableHlo.Run

@[expose] public section

set_option maxRecDepth 16384

noncomputable section

namespace Cert.Experts

open Cert.Kernel7Ideal Cert.Kernel7Ideal.Gen
open Idealize.ShloMosaic Idealize.ShloMosaic.TcCoe Idealize.ShloMosaic.Routing Idealize.SL.Sem Idealize.ShloMosaic.ValueIdx
open Idealize.ShloMosaic.WordCmp (cmpi_at select_at constantI_at andi_at cmpi_sge_ofNat_eq_one_iff cmpi_slt_ofNat_eq_one_iff cmpi_sle_ofNat_eq_one_iff select_decide)

/-- The tiles of 512 rows an expert of `f k` pairs takes. -/
def tl (f : ℕ → ℕ) (k : ℕ) : ℕ := (f k + 511) / 512

/-- The tiles of the experts before the `n`-th. -/
def upto (f : ℕ → ℕ) (n : ℕ) : ℕ := ((List.range n).map (tl f)).sum

theorem upto_succ (f : ℕ → ℕ) (n : ℕ) : upto f (n + 1) = upto f n + tl f n := by
  unfold upto; rw [List.range_succ]; simp

theorem upto_mono (f : ℕ → ℕ) {a b : ℕ} (h : a ≤ b) : upto f a ≤ upto f b := by
  induction b, h using Nat.le_induction with
  | base => exact le_rfl
  | succ n _ ih => rw [upto_succ]; omega

/-- Counts of eight experts that add up to the number of pairs. -/
structure Counts (x : IVec S8 32) (f : ℕ → ℕ) : Prop where
  word : ∀ i : Fin 8, x (ix1 i) = BitVec.ofNat 32 (f i.val)
  le : ∀ k, f k ≤ 32768
  sum : ((List.range 8).map f).sum = 32768

section Nats
variable {x : IVec S8 32} {f : ℕ → ℕ} (h : Counts x f)
include h

theorem sum_eq : f 0 + f 1 + f 2 + f 3 + f 4 + f 5 + f 6 + f 7 = 32768 := by
  have := h.sum
  simp [List.range_succ] at this
  omega

theorem upto_eight : upto f 8 = tl f 0 + tl f 1 + tl f 2 + tl f 3 + tl f 4 + tl f 5 + tl f 6 + tl f 7 := by
  unfold upto; simp [List.range_succ]; omega

theorem upto_eight_pos : 1 ≤ upto f 8 := by
  have h1 := sum_eq h
  rw [upto_eight h]; unfold tl; omega

theorem upto_eight_le : upto f 8 ≤ 72 := by
  have h1 := sum_eq h
  rw [upto_eight h]; unfold tl; omega

end Nats

/-- A word between two signed bounds. -/
theorem toNat_le_of_between (w : BitVec 32) (h1 : IntOp.cmpi .sge w 0#32 = 1#1) (h2 : IntOp.cmpi .sle w 32768#32 = 1#1) : w.toNat ≤ 32768 := by
  have a := (StableHlo.Predicate.ofBool_eq_one_iff _).1 h1
  have b := (StableHlo.Predicate.ofBool_eq_one_iff _).1 h2
  have a' : (0#32 : BitVec 32).toInt ≤ w.toInt := by simpa [BitVec.sle] using a
  have b' : w.toInt ≤ (32768#32 : BitVec 32).toInt := by simpa [BitVec.sle] using b
  rw [show (0#32 : BitVec 32).toInt = 0 from rfl] at a'
  rw [show (32768#32 : BitVec 32).toInt = 32768 from rfl] at b'
  rw [BitVec.toInt_eq_toNat_cond] at a' b'
  split at a' <;> omega

/-- The precondition gives such counts. -/
theorem counts_of_pre [Cert.Pre_counts_of_all_pairs.Facts] {F : FTy → Type} [FloatOps F] (a0 : FVec F S36864x2048 .f32) (x : IVec S8 32)
    (a2 a3 : FVec F S8x2048x7168 .f32) (a4 : FVec F S8x7168x2048 .f32)
    (h : Cert.Pre_counts_of_all_pairs.fn (F := F) a0 x a2 a3 a4 = fun _ => 1#1) : ∃ f, Counts x f := by
  have h0 : ∀ i : Fin 8, (x (ix1 i)).toNat ≤ 32768 ∧ Host.reduce IntOp.addi x (constantI S_ 32 0#32) Cert.Pre_counts_of_all_pairs.Facts.reducesTo_S8_S_d0 Cert.Pre_counts_of_all_pairs.Facts.h_S_ ix0 = 32768#32 := by
    intro i
    have e := congrFun h (ix1 i)
    unfold Cert.Pre_counts_of_all_pairs.fn at e
    simp only [andi_at, cmpi_at, bc0, constantI_at, IntOp.andi_eq_one] at e
    exact ⟨toNat_le_of_between _ e.1.1 e.1.2, StableHlo.Predicate.cmpi_eq_iff.1 e.2⟩
  obtain ⟨g, hg, hle⟩ : ∃ g : ℕ → ℕ, (∀ i : Fin 8, x (ix1 i) = BitVec.ofNat 32 (g i.val)) ∧ ∀ k, g k ≤ 32768 := by
    refine ⟨fun k => if hk : k < 8 then (x (ix1 ⟨k, hk⟩)).toNat else 0, fun i => ?_, fun k => ?_⟩
    · beta_reduce; rw [dif_pos i.isLt]; simp
    · beta_reduce; split
      · exact (h0 _).1
      · omega
  refine ⟨g, hg, hle, ?_⟩
  have e := (h0 0).2
  rw [reduce_sum (N := 8) x g hg] at e
  have e' := congrArg BitVec.toNat e
  rw [BitVec.toNat_ofNat, BitVec.toNat_ofNat] at e'
  have b : ((List.range 8).map g).sum ≤ 8 * 32768 := by
    simp [List.range_succ]
    have b0 := hle 0; have b1 := hle 1; have b2 := hle 2; have b3 := hle 3
    have b4 := hle 4; have b5 := hle 5; have b6 := hle 6; have b7 := hle 7
    omega
  omega

/-! ## The tables -/

/-- The tiles of every expert, as the host counts them. -/
def tilesOf (x : IVec S8 32) : IVec S8 32 :=
  pyDiv bcast_S_S8 (subi (addi x (broadcastInDim S8 ![] bcast_S_S8 (constantI S_ 32 512#32))) (broadcastInDim S8 ![] bcast_S_S8 (constantI S_ 32 1#32)))
    (constantI S_ 32 512#32)

/-- Where every expert's tiles end. -/
def endOf (x : IVec S8 32) : IVec S8 32 :=
  Host.reduceWindow IntOp.addi ![8] ![1] ![7] ![0] (tilesOf x) (broadcastInDim S_ ![] bcast_S_S_ (constantI S_ 32 0#32)) reduceWindows_S8_S8_w8s1p7_0 h_S_

/-- How many tiles hold rows. -/
def usedOf (x : IVec S8 32) : IVec S1 32 := extractStridedSlice S1 ![7] (endOf x) slices_S8_S1_7

/-- The tiles' experts: how many of them end at or before a tile, a tile past the last taken as the last. -/
def ownerOf (x : IVec S8 32) : IVec S72 32 :=
  Host.reduce IntOp.addi (extui 32 (cmpi .sge
      (broadcastInDim S72x8 ![0, 1] bcast_S72x1_S72x8_0_1 (broadcastInDim S72x1 ![0] bcast_S72_S72x1_0 (minsi (iotaInDim S72 32 0)
        (broadcastInDim S72 ![] bcast_S_S72 (subi (shapeCast S_ (usedOf x) shapeCasts_S1_S_) (constantI S_ 32 1#32))))))
      (broadcastInDim S72x8 ![0, 1] bcast_S1x8_S72x8_0_1 (broadcastInDim S1x8 ![1] bcast_S8_S1x8_1 (endOf x)))) natLt_1_32)
    (constantI S_ 32 0#32) reducesTo_S72x8_S72_d1 h_S_

section Words
variable {x : IVec S8 32} {f : ℕ → ℕ} (h : Counts x f)
include h

theorem tilesOf_at (i : Fin 8) : tilesOf x (ix1 i) = BitVec.ofNat 32 (tl f i.val) := by
  have hb := h.le i.val
  unfold tilesOf tl
  refine pyDiv_ap bcast_S_S8 _ _ _ ?_ rfl (by omega) (by decide) (by decide)
  show x (ix1 i) + BitVec.ofNat 32 512 - 1#32 = _
  rw [h.word i, ← BitVec.ofNat_add, show (1#32 : BitVec 32) = BitVec.ofNat 32 1 from rfl, ofNat32_sub (by omega)]
  rfl

theorem endOf_at (i : Fin 8) : endOf x (ix1 i) = BitVec.ofNat 32 (upto f (i.val + 1)) := by
  unfold endOf upto
  exact cumsum1 (N := 8) (Nm1 := 7) rfl (tilesOf x) (tl f) (tilesOf_at h) _ (bc0 _ _ _) reduceWindows_S8_S8_w8s1p7_0 h_S_ i

theorem usedOf_at (i : Fin 1) : usedOf x (ix1 i) = BitVec.ofNat 32 (upto f 8) := by
  unfold usedOf
  rw [slice1 (m := 8) (n := 1) 7 (endOf x) slices_S8_S1_7 i (by omega)]
  refine (endOf_at h _).trans ?_
  congr 2
  show 7 + i.val + 1 = 8
  omega

omit h in
theorem cast_one (v : IVec S1 32) : shapeCast S_ v shapeCasts_S1_S_ ix0 = v (ix1 0) := by
  unfold shapeCast
  exact congrArg v (funext fun a => by match a with | ⟨0, _⟩ => exact Subsingleton.elim (α := Fin 1) _ _)

attribute [local irreducible] tilesOf endOf usedOf

/-- The expert of a tile, a tile past the last taken as the last. -/
theorem ownerOf_at (i : Fin 72) : ownerOf x (ix1 i) = BitVec.ofNat 32 (Nat.count (fun e => upto f (e + 1) ≤ min i.val (upto f 8 - 1)) 8) := by
  have hp := upto_eight_pos h
  have hl := upto_eight_le h
  unfold ownerOf
  refine reduce_count (n := 72) (m := 8) (by norm_num) _ natLt_1_32 reducesTo_S72x8_S72_d1 h_S_ i _ fun q => ?_
  have hq : upto f (q.val + 1) ≤ upto f 8 := upto_mono f (by omega)
  rw [cmpi_at, bcRows, bcCols, endOf_at h]
  have e : minsi (iotaInDim S72 32 0) (broadcastInDim S72 ![] bcast_S_S72 (subi (shapeCast S_ (usedOf x) shapeCasts_S1_S_) (constantI S_ 32 1#32))) (ix1 i)
      = BitVec.ofNat 32 (min i.val (upto f 8 - 1)) := by
    show IntOp.minsi (BitVec.ofNat 32 i.val) (broadcastInDim S72 ![] bcast_S_S72 (subi (shapeCast S_ (usedOf x) shapeCasts_S1_S_) (constantI S_ 32 1#32)) (ix1 i)) = _
    rw [bc0, subi_ap, constantI_at, cast_one, usedOf_at h]
    rw [show (1#32 : BitVec 32) = BitVec.ofNat 32 1 from rfl, ofNat32_sub hp, PlanTiles.minsi_word (by omega) (by omega), min_comm]
  rw [e, cmpi_sge_ofNat_eq_one_iff (w := 32) (by omega) (by omega)]

theorem count_lt (i : ℕ) : Nat.count (fun e => upto f (e + 1) ≤ min i (upto f 8 - 1)) 8 < 8 := by
  have hp := upto_eight_pos h
  rw [Nat.count_succ, if_neg (show ¬upto f (7 + 1) ≤ min i (upto f 8 - 1) from fun hh => by
    have : upto f 8 ≤ min i (upto f 8 - 1) := hh
    omega)]
  exact Nat.lt_succ_of_le (Nat.count_le (p := fun e => upto f (e + 1) ≤ min i (upto f 8 - 1)) (n := 7))

end Words

/-- The expert of tile `i`. -/
def owner (f : ℕ → ℕ) (i : ℕ) : ℕ := Nat.count (fun e => upto f (e + 1) ≤ min i (upto f 8 - 1)) 8

section Held
variable {F : FTy → Type} [FloatOps F] (m : (ℓ : Loc nD τ sig) → Buf (Elt F) ℓ)

set_option maxHeartbeats 2000000 in
theorem V_used (c : Dev nD) : @Eq (IVec S1 32) (V m c main_v6) (usedOf (m ((c : Thread nD τ).loc main_arg1))) := by
  unfold V
  simp only [hostOps0, hostOps0_1, hostOps0_2, hostOps0_3, StableHlo.TRef.binary, StableHlo.TRef.nullary, StableHlo.TRef.ternary, StableHlo.TRef.unary,
    StableHlo.TRef.toBuf, StableHlo.TRef.ofBuf, cast_eq, List.flatten_cons, List.flatten_nil, List.append_nil, List.cons_append, List.nil_append]
  after_results_simp
  rfl

set_option maxHeartbeats 2000000 in
theorem V_owner (c : Dev nD) : @Eq (IVec S72 32) (V m c main_v18) (ownerOf (m ((c : Thread nD τ).loc main_arg1))) := by
  unfold V
  simp only [hostOps0, hostOps0_1, hostOps0_2, hostOps0_3, StableHlo.TRef.binary, StableHlo.TRef.nullary, StableHlo.TRef.ternary, StableHlo.TRef.unary,
    StableHlo.TRef.toBuf, StableHlo.TRef.ofBuf, cast_eq, List.flatten_cons, List.flatten_nil, List.append_nil, List.cons_append, List.nil_append]
  after_results_simp
  rfl

variable {f : ℕ → ℕ} (h : Counts (m (((0 : Dev nD) : Thread nD τ).loc main_arg1)) f)
include h

theorem used_at : used m = BitVec.ofNat 32 (upto f 8) := by
  refine (used_eq m).symm.trans ?_
  refine Eq.trans ?_ (usedOf_at h 0)
  show tabs m 1 _ = _
  refine Eq.trans ?_ (congrFun (V_used m 0) (ix1 0))
  exact congrArg (V m 0 main_v6) (funext fun a => by match a with | ⟨0, _⟩ => rfl)

theorem at_one : (tabs m).at 1 (Rect.unit (s := S1) ![0] S1.size inb_S1_S1_0) numel1_S1 = BitVec.ofNat 32 (upto f 8) := by
  refine Eq.trans ?_ (usedOf_at h 0)
  refine Eq.trans ?_ (congrFun (V_used m 0) (ix1 0))
  exact congrArg (V m 0 main_v6) (funext fun a => by match a with | ⟨0, _⟩ => rfl)

theorem at_zero (i : grid0.Coords) : (tabs m).at 0 (Rect.unit (s := S72) ![(Scalar.indexCast (BitVec.ofNat 32 (i 0).val) : BitVec 32).toNat] S1.size (k0_off1_inb i)) numel1_S1
    = BitVec.ofNat 32 (owner f (i 0).val) := by
  refine Eq.trans ?_ (ownerOf_at h (i 0))
  refine Eq.trans ?_ (congrFun (V_owner m 0) (ix1 (i 0)))
  refine congrArg (V m 0 main_v18) (funext fun a => ?_)
  match a with
  | ⟨0, _⟩ =>
    apply Fin.ext
    show (BitVec.ofNat 32 (i 0).val).toNat + 1 * 0 = (i 0).val
    have : (i 0).val < 72 := (i 0).isLt
    rw [BitVec.toNat_ofNat]
    omega

/-- The block of rows a point reads: its tile's, past the last used tile the last used one's. -/
theorem tr0 (i : grid0.Coords) : cc0_transform_0 inb_S1_S1_0 numel1_S1 (tabs m) i = ![min (i 0).val (upto f 8 - 1), 0] := by
  have h0 : (i 0).val < 72 := (i 0).isLt
  have hp := upto_eight_pos h
  have hl := upto_eight_le h
  unfold cc0_transform_0
  dsimp only
  rw [at_one m h]
  have e : Scalar.minsi (BitVec.ofNat 32 (i 0).val) (Scalar.subi (BitVec.ofNat 32 (upto f 8)) 1#32) = BitVec.ofNat 32 (min (i 0).val (upto f 8 - 1)) := by
    show IntOp.minsi (BitVec.ofNat 32 (i 0).val) (BitVec.ofNat 32 (upto f 8) - BitVec.ofNat 32 1) = _
    rw [ofNat32_sub hp, PlanTiles.minsi_word (by omega) (by omega), min_comm]
  rw [e, BitVec.toNat_ofNat, Nat.mod_eq_of_lt (by omega)]
  rfl

omit h in
theorem select_word (a n j : ℕ) (ha : a < 2 ^ 31) (hn : n < 2 ^ 31) (hj : j < 2 ^ 31) :
    (Scalar.select (Scalar.cmpi .slt (BitVec.ofNat 32 a) (BitVec.ofNat 32 n)) (BitVec.ofNat 32 j) 6#32 : BitVec 32).toNat = if a < n then j else 6 := by
  rw [WordCmp.scalar_cmpi_eq]
  by_cases hc : a < n
  · rw [if_pos hc, WordCmp.select_of_eq_one ((cmpi_slt_ofNat_eq_one_iff (w := 32) ha hn).2 hc), BitVec.toNat_ofNat, Nat.mod_eq_of_lt (by omega)]
  · rw [if_neg hc, WordCmp.select_of_eq_zero ((WordCmp.cmpi_slt_ofNat_eq_zero_iff (w := 32) ha hn).2 (by omega))]
    rfl

theorem owner_lt (i : ℕ) : owner f i < 8 := count_lt h i

/-- The block of a weight's hidden columns a point reads: its own, past the last used tile the last. -/
theorem tr1 (i : grid0.Coords) : cc0_transform_1 k0_off1_inb numel1_S1 inb_S1_S1_0 (tabs m) i = ![owner f (i 0).val, 0, if (i 0).val < upto f 8 then (i 1).val else 6] := by
  have h0 : (i 0).val < 72 := (i 0).isLt
  have h1 : (i 1).val < 7 := (i 1).isLt
  have hl := upto_eight_le h
  have ho := owner_lt m h (i 0).val
  unfold cc0_transform_1
  dsimp only
  rw [at_one m h, at_zero m h, select_word _ _ _ (by omega) (by omega) (by omega), BitVec.toNat_ofNat, Nat.mod_eq_of_lt (by omega)]
  rfl

theorem tr2 (i : grid0.Coords) : cc0_transform_2 k0_off1_inb numel1_S1 inb_S1_S1_0 (tabs m) i = ![owner f (i 0).val, 0, if (i 0).val < upto f 8 then (i 1).val else 6] :=
  tr1 m h i

theorem tr3 (i : grid0.Coords) : cc0_transform_3 k0_off1_inb numel1_S1 inb_S1_S1_0 (tabs m) i = ![owner f (i 0).val, if (i 0).val < upto f 8 then (i 1).val else 6, 0] := by
  have h0 : (i 0).val < 72 := (i 0).isLt
  have h1 : (i 1).val < 7 := (i 1).isLt
  have hl := upto_eight_le h
  have ho := owner_lt m h (i 0).val
  unfold cc0_transform_3
  dsimp only
  rw [at_one m h, at_zero m h, select_word _ _ _ (by omega) (by omega) (by omega), BitVec.toNat_ofNat, Nat.mod_eq_of_lt (by omega)]
  rfl

omit h in
theorem col_lt (i : grid0.Coords) (n : ℕ) : (if (i 0).val < n then (i 1).val else 6) < 7 := by
  have h1 : (i 1).val < 7 := (i 1).isLt
  split <;> omega

/-- Every block the call asks for lies inside its array. -/
theorem ok : ok0 (tabs m) := by
  unfold ok0
  have hp := upto_eight_pos h
  have hl := upto_eight_le h
  refine ⟨fun i => ⟨fun a => ?_, .inl rfl⟩, fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · rw [tr0 m h i]
    match a with
    | ⟨0, _⟩ => show (min (i 0).val (upto f 8 - 1) + 1) * 512 ≤ 36864; omega
    | ⟨1, _⟩ => show (0 + 1) * 2048 ≤ 2048; omega
  · rw [tr1 m h i]
    have ho := owner_lt m h (i 0).val
    have hcl := col_lt i (upto f 8)
    match a with
    | ⟨0, _⟩ => show (owner f (i 0).val + 1) * 1 ≤ 8; omega
    | ⟨1, _⟩ => show (0 + 1) * 2048 ≤ 2048; omega
    | ⟨2, _⟩ => show ((if (i 0).val < upto f 8 then (i 1).val else 6) + 1) * 1024 ≤ 7168; omega
  · rw [tr2 m h i]
    have ho := owner_lt m h (i 0).val
    have hcl := col_lt i (upto f 8)
    match a with
    | ⟨0, _⟩ => show (owner f (i 0).val + 1) * 1 ≤ 8; omega
    | ⟨1, _⟩ => show (0 + 1) * 2048 ≤ 2048; omega
    | ⟨2, _⟩ => show ((if (i 0).val < upto f 8 then (i 1).val else 6) + 1) * 1024 ≤ 7168; omega
  · rw [tr3 m h i]
    have ho := owner_lt m h (i 0).val
    have hcl := col_lt i (upto f 8)
    match a with
    | ⟨0, _⟩ => show (owner f (i 0).val + 1) * 1 ≤ 8; omega
    | ⟨1, _⟩ => show ((if (i 0).val < upto f 8 then (i 1).val else 6) + 1) * 1024 ≤ 7168; omega
    | ⟨2, _⟩ => show (0 + 1) * 2048 ≤ 2048; omega

/-- A point whose tile holds rows. -/
theorem cond3_iff (i : grid0.Coords) : k0_cond3 i (used m) = 1#1 ↔ (i 0).val < upto f 8 := by
  have h0 : (i 0).val < 72 := (i 0).isLt
  have hl := upto_eight_le h
  rw [used_at m h]
  have e := cmpi_slt_ofNat_eq_one_iff (w := 32) (a := (i 0).val) (b := upto f 8) (by omega) (by omega)
  rw [← e]
  show IntOp.cmpi .ne ((IntOp.cmpi .slt (BitVec.ofNat 32 (i 0).val) (BitVec.ofNat 32 (upto f 8))).setWidth 32) 0#32 = 1#1 ↔ _
  generalize IntOp.cmpi .slt (BitVec.ofNat 32 (i 0).val) (BitVec.ofNat 32 (upto f 8)) = b
  revert b; decide

/-- The first point of a tile that holds rows. -/
theorem cond2_iff (i : grid0.Coords) : cond2 i (used m) = 1#1 ↔ (i 0).val < upto f 8 ∧ (i 1).val = 0 := by
  have h0 : (i 0).val < 72 := (i 0).isLt
  have h1 : (i 1).val < 7 := (i 1).isLt
  have hl := upto_eight_le h
  rw [used_at m h]
  have e := cmpi_slt_ofNat_eq_one_iff (w := 32) (a := (i 0).val) (b := upto f 8) (by omega) (by omega)
  have e' : IntOp.cmpi .eq (BitVec.ofNat 32 (i 1).val) 0#32 = 1#1 ↔ (i 1).val = 0 := by
    rw [StableHlo.Predicate.cmpi_eq_iff]
    constructor
    · intro hh
      have := congrArg BitVec.toNat hh
      rw [BitVec.toNat_ofNat, Nat.mod_eq_of_lt (by omega)] at this
      exact this
    · intro hh; rw [hh]
  rw [← e, ← e']
  show IntOp.cmpi .ne ((IntOp.andi (IntOp.cmpi .slt (BitVec.ofNat 32 (i 0).val) (BitVec.ofNat 32 (upto f 8))) (IntOp.cmpi .eq (BitVec.ofNat 32 (i 1).val) 0#32)).setWidth 32) 0#32 = 1#1 ↔ _
  generalize IntOp.cmpi .slt (BitVec.ofNat 32 (i 0).val) (BitVec.ofNat 32 (upto f 8)) = b
  generalize IntOp.cmpi .eq (BitVec.ofNat 32 (i 1).val) 0#32 = b'
  revert b b'; decide

/-- The first point of all is one of them. -/
theorem first (t : Fin grid0.N) (ht : t.val = 0) : cond2 (grid0.coords t) (used m) = 1#1 := by
  have hp := upto_eight_pos h
  refine (cond2_iff m h _).2 ⟨?_, ?_⟩
  · rw [coord0, ht]; omega
  · rw [coord1, ht]

end Held

end Cert.Experts

end
-- ==== Proof.ExpertsArgs.lean ====
/-
  The experts' call keeps its arguments and ends with every counter at zero, of counts that add up to the number of pairs;
  both programs' frames, and the array the call leaves.
-/
module

public import proofs.«01_k».proof.Proof.ExpertsTables
public import proofs.«01_k».proof.Proof.Gen.Kernel7.Launch
public import proofs.«01_k».proof.Defs

@[expose] public section

set_option maxRecDepth 16384

noncomputable section

namespace Cert.Experts

open Cert.Kernel7Ideal Cert.Kernel7Ideal.Gen
open Idealize.ShloMosaic Idealize.ShloMosaic.TcCoe Idealize.SL.Sem

section Args
variable {F : FTy → Type} [FloatOps F] (m : (ℓ : Loc nD τ sig) → Buf (Elt F) ℓ) (ρ : Dev nD → PrngReg)

/-- The buffers the host's operations write. -/
abbrev hostW : List (Ref sig .tc) :=
  [main_c, main_v0, main_v1, main_c_0, main_v2, main_v3, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4, main_call1_call0_c, main_call1_call0_v0, main_v5, main_v6, main_v7, main_v8, main_c_2, main_v9, main_v10, main_v11, main_v12, main_v13, main_v14, main_v15, main_v16, main_v17, main_c_3, main_v18, main_v19, main_v20, main_v21]

theorem host_writes : ([hostOps0 (F := F), hostOps0_1, hostOps0_2, hostOps0_3].flatten).Forall fun op => op.writes ⊆ (hostW.map (Proc.devRef (τ := τ) .tc)).toFinset :=
  StableHlo.forall_writes_sub_of_map rfl

/-- A buffer that none of the host's operations writes is as it was. -/
theorem V_keep (c : Dev nD) (b : Ref sig .tc) (hb : b ∉ hostW) : V m c b = m ((c : Thread nD τ).loc b) :=
  StableHlo.after_of_writes_sub _ _ host_writes hb

theorem not_array (b : Ref sig .tc) (hb : ∀ w : Fin 5, (spec0 w).arr.view.ref ≠ b) (hok : ok0 (tabs m)) (hb' : b.isScoped = false) :
    b ∈ Pipeline.restRefs sig (Pipeline.pin (pcfgs (F := F)) (adm m hok) 0).spec := Pipeline.mem_restRefs_of b hb' hb

variable {f : ℕ → ℕ} (h : Counts (m (((0 : Dev nD) : Thread nD τ).loc main_arg1)) f)
include h

/-- A run: the call's array, the arguments, the counters. -/
theorem run_all : θ_run defs (onTc (τ := τ) (main (F := F))) ⟨m, fun _ => 0, ρ⟩ fun r => (∀ c : Dev nD,
    r.2.mem ((c : Thread nD τ).loc main_v22) = (dats m (ok m h) 0 c).arrAt 4 (cfgE m (ok m h)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono (fun r hr => ⟨fun c => ⟨(hr.1 c).1 4,
    (((hr.1 c).1 0).trans ((dats m (ok m h) 0 c).arrAt_in 0 rfl _)).trans ((A_eq m (ok m h) c 0).trans (V_keep m c main_arg0 (by decide))),
    ((hr.1 c).2 main_arg1 (not_array m main_arg1 (by decide) (ok m h) (by decide))).trans (V_keep m c main_arg1 (by decide)),
    ((hr.1 c).2 main_arg2 (not_array m main_arg2 (by decide) (ok m h) (by decide))).trans (V_keep m c main_arg2 (by decide)),
    ((hr.1 c).2 main_arg3 (not_array m main_arg3 (by decide) (ok m h) (by decide))).trans (V_keep m c main_arg3 (by decide)),
    ((hr.1 c).2 main_arg4 (not_array m main_arg4 (by decide) (ok m h) (by decide))).trans (V_keep m c main_arg4 (by decide))⟩, hr.2⟩)
    (run m ρ (ok m h) (fun t ht => first m h t ht))

end Args

/-- The frame over any floats, of the precondition. -/
theorem frame_any {F : FTy → Type} [FloatOps F] [Cert.Pre_counts_of_all_pairs.Facts] (m : (ℓ : Loc nD τ sig) → Buf (Elt F) ℓ) (ρ : Dev nD → PrngReg)
    (hpre : Cert.Pre_counts_of_all_pairs.fn (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4)) = fun _ => 1#1) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  obtain ⟨f, h⟩ := counts_of_pre _ _ _ _ _ hpre
  exact (θ_run defs _ _).mono (fun r hr => ⟨fun c => (hr.1 c).2, hr.2⟩) (run_all m ρ h)

/-- The idealized kernel's frame. -/
theorem frame_ideal [Cert.Pre_counts_of_all_pairs.Facts] : Cert.quiescent_Kernel7Ideal := fun m ρ hpre => frame_any m ρ (hpre 0)

end Cert.Experts

end
-- ==== Proof.ExpertsBits.lean ====
/-
  The experts' call as the kernel's program states it and as the idealized one does: the two texts are one, so the run of
  the second, over any floats, is the first's.
-/
module

public import proofs.«01_k».proof.Proof.ExpertsArgs

@[expose] public section

set_option maxRecDepth 16384

noncomputable section

open Idealize.ShloMosaic Idealize.ShloMosaic.TcCoe Idealize.SL.Sem

namespace Cert.Experts

theorem same_bodies : Cert.Kernel7.defs₀ (F := Bits) = Cert.Kernel7Ideal.defs₀ (F := Bits) := by
  unfold Cert.Kernel7.defs₀ Cert.Kernel7Ideal.defs₀
  refine congrArg _ ?_
  funext l p
  match l with
  | 0 => rfl

theorem same_defs : Cert.Kernel7.defs (F := Bits) = Cert.Kernel7Ideal.defs (F := Bits) := by
  unfold Cert.Kernel7.defs Cert.Kernel7Ideal.defs
  exact congrArg (Pipeline.defs _) same_bodies

set_option maxHeartbeats 4000000 in
theorem same_main : Cert.Kernel7.main (F := Bits) = Cert.Kernel7Ideal.main (F := Bits) := by
  unfold Cert.Kernel7.main Cert.Kernel7Ideal.main
  funext c
  unfold Cert.Kernel7.fn_floor_divide.body Cert.Kernel7Ideal.fn_floor_divide.body Cert.Kernel7.fn_cumsum.body Cert.Kernel7Ideal.fn_cumsum.body
  unfold Cert.Kernel7.fn_cumsum_0.body Cert.Kernel7Ideal.fn_cumsum_0.body Cert.Kernel7.fn_where.body Cert.Kernel7Ideal.fn_where.body
  dsimp only [Cert.Kernel7.main_call0, Cert.Kernel7Ideal.main_call0, Cert.Kernel7.main_call1, Cert.Kernel7Ideal.main_call1]
  rfl

/-- The kernel's frame. -/
theorem frame_bits [Cert.Pre_counts_of_all_pairs.Facts] : Cert.quiescent_Kernel7 := fun m ρ hpre => by
  have key := frame_any (F := Bits) m ρ (hpre 0)
  rw [← same_defs, ← same_main] at key
  exact key

end Cert.Experts

end
-- ==== Proof.ExpertsValue.lean ====
/-
  What the experts' call leaves in its array: a row of a tile that holds rows is the gated sum over the hidden columns of
  the tile's expert, which the call adds up in seven blocks; a row past them is zero.
-/
module

public import proofs.«01_k».proof.Proof.ExpertsArgs
public import proofs.«01_k».proof.Proof.Swiglu
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem

namespace Cert.Experts

open Cert.Kernel7Ideal Cert.Kernel7Ideal.Gen Cert.Swiglu

/-- A hidden column's part of an expert's layer at a row and a column. -/
def part (x : FVec Ideal ⟨2, ![36864, 2048]⟩ .f32) (wg wu : FVec Ideal ⟨3, ![8, 2048, 7168]⟩ .f32) (wd : FVec Ideal ⟨3, ![8, 7168, 2048]⟩ .f32)
    (e : Fin 8) (r : Fin 36864) (j : Fin 2048) (k : Fin 7168) : EReal :=
  swi (∑ d : Fin 2048, x (ix2 r d) * wg (ix3 e d k)) (∑ d : Fin 2048, x (ix2 r d) * wu (ix3 e d k)) * wd (ix3 e k j)

/-! ## The body's values at an index -/

theorem zero_at (i : Fin 512) (j : Fin 2048) : k0_pay1 (F := Ideal) (ix2 i j) = 0 := by
  unfold k0_pay1
  pointwise

theorem rows_at (x : Vec Ideal S512x2048 .f32) (i : Fin 512) (d : Fin 2048) : k0_pay2 x (ix2 i d) = x (ix2 i d) := by
  unfold k0_pay2
  pointwise

/-- The block after one more block of hidden columns. -/
theorem step_at (o : Vec Ideal S512x2048 .f32) (h : Vec Ideal S512x2048 .bf16) (wg wu : Vec Ideal S1x2048x1024 .bf16) (wd : Vec Ideal S1x1024x2048 .bf16)
    (i : Fin 512) (j : Fin 2048) : k0_pay3 o h wg wu wd (ix2 i j)
      = o (ix2 i j) + ∑ k : Fin 1024, swi (∑ d : Fin 2048, h (ix2 i d) * wg (ix3 0 d k)) (∑ d : Fin 2048, h (ix2 i d) * wu (ix3 0 d k)) * wd (ix3 0 k j) := by
  unfold k0_pay3
  pointwise
  rfl

/-! ## Where a block's elements lie -/

section Places
variable (pf : (pcfgs (F := Ideal) 0).Adm)

theorem emb0 (t : Fin grid0.N) (x : S512x2048.Idx) (a : Fin 2) : ((((cfg0 pf).win 0).blk t).view.emb x a).val
    = cc0_transform_0 inb_S1_S1_0 numel1_S1 pf.1 (grid0.coords t) a * S512x2048.size a + 1 * (x a).val := rfl
theorem emb1 (t : Fin grid0.N) (x : S1x2048x1024.Idx) (a : Fin 3) : ((((cfg0 pf).win 1).blk t).view.emb x a).val
    = cc0_transform_1 k0_off1_inb numel1_S1 inb_S1_S1_0 pf.1 (grid0.coords t) a * S1x2048x1024.size a + 1 * (x a).val := rfl
theorem emb2 (t : Fin grid0.N) (x : S1x2048x1024.Idx) (a : Fin 3) : ((((cfg0 pf).win 2).blk t).view.emb x a).val
    = cc0_transform_2 k0_off1_inb numel1_S1 inb_S1_S1_0 pf.1 (grid0.coords t) a * S1x2048x1024.size a + 1 * (x a).val := rfl
theorem emb3 (t : Fin grid0.N) (x : S1x1024x2048.Idx) (a : Fin 3) : ((((cfg0 pf).win 3).blk t).view.emb x a).val
    = cc0_transform_3 k0_off1_inb numel1_S1 inb_S1_S1_0 pf.1 (grid0.coords t) a * S1x1024x2048.size a + 1 * (x a).val := rfl
theorem emb4 (t : Fin grid0.N) (x : S512x2048.Idx) (a : Fin 2) : ((((cfg0 pf).win 4).blk t).view.emb x a).val
    = cc0_transform_4 (grid0.coords t) a * S512x2048.size a + 1 * (x a).val := rfl

end Places

/-! ## The blocks a point works on -/

section Blocks
variable (m : (ℓ : Loc nD τ sig) → Buf (Elt Ideal) ℓ)

set_option maxHeartbeats 2000000 in
theorem V_wg (c : Dev nD) (e : Fin 8) (d : Fin 2048) (k : Fin 7168) : V m c main_v19 (ix3 e d k) = m ((c : Thread nD τ).loc main_arg2) (ix3 e d k) := by
  unfold V
  simp only [hostOps0, hostOps0_1, hostOps0_2, hostOps0_3, StableHlo.TRef.binary, StableHlo.TRef.nullary, StableHlo.TRef.ternary, StableHlo.TRef.unary,
    StableHlo.TRef.toBuf, StableHlo.TRef.ofBuf, cast_eq, List.flatten_cons, List.flatten_nil, List.append_nil, List.cons_append, List.nil_append]
  after_results_simp
  rfl

set_option maxHeartbeats 2000000 in
theorem V_wu (c : Dev nD) (e : Fin 8) (d : Fin 2048) (k : Fin 7168) : V m c main_v20 (ix3 e d k) = m ((c : Thread nD τ).loc main_arg3) (ix3 e d k) := by
  unfold V
  simp only [hostOps0, hostOps0_1, hostOps0_2, hostOps0_3, StableHlo.TRef.binary, StableHlo.TRef.nullary, StableHlo.TRef.ternary, StableHlo.TRef.unary,
    StableHlo.TRef.toBuf, StableHlo.TRef.ofBuf, cast_eq, List.flatten_cons, List.flatten_nil, List.append_nil, List.cons_append, List.nil_append]
  after_results_simp
  rfl

set_option maxHeartbeats 2000000 in
theorem V_wd (c : Dev nD) (e : Fin 8) (k : Fin 7168) (j : Fin 2048) : V m c main_v21 (ix3 e k j) = m ((c : Thread nD τ).loc main_arg4) (ix3 e k j) := by
  unfold V
  simp only [hostOps0, hostOps0_1, hostOps0_2, hostOps0_3, StableHlo.TRef.binary, StableHlo.TRef.nullary, StableHlo.TRef.ternary, StableHlo.TRef.unary,
    StableHlo.TRef.toBuf, StableHlo.TRef.ofBuf, cast_eq, List.flatten_cons, List.flatten_nil, List.append_nil, List.cons_append, List.nil_append]
  after_results_simp
  rfl

/-- A point's tile. -/
theorem tile_of (t : Fin grid0.N) : (grid0.coords t 0).val = t.val / 7 := by
  rw [coord0]
  have ht : t.val < 504 := t.isLt
  revert ht
  generalize t.val = n
  intro ht
  omega

/-- A point's block of hidden columns. -/
theorem hid_of (t : Fin grid0.N) : (grid0.coords t 1).val = t.val % 7 := by
  rw [coord1, Nat.div_one]

variable {f : ℕ → ℕ} (h : Counts (m (((0 : Dev nD) : Thread nD τ).loc main_arg1)) f)
include h

/-- A tile's rows. -/
theorem blk0_at (c : Dev nD) (t : Fin (cfgE m (ok m h)).N) (i : Fin 512) (d : Fin 2048) (r : Fin 36864) (ha : t.val / 7 < upto f 8)
    (hr : t.val / 7 * 512 + i.val = r.val) : blk0 m (ok m h) c t (ix2 i d) = m ((c : Thread nD τ).loc main_arg0) (ix2 r d) := by
  unfold blk0 iblk
  refine Eq.trans ?_ (congrFun (V_keep m c main_arg0 (by decide)) (ix2 r d))
  show V m c main_arg0 ((((cfgE m (ok m h)).win 0).blk t).view.emb (ix2 i d)) = V m c main_arg0 _
  congr 1; funext a; apply Fin.ext
  match a with
  | ⟨0, _⟩ =>
    refine (emb0 (adm m (ok m h) 0) t (ix2 i d) _).trans ?_
    rw [show (adm m (ok m h) 0).1 = tabs m from rfl, tr0 m h]
    show min (grid0.coords t 0).val (upto f 8 - 1) * 512 + 1 * i.val = r.val
    rw [one_mul, tile_of, Nat.min_eq_left (by generalize t.val / 7 = n at ha; omega)]
    exact hr
  | ⟨1, _⟩ =>
    refine (emb0 (adm m (ok m h) 0) t (ix2 i d) _).trans ?_
    rw [show (adm m (ok m h) 0).1 = tabs m from rfl, tr0 m h]
    show 0 * 2048 + 1 * d.val = d.val
    rw [zero_mul, one_mul, zero_add]

/-- The blocks of the tile's expert's weights. -/
theorem blk1_at (c : Dev nD) (t : Fin (cfgE m (ok m h)).N) (d : Fin 2048) (k : Fin 1024) (e : Fin 8) (q : Fin 7168) (ha : t.val / 7 < upto f 8)
    (he : owner f (t.val / 7) = e.val) (hq : t.val % 7 * 1024 + k.val = q.val) :
    blk1 m (ok m h) c t (ix3 0 d k) = m ((c : Thread nD τ).loc main_arg2) (ix3 e d q) := by
  unfold blk1 iblk
  refine Eq.trans ?_ (V_wg m c e d q)
  show V m c main_v19 ((((cfgE m (ok m h)).win 1).blk t).view.emb (ix3 0 d k)) = V m c main_v19 _
  congr 1; funext a; apply Fin.ext
  match a with
  | ⟨0, _⟩ =>
    refine (emb1 (adm m (ok m h) 0) t (ix3 0 d k) _).trans ?_
    rw [show (adm m (ok m h) 0).1 = tabs m from rfl, tr1 m h]
    show owner f (grid0.coords t 0).val * 1 + 1 * 0 = e.val
    rw [tile_of, he, mul_one, mul_zero, add_zero]
  | ⟨1, _⟩ =>
    refine (emb1 (adm m (ok m h) 0) t (ix3 0 d k) _).trans ?_
    rw [show (adm m (ok m h) 0).1 = tabs m from rfl, tr1 m h]
    show 0 * 2048 + 1 * d.val = d.val
    rw [zero_mul, one_mul, zero_add]
  | ⟨2, _⟩ =>
    refine (emb1 (adm m (ok m h) 0) t (ix3 0 d k) _).trans ?_
    rw [show (adm m (ok m h) 0).1 = tabs m from rfl, tr1 m h]
    show (if (grid0.coords t 0).val < upto f 8 then (grid0.coords t 1).val else 6) * 1024 + 1 * k.val = q.val
    rw [tile_of, hid_of, if_pos ha, one_mul]
    exact hq

theorem blk2_at (c : Dev nD) (t : Fin (cfgE m (ok m h)).N) (d : Fin 2048) (k : Fin 1024) (e : Fin 8) (q : Fin 7168) (ha : t.val / 7 < upto f 8)
    (he : owner f (t.val / 7) = e.val) (hq : t.val % 7 * 1024 + k.val = q.val) :
    blk2 m (ok m h) c t (ix3 0 d k) = m ((c : Thread nD τ).loc main_arg3) (ix3 e d q) := by
  unfold blk2 iblk
  refine Eq.trans ?_ (V_wu m c e d q)
  show V m c main_v20 ((((cfgE m (ok m h)).win 2).blk t).view.emb (ix3 0 d k)) = V m c main_v20 _
  congr 1; funext a; apply Fin.ext
  match a with
  | ⟨0, _⟩ =>
    refine (emb2 (adm m (ok m h) 0) t (ix3 0 d k) _).trans ?_
    rw [show (adm m (ok m h) 0).1 = tabs m from rfl, tr2 m h]
    show owner f (grid0.coords t 0).val * 1 + 1 * 0 = e.val
    rw [tile_of, he, mul_one, mul_zero, add_zero]
  | ⟨1, _⟩ =>
    refine (emb2 (adm m (ok m h) 0) t (ix3 0 d k) _).trans ?_
    rw [show (adm m (ok m h) 0).1 = tabs m from rfl, tr2 m h]
    show 0 * 2048 + 1 * d.val = d.val
    rw [zero_mul, one_mul, zero_add]
  | ⟨2, _⟩ =>
    refine (emb2 (adm m (ok m h) 0) t (ix3 0 d k) _).trans ?_
    rw [show (adm m (ok m h) 0).1 = tabs m from rfl, tr2 m h]
    show (if (grid0.coords t 0).val < upto f 8 then (grid0.coords t 1).val else 6) * 1024 + 1 * k.val = q.val
    rw [tile_of, hid_of, if_pos ha, one_mul]
    exact hq

theorem blk3_at (c : Dev nD) (t : Fin (cfgE m (ok m h)).N) (k : Fin 1024) (j : Fin 2048) (e : Fin 8) (q : Fin 7168) (ha : t.val / 7 < upto f 8)
    (he : owner f (t.val / 7) = e.val) (hq : t.val % 7 * 1024 + k.val = q.val) :
    blk3 m (ok m h) c t (ix3 0 k j) = m ((c : Thread nD τ).loc main_arg4) (ix3 e q j) := by
  unfold blk3 iblk
  refine Eq.trans ?_ (V_wd m c e q j)
  show V m c main_v21 ((((cfgE m (ok m h)).win 3).blk t).view.emb (ix3 0 k j)) = V m c main_v21 _
  congr 1; funext a; apply Fin.ext
  match a with
  | ⟨0, _⟩ =>
    refine (emb3 (adm m (ok m h) 0) t (ix3 0 k j) _).trans ?_
    rw [show (adm m (ok m h) 0).1 = tabs m from rfl, tr3 m h]
    show owner f (grid0.coords t 0).val * 1 + 1 * 0 = e.val
    rw [tile_of, he, mul_one, mul_zero, add_zero]
  | ⟨1, _⟩ =>
    refine (emb3 (adm m (ok m h) 0) t (ix3 0 k j) _).trans ?_
    rw [show (adm m (ok m h) 0).1 = tabs m from rfl, tr3 m h]
    show (if (grid0.coords t 0).val < upto f 8 then (grid0.coords t 1).val else 6) * 1024 + 1 * k.val = q.val
    rw [tile_of, hid_of, if_pos ha, one_mul]
    exact hq
  | ⟨2, _⟩ =>
    refine (emb3 (adm m (ok m h) 0) t (ix3 0 k j) _).trans ?_
    rw [show (adm m (ok m h) 0).1 = tabs m from rfl, tr3 m h]
    show 0 * 2048 + 1 * j.val = j.val
    rw [zero_mul, one_mul, zero_add]

/-! ## A point's step -/

/-- An expert's layer's parts, of the arguments. -/
def partM (c : Dev nD) : Fin 8 → Fin 36864 → Fin 2048 → Fin 7168 → EReal :=
  part (m ((c : Thread nD τ).loc main_arg0)) (m ((c : Thread nD τ).loc main_arg2)) (m ((c : Thread nD τ).loc main_arg3)) (m ((c : Thread nD τ).loc main_arg4))

/-- What one block of hidden columns adds, of the arguments. -/
theorem step_blk (c : Dev nD) (t : Fin (cfgE m (ok m h)).N) (i : Fin 512) (j : Fin 2048) (r : Fin 36864) (e : Fin 8) (ha : t.val / 7 < upto f 8)
    (he : owner f (t.val / 7) = e.val) (o : Vec Ideal S512x2048 .f32) (g : Vec Ideal S512x2048 .bf16)
    (hg : ∀ d, g (ix2 i d) = m ((c : Thread nD τ).loc main_arg0) (ix2 r d)) (ho : o (ix2 i j) = upTo (partM m c e r j) (t.val % 7 * 1024)) :
    k0_pay3 o g (blk1 m (ok m h) c t) (blk2 m (ok m h) c t) (blk3 m (ok m h) c t) (ix2 i j) = upTo (partM m c e r j) (t.val % 7 * 1024 + 1024) := by
  have hlt : t.val % 7 * 1024 + 1024 ≤ 7168 := by generalize t.val = n; omega
  rw [step_at, ho]
  refine upTo_block _ _ _ _ hlt fun k => ?_
  simp only [hg, blk1_at m h c t _ k e ⟨t.val % 7 * 1024 + k.val, lt_of_lt_of_le (Nat.add_lt_add_left k.isLt _) hlt⟩ ha he rfl,
    blk2_at m h c t _ k e ⟨t.val % 7 * 1024 + k.val, lt_of_lt_of_le (Nat.add_lt_add_left k.isLt _) hlt⟩ ha he rfl,
    blk3_at m h c t k _ e ⟨t.val % 7 * 1024 + k.val, lt_of_lt_of_le (Nat.add_lt_add_left k.isLt _) hlt⟩ ha he rfl]
  rfl

/-- The scratch block after a point of a tile that holds rows. -/
theorem step_rows (c : Dev nD) (t : Fin (cfgE m (ok m h)).N) (p : Vec Ideal S512x2048 .f32 × Vec Ideal S512x2048 .bf16) (ha : t.val / 7 < upto f 8) :
    (step m (ok m h) c t p).2 = if t.val % 7 = 0 then k0_pay2 (blk0 m (ok m h) c t) else p.2 := by
  have e : cond2 (grid0.coords t) (used m) = 1#1 ↔ t.val % 7 = 0 := by
    rw [cond2_iff m h, tile_of, hid_of]
    exact and_iff_right ha
  unfold step
  dsimp only
  unfold rowsOf
  by_cases hz : t.val % 7 = 0
  · rw [if_pos (e.2 hz), if_pos hz]
  · rw [if_neg (fun hc => hz (e.1 hc)), if_neg hz]

/-- The output block after a point of a tile that holds rows. -/
theorem step_sum (c : Dev nD) (t : Fin (cfgE m (ok m h)).N) (p : Vec Ideal S512x2048 .f32 × Vec Ideal S512x2048 .bf16) (ha : t.val / 7 < upto f 8) :
    (step m (ok m h) c t p).1 = k0_pay3 (if t.val % 7 = 0 then k0_pay1 else p.1) (step m (ok m h) c t p).2
      (blk1 m (ok m h) c t) (blk2 m (ok m h) c t) (blk3 m (ok m h) c t) := by
  have e : k0_cond3 (grid0.coords t) (used m) = 1#1 := by
    rw [cond3_iff m h, tile_of]
    exact ha
  have e1 := cond1_iff t
  unfold step
  dsimp only
  unfold sumOf startOf
  rw [if_pos e]
  by_cases hz : t.val % 7 = 0
  · rw [if_pos (e1.2 hz), if_pos hz]
  · rw [if_neg (fun hc => hz (e1.1 hc)), if_neg hz]

/-- The output block after a point of a tile past the rows. -/
theorem step_none (c : Dev nD) (t : Fin (cfgE m (ok m h)).N) (p : Vec Ideal S512x2048 .f32 × Vec Ideal S512x2048 .bf16) (ha : ¬t.val / 7 < upto f 8) :
    (step m (ok m h) c t p).1 = (if t.val % 7 = 0 then k0_pay1 (F := Ideal) else p.1 : Vec Ideal S512x2048 .f32) := by
  have e : ¬k0_cond3 (grid0.coords t) (used m) = 1#1 := by
    rw [cond3_iff m h, tile_of]
    exact ha
  have e1 := cond1_iff t
  unfold step
  dsimp only
  unfold sumOf startOf
  rw [if_neg e]
  by_cases hz : t.val % 7 = 0
  · rw [if_pos (e1.2 hz), if_pos hz]
  · rw [if_neg (fun hc => hz (e1.1 hc)), if_neg hz]

/-- One point of a tile that holds rows: its rows, and the sum over the hidden blocks so far. -/
theorem point (c : Dev nD) (t : Fin (cfgE m (ok m h)).N) (i : Fin 512) (r : Fin 36864) (e : Fin 8) (ha : t.val / 7 < upto f 8) (he : owner f (t.val / 7) = e.val)
    (hr : t.val / 7 * 512 + i.val = r.val) (p : Vec Ideal S512x2048 .f32 × Vec Ideal S512x2048 .bf16)
    (hp : t.val % 7 ≠ 0 → (∀ d, p.2 (ix2 i d) = m ((c : Thread nD τ).loc main_arg0) (ix2 r d)) ∧ ∀ j, p.1 (ix2 i j) = upTo (partM m c e r j) (t.val % 7 * 1024)) :
    (∀ d, (step m (ok m h) c t p).2 (ix2 i d) = m ((c : Thread nD τ).loc main_arg0) (ix2 r d))
      ∧ ∀ j, (step m (ok m h) c t p).1 (ix2 i j) = upTo (partM m c e r j) (t.val % 7 * 1024 + 1024) := by
  have hrow : ∀ d, (step m (ok m h) c t p).2 (ix2 i d) = m ((c : Thread nD τ).loc main_arg0) (ix2 r d) := by
    intro d
    rw [step_rows m h c t p ha]
    by_cases hz : t.val % 7 = 0
    · rw [if_pos hz, rows_at]
      exact blk0_at m h c t i d r ha hr
    · rw [if_neg hz]
      exact (hp hz).1 d
  refine ⟨hrow, fun j => ?_⟩
  rw [step_sum m h c t p ha]
  refine step_blk m h c t i j r e ha he _ _ hrow ?_
  by_cases hz : t.val % 7 = 0
  · rw [if_pos hz, zero_at, hz, zero_mul, upTo_zero]
  · rw [if_neg hz]
    exact (hp hz).2 j

/-- After a point of a tile that holds rows. -/
theorem sums (c : Dev nD) : ∀ (n : ℕ) (hn : n < (cfgE m (ok m h)).N) (i : Fin 512) (r : Fin 36864) (e : Fin 8), n / 7 < upto f 8 → owner f (n / 7) = e.val →
    n / 7 * 512 + i.val = r.val → (∀ d, (outsAt m (ok m h) c n hn).2 (ix2 i d) = m ((c : Thread nD τ).loc main_arg0) (ix2 r d))
      ∧ ∀ j, (outsAt m (ok m h) c n hn).1 (ix2 i j) = upTo (partM m c e r j) (n % 7 * 1024 + 1024) := by
  intro n
  induction n with
  | zero => exact fun hn i r e ha he hr => point m h c ⟨0, hn⟩ i r e ha he hr _ fun hz => absurd rfl hz
  | succ n ih =>
    intro hn i r e ha he hr
    refine point m h c ⟨n + 1, hn⟩ i r e ha he hr _ fun hz => ?_
    have hz' : (n + 1) % 7 ≠ 0 := hz
    have hd : n / 7 = (n + 1) / 7 := by omega
    have hm : n % 7 * 1024 + 1024 = (n + 1) % 7 * 1024 := by omega
    obtain ⟨hrow, hsum⟩ := ih (Nat.lt_of_succ_lt hn) i r e (by rw [hd]; exact ha) (by rw [hd]; exact he) (by rw [hd]; exact hr)
    exact ⟨hrow, fun j => (hsum j).trans (congrArg _ hm)⟩

/-- After a point of a tile past the rows. -/
theorem zeros (c : Dev nD) : ∀ (n : ℕ) (hn : n < (cfgE m (ok m h)).N) (i : Fin 512) (j : Fin 2048), ¬n / 7 < upto f 8 →
    (outsAt m (ok m h) c n hn).1 (ix2 i j) = 0 := by
  have hp := upto_eight_pos h
  intro n
  induction n with
  | zero => exact fun hn i j ha => absurd hp (by simpa using ha)
  | succ n ih =>
    intro hn i j ha
    have e := congrFun (step_none m h c ⟨n + 1, hn⟩ (outsAt m (ok m h) c n (Nat.lt_of_succ_lt hn)) ha) (ix2 i j)
    refine e.trans ?_
    by_cases hz : (n + 1) % 7 = 0
    · rw [if_pos hz, zero_at]
    · rw [if_neg hz]
      have hd : n / 7 = (n + 1) / 7 := by omega
      exact ih _ i j (by rw [hd]; exact ha)

/-! ## The array -/

omit h in
theorem tr4 (t : Fin grid0.N) : cc0_transform_4 (grid0.coords t) 0 = t.val / 7 ∧ cc0_transform_4 (grid0.coords t) 1 = 0 := by
  refine ⟨?_, rfl⟩
  show (BitVec.ofNat 32 (grid0.coords t 0).val).toNat = _
  have h0 : (grid0.coords t 0).val < 72 := (grid0.coords t 0).isLt
  rw [← tile_of, BitVec.toNat_ofNat, Nat.mod_eq_of_lt (by omega)]

/-- No two points that write back write one block. -/
theorem apart (t t' : Fin (cfgE m (ok m h)).N) (hf : ((cfgE m (ok m h)).win 4).flush t = true) (hf' : ((cfgE m (ok m h)).win 4).flush t' = true) (hne : t ≠ t') :
    Disjoint (((cfgE m (ok m h)).win 4).blk t).view.set (((cfgE m (ok m h)).win 4).blk t').view.set := by
  refine ((cfgE m (ok m h)).win 4).disjoint_blk fun e => hne (Fin.ext ?_)
  have e' : cc0_transform_4 (grid0.coords t) = cc0_transform_4 (grid0.coords t') := e
  have e0 := congrFun e' 0
  rw [(tr4 t).1, (tr4 t').1] at e0
  have e1 := (flush_4 m (ok m h) t).1 hf
  have e2 := (flush_4 m (ok m h) t').1 hf'
  rw [← Nat.div_add_mod t.val 7, ← Nat.div_add_mod t'.val 7, e0, e1, e2]

omit h in
/-- A row of an array whose blocks are written apart: what the point that writes its block back left. -/
theorem arr_of (pf : (pcfgs (F := Ideal) 0).Adm) (c : Dev nD) (D : Pipeline.Dat τ (Elt Ideal) Unit ℕ (UR sig nD τ) ℕ (cfg0 pf) c)
    (hap : ∀ t t' : Fin (cfg0 pf).N, ((cfg0 pf).win 4).flush t = true → ((cfg0 pf).win 4).flush t' = true → t ≠ t' →
      Disjoint (((cfg0 pf).win 4).blk t).view.set (((cfg0 pf).win 4).blk t').view.set)
    (t : Fin grid0.N) (hf : ((cfg0 pf).win 4).flush t = true) (i : Fin 512) (j : Fin 2048) (r : Fin 36864) (hr : t.val / 7 * 512 + i.val = r.val) :
    D.arrAt 4 (cfg0 pf).N (ix2 r j) = D.after 4 t (ix2 i j) := by
  have hx := congrFun (D.read_blk_arrAt_eq_flushed 4 hap (cfg0 pf).N t t.isLt hf) (ix2 i j)
  refine Eq.trans ?_ (hx.trans rfl)
  clear hx
  generalize D.arrAt 4 (cfg0 pf).N = A
  show A _ = A ((((cfg0 pf).win 4).blk t).view.emb (ix2 i j))
  congr 1; funext a; apply Fin.ext
  match a with
  | ⟨0, _⟩ =>
    refine Eq.trans ?_ (emb4 pf t (ix2 i j) _).symm
    show r.val = cc0_transform_4 (grid0.coords t) 0 * 512 + 1 * i.val
    rw [(tr4 _).1, one_mul]
    exact hr.symm
  | ⟨1, _⟩ =>
    refine Eq.trans ?_ (emb4 pf t (ix2 i j) _).symm
    show j.val = cc0_transform_4 (grid0.coords t) 1 * 2048 + 1 * j.val
    rw [(tr4 _).2, zero_mul, one_mul, zero_add]

/-- The call's array, index by index. -/
theorem arr_at (c : Dev nD) (r : Fin 36864) (j : Fin 2048) : (dats m (ok m h) 0 c).arrAt 4 (cfgE m (ok m h)).N (ix2 r j)
    = if r.val / 512 < upto f 8 then ∑ k : Fin 7168, partM m c ⟨owner f (r.val / 512), owner_lt m h _⟩ r j k else 0 := by
  obtain ⟨n, hn⟩ : ∃ n, n = r.val / 512 * 7 + 6 := ⟨_, rfl⟩
  have hlt : n < grid0.N := by show n < 504; omega
  have h1 : n % 7 = 6 := by omega
  have hd : n / 7 = r.val / 512 := by omega
  have hx := arr_of (adm m (ok m h) 0) c (dats m (ok m h) 0 c) (apart m h) ⟨n, hlt⟩ ((flush_4 m (ok m h) ⟨n, hlt⟩).2 h1) ⟨r.val % 512, by omega⟩ j r
    (by show n / 7 * 512 + r.val % 512 = r.val; omega)
  refine hx.trans ((congrFun (after_4 m (ok m h) c ⟨n, hlt⟩) _).trans ?_)
  by_cases ha : r.val / 512 < upto f 8
  · rw [if_pos ha]
    have hs := (sums m h c n hlt ⟨r.val % 512, by omega⟩ r ⟨owner f (r.val / 512), owner_lt m h _⟩ (by rw [hd]; exact ha) (by rw [hd])
      (by show n / 7 * 512 + r.val % 512 = r.val; omega)).2 j
    refine hs.trans ?_
    rw [h1]
    exact upTo_all _
  · rw [if_neg ha]
    exact zeros m h c n hlt _ _ (by rw [hd]; exact ha)

end Blocks

end Cert.Experts

end
-- ==== Proof.ExpertsRef.lean ====
/-
  The experts' reference: the sum over the eight experts of a mask of the expert's rows times the expert's layer. A row
  belongs to at most one expert, its tile's, so the sum has at most one term that is not zero.
-/
module

public import proofs.«01_k».proof.Proof.ExpertsValue
public import proofs.«01_k».proof.Proof.Gen.Reference7Ideal.Run

@[expose] public section

set_option maxRecDepth 16384

noncomputable section

open Idealize.ShloMosaic Idealize.ShloMosaic.TcCoe Idealize.SL.Sem

namespace Cert.Experts

/-! ## The expert of a tile -/

section Nats
variable {f : ℕ → ℕ}

/-- Counting a property that goes on holding downwards. -/
theorem count_below (P : ℕ → Prop) [DecidablePred P] (hP : ∀ a b, a ≤ b → P b → P a) (n e : ℕ) (he : e < n) : P e ↔ e < Nat.count P n := by
  induction n with
  | zero => omega
  | succ n ih =>
    rw [Nat.count_succ]
    by_cases hn : P n
    · have hall : Nat.count P n = n := Nat.count_iff_forall.2 fun k hk => hP k n hk.le hn
      rw [if_pos hn, hall]
      exact iff_of_true (hP e n (by omega) hn) he
    · rw [if_neg hn, add_zero]
      rcases Nat.lt_succ_iff_lt_or_eq.1 he with h | h
      · exact ih h
      · subst h
        exact iff_of_false hn (not_lt.2 (Nat.count_le (p := P)))

/-- Every tile has an owner among the eight. -/
theorem owner_lt_eight (hp : 1 ≤ upto f 8) (i : ℕ) : owner f i < 8 := by
  have := count_below (fun k => upto f (k + 1) ≤ min i (upto f 8 - 1)) (fun a b hab hb => (upto_mono f (by omega)).trans hb) 8 7 (by decide)
  unfold owner
  by_contra hc
  have := this.2 (by omega)
  have := this.trans (Nat.min_le_right _ _)
  simp only [Nat.reduceAdd] at this
  omega

/-- A tile that holds rows is its owner's. -/
theorem owner_iff (i e : ℕ) (hi : i < upto f 8) (he : e < 8) : (upto f e ≤ i ∧ i < upto f (e + 1)) ↔ e = owner f i := by
  have key : ∀ k, k < 8 → (upto f (k + 1) ≤ i ↔ k < owner f i) := by
    intro k hk
    have := count_below (fun k => upto f (k + 1) ≤ min i (upto f 8 - 1)) (fun a b hab hb => (upto_mono f (by omega)).trans hb) 8 k hk
    unfold owner
    rw [← this, Nat.min_eq_left (by omega)]
  have k1 := key e he
  have k0 : upto f e ≤ i ↔ e ≤ owner f i := by
    cases e with
    | zero => exact iff_of_true (Nat.zero_le _) (Nat.zero_le _)
    | succ e => exact key e (by omega)
  omega

/-- A row's place among an expert's. -/
theorem rows_iff (r e : ℕ) : (512 * upto f (e + 1) - 512 * tl f e ≤ r ∧ r < 512 * upto f (e + 1)) ↔ (upto f e ≤ r / 512 ∧ r / 512 < upto f (e + 1)) := by
  have := upto_succ f e
  omega

/-- At most one of eight terms. -/
theorem pick (o : ℕ) (ho : o < 8) (v : Fin 8 → EReal) :
    0 + (if (0 : ℕ) = o then 1 else 0) * v 0 + (if 1 = o then 1 else 0) * v 1 + (if 2 = o then 1 else 0) * v 2 + (if 3 = o then 1 else 0) * v 3
      + (if 4 = o then 1 else 0) * v 4 + (if 5 = o then 1 else 0) * v 5 + (if 6 = o then 1 else 0) * v 6 + (if 7 = o then 1 else 0) * v 7 = v ⟨o, ho⟩ := by
  interval_cases o <;> simp

end Nats

end Cert.Experts

namespace Cert.Experts.Ref

open Cert.Reference7Ideal Cert.Reference7Ideal.Gen Cert.Swiglu Idealize.ShloMosaic.Routing
open Idealize.ShloMosaic.WordCmp (cmpi_at select_at constantI_at andi_at cmpi_slt_ofNat_eq_one_iff cmpi_sle_ofNat_eq_one_iff)

/-! ## The mask of an expert's rows -/

section Mask
variable (V0 : Valuation τ sig (Elt Ideal))

/-- The reference's tiles. -/
theorem tiles_eq : @Eq (IVec ⟨1, ![8]⟩ 32) (Value.res_main_v4 V0) (tilesOf (V0 (Proc.devRef .tc main_arg1))) := by
  unfold Value.res_main_v4 Value.res_main_v3 Value.res_main_call0_v0 Value.res_main_call0_v2 tilesOf pyDiv
  rfl

variable {f : ℕ → ℕ} (h : Counts (V0 (Proc.devRef .tc main_arg1)) f)
include h

theorem tiles_at (i : Fin 8) : Value.res_main_v4 V0 (ix1 i) = BitVec.ofNat 32 (tl f i.val) :=
  (congrFun (tiles_eq V0) (ix1 i)).trans (tilesOf_at h i)

theorem ends_at (i : Fin 8) : Value.res_main_v7 V0 (ix1 i) = BitVec.ofNat 32 (512 * upto f (i.val + 1)) := by
  have e : Host.reduceWindow IntOp.addi ![8] ![1] ![7] ![0] (Value.res_main_v4 V0) (broadcastInDim S_ ![] bcast_S_S_ (constantI S_ 32 0#32)) reduceWindows_S8_S8_w8s1p7_0 h_S_ (ix1 i)
      = BitVec.ofNat 32 (upto f (i.val + 1)) := by
    unfold upto
    exact cumsum1 (N := 8) (Nm1 := 7) rfl (Value.res_main_v4 V0) (tl f) (tiles_at V0 h) _ (bc0 _ _ _) reduceWindows_S8_S8_w8s1p7_0 h_S_ i
  unfold Value.res_main_v7
  rw [muli_ap, e, bc0, constantI_at, show (512#32 : BitVec 32) = BitVec.ofNat 32 512 from rfl, ← BitVec.ofNat_mul]

end Mask

theorem cast_one (v : IVec S1 32) : shapeCast S_ v shapeCasts_S1_S_ ix0 = v (ix1 0) := by
  unfold shapeCast
  exact congrArg v (funext fun a => by match a with | ⟨0, _⟩ => exact Subsingleton.elim (α := Fin 1) _ _)

/-- One expert's rows, as ones among zeros. -/
def mask (v4 v7 : IVec S8 32) (v8 : IVec S36864 32) (e : ℕ) (hs : S8.Slices ![e] S1) : FVec Ideal S36864 .f32 :=
  select (andi (cmpi .sle (broadcastInDim S36864 ![] bcast_S_S36864 (subi (shapeCast _ (extractStridedSlice S1 ![e] v7 hs) shapeCasts_S1_S_) (muli (constantI S_ 32 512#32) (shapeCast _ (extractStridedSlice S1 ![e] v4 hs) shapeCasts_S1_S_)))) v8) (cmpi .slt v8 (broadcastInDim S36864 ![] bcast_S_S36864 (shapeCast _ (extractStridedSlice S1 ![e] v7 hs) shapeCasts_S1_S_)))) (broadcastInDim S36864 ![] bcast_S_S36864 (constant S_ .f32 0x3F800000#32)) (broadcastInDim S36864 ![] bcast_S_S36864 (constant S_ .f32 0x00000000#32))

theorem mask_at (v4 v7 : IVec S8 32) (f : ℕ → ℕ) (h4 : ∀ i : Fin 8, v4 (ix1 i) = BitVec.ofNat 32 (tl f i.val))
    (h7 : ∀ i : Fin 8, v7 (ix1 i) = BitVec.ofNat 32 (512 * upto f (i.val + 1))) (hl : upto f 8 ≤ 72) (e : ℕ) (he : e < 8) (hs : S8.Slices ![e] S1) (r : Fin 36864) :
    mask v4 v7 (iotaInDim S36864 32 0) e hs (ix1 r) = if upto f e ≤ r.val / 512 ∧ r.val / 512 < upto f (e + 1) then 1 else 0 := by
  have hu : upto f (e + 1) ≤ upto f 8 := upto_mono f (by omega)
  have ht := upto_succ f e
  have e4 : shapeCast S_ (extractStridedSlice S1 ![e] v4 hs) shapeCasts_S1_S_ ValueIdx.ix0 = BitVec.ofNat 32 (tl f e) := by
    refine (cast_one _).trans ((slice1 (m := 8) (n := 1) e v4 hs 0 (by simpa using he)).trans ?_)
    exact h4 _
  have e7 : shapeCast S_ (extractStridedSlice S1 ![e] v7 hs) shapeCasts_S1_S_ ValueIdx.ix0 = BitVec.ofNat 32 (512 * upto f (e + 1)) := by
    refine (cast_one _).trans ((slice1 (m := 8) (n := 1) e v7 hs 0 (by simpa using he)).trans ?_)
    exact h7 _
  unfold mask
  rw [select_at, andi_at, cmpi_at, cmpi_at, bc0, bc0, bc0, bc0, subi_ap, muli_ap, constantI_at, e4, e7, show (512#32 : BitVec 32) = BitVec.ofNat 32 512 from rfl,
    ← BitVec.ofNat_mul, ofNat32_sub (by omega)]
  have a1 := cmpi_sle_ofNat_eq_one_iff (w := 32) (a := 512 * upto f (e + 1) - 512 * tl f e) (b := r.val) (by omega) (by omega)
  have a2 := cmpi_slt_ofNat_eq_one_iff (w := 32) (a := r.val) (b := 512 * upto f (e + 1)) (by omega) (by omega)
  have a3 := rows_iff (f := f) r.val e
  by_cases hc : upto f e ≤ r.val / 512 ∧ r.val / 512 < upto f (e + 1)
  · rw [if_pos hc]
    have c := a3.2 hc
    refine (WordCmp.select_of_eq_one ((IntOp.andi_eq_one).2 ⟨a1.2 c.1, a2.2 c.2⟩) _ _).trans ?_
    pointwise
  · rw [if_neg hc]
    refine (if_neg fun hx => hc (a3.1 ?_)).trans ?_
    · have hx' := (IntOp.andi_eq_one).1 hx
      exact ⟨a1.1 hx'.1, a2.1 hx'.2⟩
    · pointwise

/-- One expert's layer, on every row. -/
def layer (x : FVec Ideal S36864x2048 .f32) (wg wu : FVec Ideal S8x2048x7168 .f32) (wd : FVec Ideal S8x7168x2048 .f32) (e : ℕ)
    (hw : S8x2048x7168.Slices ![e, 0, 0] S1x2048x7168) (hd : S8x7168x2048.Slices ![e, 0, 0] S1x7168x2048) : FVec Ideal S36864x2048 .f32 :=
  Host.dotGeneral dot_S36864x7168_S7168x2048_S36864x2048_1_0_0_1_n_n none (mulf (mulf (Host.dotGeneral dot_S36864x2048_S2048x7168_S36864x7168_1_0_0_1_n_n none x (shapeCast _ (extractStridedSlice S1x2048x7168 ![e, 0, 0] wg hw) shapeCasts_S1x2048x7168_S2048x7168)) (Host.divf (broadcastInDim S36864x7168 ![] bcast_S_S36864x7168 (constant S_ .f32 0x3F800000#32)) (addf (broadcastInDim S36864x7168 ![] bcast_S_S36864x7168 (constant S_ .f32 0x3F800000#32)) (Host.exp (Host.negf (Host.dotGeneral dot_S36864x2048_S2048x7168_S36864x7168_1_0_0_1_n_n none x (shapeCast _ (extractStridedSlice S1x2048x7168 ![e, 0, 0] wg hw) shapeCasts_S1x2048x7168_S2048x7168))))))) (Host.dotGeneral dot_S36864x2048_S2048x7168_S36864x7168_1_0_0_1_n_n none x (shapeCast _ (extractStridedSlice S1x2048x7168 ![e, 0, 0] wu hw) shapeCasts_S1x2048x7168_S2048x7168))) (shapeCast _ (extractStridedSlice S1x7168x2048 ![e, 0, 0] wd hd) shapeCasts_S1x7168x2048_S7168x2048)

/-- An expert's slice of an array of eight. -/
theorem slab {a b : ℕ} (w : FVec Ideal ⟨3, ![8, a, b]⟩ .f32) (e : ℕ) (he : e < 8) (hw : (⟨3, ![8, a, b]⟩ : Shape).Slices ![e, 0, 0] ⟨3, ![1, a, b]⟩) (p : Fin a) (q : Fin b) :
    extractStridedSlice ⟨3, ![1, a, b]⟩ ![e, 0, 0] w hw (ix3 0 p q) = w (ix3 ⟨e, he⟩ p q) := by
  unfold extractStridedSlice
  refine congrArg w (funext fun c => Fin.ext ?_)
  match c with
  | ⟨0, _⟩ => rfl
  | ⟨1, _⟩ => exact Nat.zero_add _
  | ⟨2, _⟩ => exact Nat.zero_add _

theorem layer_at (x : FVec Ideal S36864x2048 .f32) (wg wu : FVec Ideal S8x2048x7168 .f32) (wd : FVec Ideal S8x7168x2048 .f32) (e : ℕ) (he : e < 8)
    (hw : S8x2048x7168.Slices ![e, 0, 0] S1x2048x7168) (hd : S8x7168x2048.Slices ![e, 0, 0] S1x7168x2048) (r : Fin 36864) (j : Fin 2048) :
    layer x wg wu wd e hw hd (ix2 r j) = ∑ k : Fin 7168, part x wg wu wd ⟨e, he⟩ r j k := by
  have hg := slab wg e he hw
  have hu := slab wu e he hw
  have hv := slab wd e he hd
  unfold layer
  generalize extractStridedSlice S1x2048x7168 ![e, 0, 0] wg hw = g at hg ⊢
  generalize extractStridedSlice S1x2048x7168 ![e, 0, 0] wu hw = u at hu ⊢
  generalize extractStridedSlice S1x7168x2048 ![e, 0, 0] wd hd = v at hv ⊢
  refine Eq.trans (b := ∑ k : Fin 7168, swi (∑ d : Fin 2048, x (ix2 r d) * g (ix3 0 d k)) (∑ d : Fin 2048, x (ix2 r d) * u (ix3 0 d k)) * v (ix3 0 k j)) ?_ ?_
  · pointwise
    rfl
  · unfold part
    simp only [hg, hu, hv]

/-- One expert's term of the sum. -/
def term (v4 v7 : IVec S8 32) (v8 : IVec S36864 32) (x : FVec Ideal S36864x2048 .f32) (wg wu : FVec Ideal S8x2048x7168 .f32) (wd : FVec Ideal S8x7168x2048 .f32) (e : ℕ)
    (hs : S8.Slices ![e] S1) (hw : S8x2048x7168.Slices ![e, 0, 0] S1x2048x7168) (hd : S8x7168x2048.Slices ![e, 0, 0] S1x7168x2048) : FVec Ideal S36864x2048 .f32 :=
  mulf (broadcastInDim S36864x2048 ![0, 1] bcast_S36864x1_S36864x2048_0_1 (id (broadcastInDim S36864x1 ![0] bcast_S36864_S36864x1_0 (mask v4 v7 v8 e hs)))) (layer x wg wu wd e hw hd)

theorem term_mul (v4 v7 : IVec S8 32) (v8 : IVec S36864 32) (x : FVec Ideal S36864x2048 .f32) (wg wu : FVec Ideal S8x2048x7168 .f32) (wd : FVec Ideal S8x7168x2048 .f32) (e : ℕ)
    (hs : S8.Slices ![e] S1) (hw : S8x2048x7168.Slices ![e, 0, 0] S1x2048x7168) (hd : S8x7168x2048.Slices ![e, 0, 0] S1x7168x2048) (r : Fin 36864) (j : Fin 2048) :
    term v4 v7 v8 x wg wu wd e hs hw hd (ix2 r j) = mask v4 v7 v8 e hs (ix1 r) * layer x wg wu wd e hw hd (ix2 r j) := by
  unfold term
  simp only [id_eq]
  generalize mask v4 v7 v8 e hs = a
  generalize layer x wg wu wd e hw hd = b
  pointwise

/-! ## The sum of the eight terms -/

section Sum
variable (V0 : Valuation τ sig (Elt Ideal))

/-- An expert's term, of the reference's arguments. -/
abbrev termOf (e : ℕ) (hs : S8.Slices ![e] S1) (hw : S8x2048x7168.Slices ![e, 0, 0] S1x2048x7168) (hd : S8x7168x2048.Slices ![e, 0, 0] S1x7168x2048) :
    FVec Ideal S36864x2048 .f32 :=
  term (Value.res_main_v4 V0) (Value.res_main_v7 V0) (iotaInDim S36864 32 0) (V0 (Proc.devRef .tc main_arg0)) (V0 (Proc.devRef .tc main_arg2)) (V0 (Proc.devRef .tc main_arg3)) (V0 (Proc.devRef .tc main_arg4)) e hs hw hd

/-- The first three terms. -/
def sum3 : FVec Ideal S36864x2048 .f32 :=
  addf (addf (addf (broadcastInDim S36864x2048 ![] bcast_S_S36864x2048 (constant S_ .f32 0x00000000#32))
    (termOf V0 0 slices_S8_S1_0 slices_S8x2048x7168_S1x2048x7168_0_0_0 slices_S8x7168x2048_S1x7168x2048_0_0_0))
    (termOf V0 1 slices_S8_S1_1 slices_S8x2048x7168_S1x2048x7168_1_0_0 slices_S8x7168x2048_S1x7168x2048_1_0_0))
    (termOf V0 2 slices_S8_S1_2 slices_S8x2048x7168_S1x2048x7168_2_0_0 slices_S8x7168x2048_S1x7168x2048_2_0_0)

/-- The first six terms. -/
def sum6 : FVec Ideal S36864x2048 .f32 :=
  addf (addf (addf (sum3 V0)
    (termOf V0 3 slices_S8_S1_3 slices_S8x2048x7168_S1x2048x7168_3_0_0 slices_S8x7168x2048_S1x7168x2048_3_0_0))
    (termOf V0 4 slices_S8_S1_4 slices_S8x2048x7168_S1x2048x7168_4_0_0 slices_S8x7168x2048_S1x7168x2048_4_0_0))
    (termOf V0 5 slices_S8_S1_5 slices_S8x2048x7168_S1x2048x7168_5_0_0 slices_S8x7168x2048_S1x7168x2048_5_0_0)

/-- All eight. -/
def sum8 : FVec Ideal S36864x2048 .f32 :=
  addf (addf (sum6 V0)
    (termOf V0 6 slices_S8_S1_6 slices_S8x2048x7168_S1x2048x7168_6_0_0 slices_S8x7168x2048_S1x7168x2048_6_0_0))
    (termOf V0 7 slices_S8_S1_7 slices_S8x2048x7168_S1x2048x7168_7_0_0 slices_S8x7168x2048_S1x7168x2048_7_0_0)

theorem sum3_eq : Value.res_main_v99 V0 = sum3 V0 := by
  unfold Value.res_main_v99 Value.res_main_v31 Value.res_main_v61 Value.res_main_v91 Value.res_main_v8 sum3 termOf term mask layer
  rfl

theorem sum6_eq : Value.res_main_v189 V0 = sum6 V0 := by
  unfold Value.res_main_v189 Value.res_main_v121 Value.res_main_v151 Value.res_main_v181 Value.res_main_v8 sum6 termOf term mask layer
  rw [sum3_eq]

variable {f : ℕ → ℕ} (h : Counts (V0 (Proc.devRef .tc main_arg1)) f)
include h

theorem term_at (e : ℕ) (he : e < 8) (hs : S8.Slices ![e] S1) (hw : S8x2048x7168.Slices ![e, 0, 0] S1x2048x7168) (hd : S8x7168x2048.Slices ![e, 0, 0] S1x7168x2048) (r : Fin 36864) (j : Fin 2048) :
    termOf V0 e hs hw hd (ix2 r j) = (if upto f e ≤ r.val / 512 ∧ r.val / 512 < upto f (e + 1) then 1 else 0)
      * ∑ k : Fin 7168, part (V0 (Proc.devRef .tc main_arg0)) (V0 (Proc.devRef .tc main_arg2)) (V0 (Proc.devRef .tc main_arg3)) (V0 (Proc.devRef .tc main_arg4)) ⟨e, he⟩ r j k := by
  refine (term_mul _ _ _ _ _ _ _ e hs hw hd r j).trans ?_
  exact congrArg₂ (fun a b : EReal => a * b) (mask_at _ _ f (tiles_at V0 h) (ends_at V0 h) (upto_eight_le h) e he hs r) (layer_at _ _ _ _ e he hw hd r j)

/-- The reference's sum, at a row and a column. -/
theorem sum8_at (r : Fin 36864) (j : Fin 2048) :
    sum8 V0 (ix2 r j) = if r.val / 512 < upto f 8 then
      ∑ k : Fin 7168, part (V0 (Proc.devRef .tc main_arg0)) (V0 (Proc.devRef .tc main_arg2)) (V0 (Proc.devRef .tc main_arg3)) (V0 (Proc.devRef .tc main_arg4)) ⟨owner f (r.val / 512), owner_lt_eight (upto_eight_pos h) _⟩ r j k else 0 := by
  have t0 := term_at V0 h 0 (by decide) slices_S8_S1_0 slices_S8x2048x7168_S1x2048x7168_0_0_0 slices_S8x7168x2048_S1x7168x2048_0_0_0 r j
  have t1 := term_at V0 h 1 (by decide) slices_S8_S1_1 slices_S8x2048x7168_S1x2048x7168_1_0_0 slices_S8x7168x2048_S1x7168x2048_1_0_0 r j
  have t2 := term_at V0 h 2 (by decide) slices_S8_S1_2 slices_S8x2048x7168_S1x2048x7168_2_0_0 slices_S8x7168x2048_S1x7168x2048_2_0_0 r j
  have t3 := term_at V0 h 3 (by decide) slices_S8_S1_3 slices_S8x2048x7168_S1x2048x7168_3_0_0 slices_S8x7168x2048_S1x7168x2048_3_0_0 r j
  have t4 := term_at V0 h 4 (by decide) slices_S8_S1_4 slices_S8x2048x7168_S1x2048x7168_4_0_0 slices_S8x7168x2048_S1x7168x2048_4_0_0 r j
  have t5 := term_at V0 h 5 (by decide) slices_S8_S1_5 slices_S8x2048x7168_S1x2048x7168_5_0_0 slices_S8x7168x2048_S1x7168x2048_5_0_0 r j
  have t6 := term_at V0 h 6 (by decide) slices_S8_S1_6 slices_S8x2048x7168_S1x2048x7168_6_0_0 slices_S8x7168x2048_S1x7168x2048_6_0_0 r j
  have t7 := term_at V0 h 7 (by decide) slices_S8_S1_7 slices_S8x2048x7168_S1x2048x7168_7_0_0 slices_S8x7168x2048_S1x7168x2048_7_0_0 r j
  have hz : broadcastInDim S36864x2048 ![] bcast_S_S36864x2048 (constant (F := Ideal) S_ .f32 0x00000000#32) (ix2 r j) = (0 : EReal) := by pointwise
  have hp := upto_eight_pos h
  refine Eq.trans (b := ((((((((0 : EReal) + _) + _) + _) + _) + _) + _) + _) + _) (congrArg₂ (· + ·) (congrArg₂ (· + ·) (congrArg₂ (· + ·) (congrArg₂ (· + ·) (congrArg₂ (· + ·) (congrArg₂ (· + ·) (congrArg₂ (· + ·) (congrArg₂ (· + ·) hz t0) t1) t2) t3) t4) t5) t6) t7) ?_
  clear t0 t1 t2 t3 t4 t5 t6 t7 hz
  generalize hv : (fun e : Fin 8 => ∑ k : Fin 7168, part (V0 (Proc.devRef .tc main_arg0)) (V0 (Proc.devRef .tc main_arg2)) (V0 (Proc.devRef .tc main_arg3)) (V0 (Proc.devRef .tc main_arg4)) e r j k) = v
  have hv' : ∀ e : Fin 8, ∑ k : Fin 7168, part (V0 (Proc.devRef .tc main_arg0)) (V0 (Proc.devRef .tc main_arg2)) (V0 (Proc.devRef .tc main_arg3)) (V0 (Proc.devRef .tc main_arg4)) e r j k = v e := fun e => congrFun hv e
  simp only [hv']
  by_cases hq : r.val / 512 < upto f 8
  · rw [if_pos hq]
    refine Eq.trans ?_ (pick (owner f (r.val / 512)) (owner_lt_eight hp _) v)
    simp only [owner_iff (f := f) (r.val / 512) _ hq (by decide : 0 < 8), owner_iff (f := f) (r.val / 512) _ hq (by decide : 1 < 8), owner_iff (f := f) (r.val / 512) _ hq (by decide : 2 < 8),
      owner_iff (f := f) (r.val / 512) _ hq (by decide : 3 < 8), owner_iff (f := f) (r.val / 512) _ hq (by decide : 4 < 8), owner_iff (f := f) (r.val / 512) _ hq (by decide : 5 < 8),
      owner_iff (f := f) (r.val / 512) _ hq (by decide : 6 < 8), owner_iff (f := f) (r.val / 512) _ hq (by decide : 7 < 8)]
    rfl
  · rw [if_neg hq]
    have hn : ∀ e, e < 8 → ¬ (upto f e ≤ r.val / 512 ∧ r.val / 512 < upto f (e + 1)) := by
      intro e he hc
      have := upto_mono f (show e + 1 ≤ 8 by omega)
      omega
    simp only [if_neg (hn 0 (by decide)), if_neg (hn 1 (by decide)), if_neg (hn 2 (by decide)), if_neg (hn 3 (by decide)), if_neg (hn 4 (by decide)), if_neg (hn 5 (by decide)),
      if_neg (hn 6 (by decide)), if_neg (hn 7 (by decide)), zero_mul, add_zero]

end Sum

end Cert.Experts.Ref

end
-- ==== Proof.Experts.lean ====
/-
  The experts' call and its reference leave the same array over the reals: at a row of a used tile the layer of the tile's
  expert, at any other row zero.
-/
module

public import proofs.«01_k».proof.Defs
public import proofs.«01_k».proof.Proof.ExpertsBits
public import proofs.«01_k».proof.Proof.ExpertsRef

@[expose] public section

set_option maxRecDepth 16384

noncomputable section

namespace Cert.Experts

open Idealize.ShloMosaic Idealize.ShloMosaic.TcCoe Idealize.SL.Sem

/-- The precondition's own side conditions. -/
theorem pre_facts : Cert.Pre_counts_of_all_pairs.Facts where
  bcast_S_S8 := Cert.Reference7Ideal.Gen.facts.bcast_S_S8
  reducesTo_S8_S_d0 := by decide
  h_S_ := by decide

section Ref
open Cert.Reference7Ideal Cert.Reference7Ideal.Gen

/-- The reference terminates with its arguments unchanged and every counter at zero. -/
theorem frame_ref : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The reference's run, its array the sum of the eight terms. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v249) = Ref.sum8 (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
      rw [Ref.sum6_eq]
      unfold Value.res_main_v211 Value.res_main_v241 Value.res_main_v8 Ref.sum8 Ref.termOf Ref.term Ref.mask Ref.layer
      rfl), (h c).2⟩)
    (Value.run (F := Ideal) m ρ)

end Ref

/-- The experts: the call and the reference leave the same array over the reals. -/
theorem value [Cert.Pre_counts_of_all_pairs.Facts] : Cert.algebraic_Kernel7Ideal_Reference7Ideal := fun m ρ m' ρ' hpre hag => by
  obtain ⟨f, h⟩ := counts_of_pre _ _ _ _ _ (hpre 0)
  refine ⟨fun c => (dats m (ok m h) 0 c).arrAt 4 (cfgE m (ok m h)).N,
    (θ_run _ _ _).mono (fun _ hr => hr.1) (run_all m ρ h),
    (θ_run _ _ _).mono (fun _ hr c => ⟨(hr c).1.trans ?_, (hr c).2⟩) (run_ref m' ρ')⟩
  obtain ⟨e0, e1, e2, e3, e4⟩ := hag c
  obtain rfl : c = 0 := Subsingleton.elim (α := Fin 1) _ _
  have h' : Counts (StableHlo.launchContents m' 0 (Proc.devRef .tc Cert.Reference7Ideal.main_arg1)) f := by
    have := h
    rw [← e1] at this
    exact this
  funext y
  obtain ⟨r, j, rfl⟩ : ∃ (r : Fin 36864) (j : Fin 2048), y = ix2 r j :=
    ⟨y 0, y 1, by funext a; match a with | ⟨0, _⟩ => rfl | ⟨1, _⟩ => rfl⟩
  refine (Ref.sum8_at _ h' r j).trans (Eq.trans ?_ (arr_at m h 0 r j).symm)
  unfold partM
  rw [← e0, ← e2, ← e3, ← e4]

end Cert.Experts

end
-- ==== Proof.NormMod.lean ====
/-
  The norm with its modulation, taken by itself: what the call's array holds, index by index, and what the reference
  computes; the two are one formula.
-/
module

public import proofs.«01_k».proof.Proof.Gen.Kernel8Ideal.Value
public import proofs.«01_k».proof.Proof.Gen.Reference8Ideal.Run
public import Idealize.ShloMosaic.Lib.Pointwise
public import Idealize.ShloMosaic.Lib.StableHlo.Run

@[expose] public section

set_option maxRecDepth 16384

noncomputable section

open Idealize.ShloMosaic Idealize.ShloMosaic.TcCoe Idealize.SL.Sem

namespace Cert.NormMod

/-- A row normalised and modulated, at a column, of the row's values, the scale of the norm and the modulation's two rows. -/
def nm (x g sc sh : Fin 2048 → EReal) (d : Fin 2048) : EReal :=
  x d * Ideal.rsqrt (Ideal.div (∑ e : Fin 2048, x e * x e) (Ideal.ofBits .f32 0x45000000#32) + Ideal.ofBits .f32 0x358637BD#32) * g d * (1 + sc d) + sh d

/-- The normalised array at a row and a column. -/
def at' (x : FVec Ideal ⟨3, ![4, 4096, 2048]⟩ .f32) (g : FVec Ideal ⟨1, ![2048]⟩ .f32) (md : FVec Ideal ⟨3, ![2, 4, 12288]⟩ .f32)
    (r : Fin 16384) (j : Fin 2048) : EReal :=
  nm (fun d => x (ix3 ⟨r.val / 4096, by omega⟩ ⟨r.val % 4096, by omega⟩ d)) (fun d => g (ix1 d))
    (fun d => md (ix3 0 ⟨r.val / 4096, by omega⟩ ⟨2048 + d.val, by omega⟩)) (fun d => md (ix3 0 ⟨r.val / 4096, by omega⟩ ⟨d.val, by omega⟩)) j

end Cert.NormMod

namespace Cert.Kernel8Ideal.Value

open Cert.Kernel8Ideal Cert.Kernel8Ideal.Gen Cert.NormMod

variable (m : (ℓ : Loc nD τ sig) → Buf (Elt Ideal) ℓ)

/-- The normalised block at an index. -/
theorem pay_at (x0 : Vec Ideal S512x2048 .f32) (x1 : Vec Ideal S1x2048 .f32) (x2 x3 : Vec Ideal S1x1x2048 .f32) (i : Fin 512) (d : Fin 2048) :
    k0_pay1 x0 x1 x2 x3 (ix2 i d) = nm (fun d => x0 (ix2 i d)) (fun d => x1 (ix2 0 d)) (fun d => x2 (ix3 0 0 d)) (fun d => x3 (ix3 0 0 d)) d := by
  unfold k0_pay1
  pointwise
  rfl

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val / 8 * 6 + 1 ∧ win0_2.index t 1 = 0 ∧ win0_2.index t 2 = 0 := by
  decide +kernel
theorem idx3 : ∀ t : Fin grid0.N, win0_3.index t 0 = t.val / 8 * 6 ∧ win0_3.index t 1 = 0 ∧ win0_3.index t 2 = 0 := by
  decide +kernel
theorem idx4 : ∀ t : Fin grid0.N, win0_4.index t 0 = t.val ∧ win0_4.index t 1 = 0 := by decide +kernel

theorem z2 : (![0, 0] : Fin 2 → Nat) = fun _ => 0 := by decide
theorem z3 : (![0, 0, 0] : Fin 3 → Nat) = fun _ => 0 := by decide

theorem t_lt (t : Fin grid0.N) : t.val < 32 := t.isLt

/-- The rows as the call takes them. -/
theorem V_x (c : Dev nD) (r : Fin 16384) (j : Fin 2048) : V m c main_v0 (ix2 r j)
    = m ((c : Thread nD τ).loc main_arg0) (ix3 ⟨r.val / 4096, by omega⟩ ⟨r.val % 4096, by omega⟩ j) := by
  unfold V
  simp only [hostOps0, List.flatten_cons, List.flatten_nil, List.append_nil, List.cons_append, List.nil_append]
  after_results
  show shapeCast _ _ _ _ = _
  pointwise

/-- The norm's scale as the call takes it. -/
theorem V_g (c : Dev nD) (j : Fin 2048) : V m c main_v2 (ix2 0 j) = m ((c : Thread nD τ).loc main_arg1) (ix1 j) := by
  unfold V
  simp only [hostOps0, List.flatten_cons, List.flatten_nil, List.append_nil, List.cons_append, List.nil_append]
  after_results
  show shapeCast _ _ _ _ = _
  pointwise

/-- The modulation as the call takes it: the row of sequence `b` and part `p` of the first layer. -/
theorem V_mod (c : Dev nD) (b : Fin 4) (p : Fin 6) (j : Fin 2048) : V m c main_v1 (ix3 ⟨b.val * 6 + p.val, by omega⟩ 0 j)
    = m ((c : Thread nD τ).loc main_arg2) (ix3 0 b ⟨p.val * 2048 + j.val, by omega⟩) := by
  unfold V
  simp only [hostOps0, List.flatten_cons, List.flatten_nil, List.append_nil, List.cons_append, List.nil_append]
  after_results
  show shapeCast _ _ _ _ = _
  pointwise
  have hb := b.isLt
  have hp := p.isLt
  refine congrArg (m ((c : Thread nD τ).loc main_arg2)) (funext fun a => Fin.ext ?_)
  match a with
  | ⟨0, _⟩ => show (b.val * 6 + p.val) / 24 = 0; omega
  | ⟨1, _⟩ => rfl
  | ⟨2, _⟩ => show (b.val * 6 + p.val) % 6 * 2048 + j.val = p.val * 2048 + j.val; omega

theorem blk0 (c : Dev nD) (t : Fin grid0.N) (i : Fin 512) (d : Fin 2048) (r : Fin 16384) (hr : t.val * 512 + i.val = r.val) :
    iblk m c 0 t (ix2 i d) = m ((c : Thread nD τ).loc main_arg0) (ix3 ⟨r.val / 4096, by omega⟩ ⟨r.val % 4096, by omega⟩ d) := by
  unfold iblk; rw [View.read_apply]
  refine Eq.trans ?_ (V_x m c r d)
  show V m c main_v0 _ = _
  congr 1; funext a; apply Fin.ext
  match a with
  | ⟨0, _⟩ => show win0_0.index t 0 * 512 + 1 * i.val = r.val; rw [(idx0 t).1, one_mul]; exact hr
  | ⟨1, _⟩ => show win0_0.index t 1 * 2048 + 1 * d.val = d.val; rw [(idx0 t).2, zero_mul, one_mul, zero_add]

theorem blk1 (c : Dev nD) (t : Fin grid0.N) (d : Fin 2048) :
    iblk m c 1 t (ix2 0 d) = m ((c : Thread nD τ).loc main_arg1) (ix1 d) := by
  unfold iblk; rw [View.read_apply]
  refine Eq.trans ?_ (V_g m c d)
  show V m c main_v2 _ = _
  congr 1; funext a; apply Fin.ext
  match a with
  | ⟨0, _⟩ => show win0_1.index t 0 * 1 + 1 * 0 = 0; rw [(idx1 t).1]
  | ⟨1, _⟩ => show win0_1.index t 1 * 2048 + 1 * d.val = d.val; rw [(idx1 t).2, zero_mul, one_mul, zero_add]

/-- The modulation's scale of a block's sequence. -/
theorem blk2 (c : Dev nD) (t : Fin grid0.N) (d : Fin 2048) (b : Fin 4) (h : t.val / 8 = b.val) :
    iblk m c 2 t (ix3 0 0 d) = m ((c : Thread nD τ).loc main_arg2) (ix3 0 b ⟨2048 + d.val, by omega⟩) := by
  unfold iblk; rw [View.read_apply]
  refine Eq.trans ?_ (V_mod m c b 1 d)
  show V m c main_v1 _ = _
  congr 1; funext a; apply Fin.ext
  match a with
  | ⟨0, _⟩ => show win0_2.index t 0 * 1 + 1 * 0 = b.val * 6 + 1; rw [(idx2 t).1, h]; omega
  | ⟨1, _⟩ => show win0_2.index t 1 * 1 + 1 * 0 = 0; rw [(idx2 t).2.1]
  | ⟨2, _⟩ => show win0_2.index t 2 * 2048 + 1 * d.val = d.val; rw [(idx2 t).2.2, zero_mul, one_mul, zero_add]

/-- The modulation's shift of a block's sequence. -/
theorem blk3 (c : Dev nD) (t : Fin grid0.N) (d : Fin 2048) (b : Fin 4) (h : t.val / 8 = b.val) :
    iblk m c 3 t (ix3 0 0 d) = m ((c : Thread nD τ).loc main_arg2) (ix3 0 b ⟨d.val, by omega⟩) := by
  unfold iblk; rw [View.read_apply]
  refine Eq.trans ?_ ((V_mod m c b 0 d).trans ?_)
  · show V m c main_v1 _ = _
    congr 1; funext a; apply Fin.ext
    match a with
    | ⟨0, _⟩ => show win0_3.index t 0 * 1 + 1 * 0 = b.val * 6 + 0; rw [(idx3 t).1, h]; omega
    | ⟨1, _⟩ => show win0_3.index t 1 * 1 + 1 * 0 = 0; rw [(idx3 t).2.1]
    | ⟨2, _⟩ => show win0_3.index t 2 * 2048 + 1 * d.val = d.val; rw [(idx3 t).2.2, zero_mul, one_mul, zero_add]
  · refine congrArg (m ((c : Thread nD τ).loc main_arg2)) (funext fun a => Fin.ext ?_)
    match a with
    | ⟨0, _⟩ => rfl
    | ⟨1, _⟩ => rfl
    | ⟨2, _⟩ => show 0 * 2048 + d.val = d.val; omega

/-- The call's array, index by index. -/
theorem arr_at (c : Dev nD) (r : Fin 16384) (j : Fin 2048) : (dats m 0 c).arrAt 4 cfg0.N (ix2 r j)
    = Cert.NormMod.at' (m ((c : Thread nD τ).loc main_arg0)) (m ((c : Thread nD τ).loc main_arg1))
        (m ((c : Thread nD τ).loc main_arg2)) r j := by
  have ht : r.val / 512 < 32 := by omega
  have h := congrFun (blocks4 m c ⟨_, ht⟩ (flush0_4 _)) (ix2 ⟨r.val % 512, by omega⟩ j)
  rw [View.read_apply] at h
  refine Eq.trans ?_ (h.trans ?_)
  · show (dats m 0 c).arrAt 4 cfg0.N _ = (dats m 0 c).arrAt 4 cfg0.N _
    congr 1; funext a; apply Fin.ext
    match a with
    | ⟨0, _⟩ => show r.val = win0_4.index ⟨_, ht⟩ 0 * 512 + 1 * (r.val % 512); rw [(idx4 _).1]; show r.val = r.val / 512 * 512 + 1 * (r.val % 512); omega
    | ⟨1, _⟩ => show j.val = win0_4.index ⟨_, ht⟩ 1 * 2048 + 1 * j.val; rw [(idx4 _).2]; omega
  · rw [flushed4]
    show out0_4 _ _ _ _ (ix2 ⟨r.val % 512, _⟩ j) = _
    unfold out0_4
    rw [View.canon_unit_zero z2, View.ld_unit_zero z2, View.ld_unit_zero z2, View.ld_unit_zero z3, View.ld_unit_zero z3, pay_at]
    have hb : r.val / 512 / 8 = r.val / 4096 := by omega
    unfold Cert.NormMod.at'
    congr 1
    · funext d; exact blk0 m c _ _ d r (by show r.val / 512 * 512 + r.val % 512 = r.val; omega)
    · funext d; exact blk1 m c _ d
    · funext d; exact blk2 m c _ d ⟨r.val / 4096, by omega⟩ hb
    · funext d; exact blk3 m c _ d ⟨r.val / 4096, by omega⟩ hb

end Cert.Kernel8Ideal.Value

namespace Cert.NormMod
open Cert.Reference8Ideal Cert.Reference8Ideal.Gen
theorem ref_at (x : FVec Ideal S4x4096x2048 .f32) (g : FVec Ideal S2048 .f32) (md : FVec Ideal S2x4x12288 .f32) (r : Fin 16384) (j : Fin 2048) :
    (truncf .bf16 (shapeCast _ (addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 2048] (shapeCast _ (extractStridedSlice S1x4x12288 ![0, 0, 0] md slices_S2x4x12288_S1x4x12288_0_0_0) shapeCasts_S1x4x12288_S4x12288) slices_S4x12288_S4x2048_0_2048))))) (broadcastInDim S4x4096x2048 ![0, 1, 2] bcast_S4x1x2048_S4x4096x2048_0_1_2 (broadcastInDim S4x1x2048 ![0, 2] bcast_S4x2048_S4x1x2048_0_2 (extractStridedSlice S4x2048 ![0, 0] (shapeCast _ (extractStridedSlice S1x4x12288 ![0, 0, 0] md slices_S2x4x12288_S1x4x12288_0_0_0) shapeCasts_S1x4x12288_S4x12288) slices_S4x12288_S4x2048_0_0)))) shapeCasts_S4x4096x2048_S16384x2048) bitsLt_bf16_f32 : FVec Ideal S16384x2048 .bf16) (ix2 r j) = at' x g md r j := by
  pointwise
  rfl
end Cert.NormMod

end

end
-- ==== Proof.Ada.lean ====
/-
  The modulation's projection: what the call's array holds, index by index, and what the reference computes; the two are
  one sum over the conditioning's columns.
-/
module

public import proofs.«01_k».proof.Proof.Gen.Kernel9Ideal.Value
public import proofs.«01_k».proof.Proof.Gen.Reference9Ideal.Run
public import Idealize.ShloMosaic.Lib.Pointwise
public import Idealize.ShloMosaic.Lib.StableHlo.Run
public import Idealize.ShloMosaic.Lib.Routing.OpsSet

@[expose] public section

set_option maxRecDepth 16384

noncomputable section

open Idealize.ShloMosaic Idealize.ShloMosaic.TcCoe Idealize.SL.Sem

namespace Cert.Ada

/-- The conditioning's four rows, and four rows of zeros under them. -/
def pad (cd : FVec Ideal ⟨2, ![4, 2048]⟩ .f32) (i : Fin 8) (k : Fin 2048) : EReal :=
  if h : i.val < 4 then cd (ix2 ⟨i.val, h⟩ k) else 0

/-- The projection of layer `l` at a row and a column. -/
def at' (cd : FVec Ideal ⟨2, ![4, 2048]⟩ .f32) (w : FVec Ideal ⟨3, ![2, 2048, 12288]⟩ .f32) (b : FVec Ideal ⟨2, ![2, 12288]⟩ .f32)
    (l : Fin 2) (i : Fin 8) (j : Fin 12288) : EReal :=
  (∑ k : Fin 2048, pad cd i k * Ideal.logistic (pad cd i k) * w (ix3 l k j)) + b (ix2 l j)

/-- An array of four rows written over the first four of eight. -/
theorem set_at (d : ScatterDims ⟨2, ![8, 2048]⟩ ⟨1, ![1]⟩ ⟨2, ![4, 2048]⟩) (huw : d.updateWindowDims = [0, 1]) (hiw : d.insertedWindowDims = [])
    (hsd : d.scatterDimsToOperandDims = [0]) (x : FVec Ideal ⟨2, ![8, 2048]⟩ .f32) (idx : IVec ⟨1, ![1]⟩ 32) (hidx : ∀ a, idx a = 0#32)
    (u : FVec Ideal ⟨2, ![4, 2048]⟩ .f32) (i : Fin 8) (k : Fin 2048) :
    Host.scatter d (fun _ b => b) x idx u (ix2 i k) = if h : i.val < 4 then u (ix2 ⟨i.val, h⟩ k) else x (ix2 i k) := by
  have hs : ∀ (q : Shape.Idx ⟨2, ![4, 2048]⟩) (a : Fin 2), d.start q idx a = 0 := fun q a => by
    unfold ScatterDims.start
    split
    · rw [hidx]; rfl
    · rfl
  have hk : d.sKept = [0, 1] := by
    show Shape.kept _ d.insertedWindowDims = _
    rw [hiw]; rfl
  have hw0 : ∀ q : Shape.Idx ⟨2, ![4, 2048]⟩, d.window q 0 = (q 0).val := fun q => by
    unfold ScatterDims.window
    rw [dif_pos (by rw [hk]; simp)]
    refine congrArg (fun t : Fin 2 => (q t).val) ?_
    simp only [huw, hk]
    rfl
  have hw1 : ∀ q : Shape.Idx ⟨2, ![4, 2048]⟩, d.window q 1 = (q 1).val := fun q => by
    unfold ScatterDims.window
    rw [dif_pos (by rw [hk]; simp)]
    refine congrArg (fun t : Fin 2 => (q t).val) ?_
    simp only [huw, hk]
    rfl
  have hl : ∀ q : Shape.Idx ⟨2, ![4, 2048]⟩, d.resultIdx? q idx = some (ix2 i k) ↔ (q 0).val = i.val ∧ (q 1).val = k.val := fun q => by
    refine (Routing.resultIdx?_ix2 d q idx i k).trans ?_
    rw [hs, hs, hw0, hw1]
    omega
  by_cases h : i.val < 4
  · rw [dif_pos h]
    refine Routing.scatter_set_hit d x idx u _ _ (fun q hq => ?_) (ix2 ⟨i.val, h⟩ k) ((hl _).2 ⟨rfl, rfl⟩)
    refine congrArg u (funext fun a => Fin.ext ?_)
    match a with
    | ⟨0, _⟩ => exact ((hl q).1 hq).1
    | ⟨1, _⟩ => exact ((hl q).1 hq).2
  · rw [dif_neg h]
    refine Routing.scatter_set_miss d x idx u _ fun q hq => h ?_
    have h0 := ((hl q).1 hq).1
    have h1 : (q 0).val < 4 := (q 0).isLt
    omega

end Cert.Ada

namespace Cert.Kernel9Ideal.Value

open Cert.Kernel9Ideal Cert.Kernel9Ideal.Gen

variable (m : (ℓ : Loc nD τ sig) → Buf (Elt Ideal) ℓ)

/-- One block's result at an index. -/
theorem pay_at (v0 : Vec Ideal S8x2048 .f32) (v5 : Vec Ideal S1x2048x1536 .f32) (v9 : Vec Ideal S1x1x1536 .f32) (i : Fin 8) (j : Fin 1536) :
    k0_pay1 v0 v5 v9 (ix3 0 i j)
      = (∑ k : Fin 2048, v0 (ix2 i k) * Ideal.logistic (v0 (ix2 i k)) * v5 (ix3 0 k j)) + v9 (ix3 0 0 j) := by
  unfold k0_pay1
  pointwise

theorem idx0 : ∀ t : Fin grid0.N, win0_0.index t 0 = 0 ∧ win0_0.index t 1 = 0 := by decide +kernel
theorem idx1 : ∀ t : Fin grid0.N, win0_1.index t 0 = t.val / 8 ∧ win0_1.index t 1 = 0 ∧ win0_1.index t 2 = t.val % 8 := by decide +kernel
theorem idx2 : ∀ t : Fin grid0.N, win0_2.index t 0 = t.val / 8 ∧ win0_2.index t 1 = 0 ∧ win0_2.index t 2 = t.val % 8 := by decide +kernel
theorem idx3 : ∀ t : Fin grid0.N, win0_3.index t 0 = t.val / 8 ∧ win0_3.index t 1 = 0 ∧ win0_3.index t 2 = t.val % 8 := by decide +kernel

theorem z2 : (![0, 0] : Fin 2 → Nat) = fun _ => 0 := by decide
theorem z3 : (![0, 0, 0] : Fin 3 → Nat) = fun _ => 0 := by decide

theorem t_lt (t : Fin grid0.N) : t.val < 16 := t.isLt

/-- The conditioning as the call takes it. -/
theorem V_c (c : Dev nD) (i : Fin 8) (k : Fin 2048) : V m c main_v2 (ix2 i k) = Cert.Ada.pad (m ((c : Thread nD τ).loc main_arg0)) i k := by
  unfold V
  simp only [hostOps0, List.flatten_cons, List.flatten_nil, List.append_nil, List.cons_append, List.nil_append]
  after_results
  refine (Cert.Ada.set_at scatter_S8x2048_S1_S4x2048_01_n_0_0 rfl rfl rfl _ _ (fun _ => rfl) _ i k).trans ?_
  unfold Cert.Ada.pad
  split
  · rfl
  · pointwise

/-- The bias as the call takes it. -/
theorem V_b (c : Dev nD) (l : Fin 2) (j : Fin 12288) : V m c main_v3 (ix3 l 0 j) = m ((c : Thread nD τ).loc main_arg2) (ix2 l j) := by
  unfold V
  simp only [hostOps0, List.flatten_cons, List.flatten_nil, List.append_nil, List.cons_append, List.nil_append]
  after_results
  show shapeCast _ _ _ _ = _
  pointwise

theorem blk0 (c : Dev nD) (t : Fin grid0.N) (i : Fin 8) (k : Fin 2048) :
    iblk m c 0 t (ix2 i k) = Cert.Ada.pad (m ((c : Thread nD τ).loc main_arg0)) i k := by
  unfold iblk; rw [View.read_apply]
  refine Eq.trans ?_ (V_c m c i k)
  show V m c main_v2 _ = _
  congr 1; funext a; apply Fin.ext
  match a with
  | ⟨0, _⟩ => show win0_0.index t 0 * 8 + 1 * i.val = i.val; rw [(idx0 t).1]; omega
  | ⟨1, _⟩ => show win0_0.index t 1 * 2048 + 1 * k.val = k.val; rw [(idx0 t).2, zero_mul, one_mul, zero_add]

theorem blk1 (c : Dev nD) (t : Fin grid0.N) (k : Fin 2048) (q : Fin 1536) (l : Fin 2) (j : Fin 12288) (hl : t.val / 8 = l.val)
    (hj : t.val % 8 * 1536 + q.val = j.val) :
    iblk m c 1 t (ix3 0 k q) = m ((c : Thread nD τ).loc main_arg1) (ix3 l k j) := by
  unfold iblk; rw [View.read_apply]
  show V m c main_arg1 _ = _
  rw [V_main_arg1]
  congr 1; funext a; apply Fin.ext
  match a with
  | ⟨0, _⟩ => show win0_1.index t 0 * 1 + 1 * 0 = l.val; rw [(idx1 t).1, mul_one]; exact hl
  | ⟨1, _⟩ => show win0_1.index t 1 * 2048 + 1 * k.val = k.val; rw [(idx1 t).2.1, zero_mul, one_mul, zero_add]
  | ⟨2, _⟩ => show win0_1.index t 2 * 1536 + 1 * q.val = j.val; rw [(idx1 t).2.2, one_mul]; exact hj

theorem blk2 (c : Dev nD) (t : Fin grid0.N) (q : Fin 1536) (l : Fin 2) (j : Fin 12288) (hl : t.val / 8 = l.val)
    (hj : t.val % 8 * 1536 + q.val = j.val) :
    iblk m c 2 t (ix3 0 0 q) = m ((c : Thread nD τ).loc main_arg2) (ix2 l j) := by
  unfold iblk; rw [View.read_apply]
  refine Eq.trans ?_ (V_b m c l j)
  show V m c main_v3 _ = _
  congr 1; funext a; apply Fin.ext
  match a with
  | ⟨0, _⟩ => show win0_2.index t 0 * 1 + 1 * 0 = l.val; rw [(idx2 t).1, mul_one]; exact hl
  | ⟨1, _⟩ => show win0_2.index t 1 * 1 + 1 * 0 = 0; rw [(idx2 t).2.1]
  | ⟨2, _⟩ => show win0_2.index t 2 * 1536 + 1 * q.val = j.val; rw [(idx2 t).2.2, one_mul]; exact hj

/-- The call's array, index by index. -/
theorem arr_at (c : Dev nD) (l : Fin 2) (i : Fin 8) (j : Fin 12288) : (dats m 0 c).arrAt 3 cfg0.N (ix3 l i j)
    = Cert.Ada.at' (m ((c : Thread nD τ).loc main_arg0)) (m ((c : Thread nD τ).loc main_arg1))
        (m ((c : Thread nD τ).loc main_arg2)) l i j := by
  have ht : l.val * 8 + j.val / 1536 < 16 := by omega
  have h0 : (l.val * 8 + j.val / 1536) / 8 = l.val := by omega
  have h2 : (l.val * 8 + j.val / 1536) % 8 * 1536 + j.val % 1536 = j.val := by omega
  have h := congrFun (blocks3 m c ⟨_, ht⟩ (flush0_3 _)) (ix3 0 i ⟨j.val % 1536, by omega⟩)
  rw [View.read_apply] at h
  refine Eq.trans ?_ (h.trans ?_)
  · show (dats m 0 c).arrAt 3 cfg0.N _ = (dats m 0 c).arrAt 3 cfg0.N _
    congr 1; funext a; apply Fin.ext
    match a with
    | ⟨0, _⟩ => show l.val = win0_3.index ⟨_, ht⟩ 0 * 1 + 1 * 0; rw [(idx3 _).1]; show l.val = (l.val * 8 + j.val / 1536) / 8 * 1 + 1 * 0; omega
    | ⟨1, _⟩ => show i.val = win0_3.index ⟨_, ht⟩ 1 * 8 + 1 * i.val; rw [(idx3 _).2.1]; omega
    | ⟨2, _⟩ => show j.val = win0_3.index ⟨_, ht⟩ 2 * 1536 + 1 * (j.val % 1536); rw [(idx3 _).2.2]; show j.val = (l.val * 8 + j.val / 1536) % 8 * 1536 + 1 * (j.val % 1536); omega
  · rw [flushed3]
    show out0_3 _ _ _ (ix3 0 i ⟨j.val % 1536, _⟩) = _
    unfold out0_3
    rw [View.canon_unit_zero z3, View.ld_unit_zero z2, View.ld_unit_zero z3, View.ld_unit_zero z3, pay_at, blk2 m c ⟨_, ht⟩ ⟨j.val % 1536, Nat.mod_lt _ (by decide)⟩ l j h0 h2]
    unfold Cert.Ada.at'
    refine congrArg₂ (· + ·) (Finset.sum_congr rfl fun k _ => ?_) rfl
    rw [blk0, blk1 m c ⟨_, ht⟩ k ⟨j.val % 1536, Nat.mod_lt _ (by decide)⟩ l j h0 h2]

end Cert.Kernel9Ideal.Value

namespace Cert.Ada
open Cert.Reference9Ideal Cert.Reference9Ideal.Gen

/-- The reference's padded conditioning. -/
theorem cat_at (cd : FVec Ideal S4x2048 .f32) (i : Fin 8) (k : Fin 2048) :
    ((concatenate S8x2048 0 [⟨S4x2048, cd⟩, ⟨S4x2048, (broadcastInDim S4x2048 ![] bcast_S_S4x2048 (constant S_ .f32 0x00000000#32))⟩] concatenates_S4x2048_S4x2048_S8x2048_d0) : FVec Ideal S8x2048 .f32) (ix2 i k) = pad cd i k := by
  pointwise
  rfl

/-- The reference's first layer. -/
theorem ref_first (p : FVec Ideal S8x2048 .f32) (w : FVec Ideal S2x2048x12288 .f32) (b : FVec Ideal S2x12288 .f32) (i : Fin 8) (j : Fin 12288) :
    ((broadcastInDim S1x8x12288 ![1, 2] bcast_S8x12288_S1x8x12288_1_2 (addf (Host.dotGeneral dot_S8x2048_S2048x12288_S8x12288_1_0_0_1_n_n none (mulf p (Host.divf (broadcastInDim S8x2048 ![] bcast_S_S8x2048 (constant S_ .f32 0x3F800000#32)) (addf (broadcastInDim S8x2048 ![] bcast_S_S8x2048 (constant S_ .f32 0x3F800000#32)) (Host.exp (Host.negf p))))) (shapeCast _ (extractStridedSlice S1x2048x12288 ![0, 0, 0] w slices_S2x2048x12288_S1x2048x12288_0_0_0) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![0, 0] b slices_S2x12288_S1x12288_0_0) shapeCasts_S1x12288_S12288))))) : FVec Ideal S1x8x12288 .f32) (ix3 0 i j)
      = (∑ k : Fin 2048, p (ix2 i k) * Ideal.logistic (p (ix2 i k)) * w (ix3 0 k j)) + b (ix2 0 j) := by
  pointwise
  rfl

/-- The reference's second layer. -/
theorem ref_second (p : FVec Ideal S8x2048 .f32) (w : FVec Ideal S2x2048x12288 .f32) (b : FVec Ideal S2x12288 .f32) (i : Fin 8) (j : Fin 12288) :
    ((broadcastInDim S1x8x12288 ![1, 2] bcast_S8x12288_S1x8x12288_1_2 (addf (Host.dotGeneral dot_S8x2048_S2048x12288_S8x12288_1_0_0_1_n_n none (mulf p (Host.divf (broadcastInDim S8x2048 ![] bcast_S_S8x2048 (constant S_ .f32 0x3F800000#32)) (addf (broadcastInDim S8x2048 ![] bcast_S_S8x2048 (constant S_ .f32 0x3F800000#32)) (Host.exp (Host.negf p))))) (shapeCast _ (extractStridedSlice S1x2048x12288 ![1, 0, 0] w slices_S2x2048x12288_S1x2048x12288_1_0_0) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![1, 0] b slices_S2x12288_S1x12288_1_0) shapeCasts_S1x12288_S12288))))) : FVec Ideal S1x8x12288 .f32) (ix3 0 i j)
      = (∑ k : Fin 2048, p (ix2 i k) * Ideal.logistic (p (ix2 i k)) * w (ix3 1 k j)) + b (ix2 1 j) := by
  pointwise
  rfl

/-- Two layers stacked. -/
theorem stack_at (x y : FVec Ideal S1x8x12288 .f32) (l : Fin 2) (i : Fin 8) (j : Fin 12288) :
    concatenate S2x8x12288 0 [⟨S1x8x12288, x⟩, ⟨S1x8x12288, y⟩] concatenates_S1x8x12288_S1x8x12288_S2x8x12288_d0 (ix3 l i j)
      = if l.val < 1 then x (ix3 0 i j) else y (ix3 0 i j) := by
  match l with
  | 0 => pointwise
  | 1 => pointwise

theorem ref_at (cd : FVec Ideal S4x2048 .f32) (w : FVec Ideal S2x2048x12288 .f32) (b : FVec Ideal S2x12288 .f32) (l : Fin 2) (i : Fin 8) (j : Fin 12288) :
    (concatenate S2x8x12288 0 [⟨S1x8x12288, (broadcastInDim S1x8x12288 ![1, 2] bcast_S8x12288_S1x8x12288_1_2 (addf (Host.dotGeneral dot_S8x2048_S2048x12288_S8x12288_1_0_0_1_n_n none (mulf (concatenate S8x2048 0 [⟨S4x2048, cd⟩, ⟨S4x2048, (broadcastInDim S4x2048 ![] bcast_S_S4x2048 (constant S_ .f32 0x00000000#32))⟩] concatenates_S4x2048_S4x2048_S8x2048_d0) (Host.divf (broadcastInDim S8x2048 ![] bcast_S_S8x2048 (constant S_ .f32 0x3F800000#32)) (addf (broadcastInDim S8x2048 ![] bcast_S_S8x2048 (constant S_ .f32 0x3F800000#32)) (Host.exp (Host.negf (concatenate S8x2048 0 [⟨S4x2048, cd⟩, ⟨S4x2048, (broadcastInDim S4x2048 ![] bcast_S_S4x2048 (constant S_ .f32 0x00000000#32))⟩] concatenates_S4x2048_S4x2048_S8x2048_d0)))))) (shapeCast _ (extractStridedSlice S1x2048x12288 ![0, 0, 0] w slices_S2x2048x12288_S1x2048x12288_0_0_0) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![0, 0] b slices_S2x12288_S1x12288_0_0) shapeCasts_S1x12288_S12288)))))⟩, ⟨S1x8x12288, (broadcastInDim S1x8x12288 ![1, 2] bcast_S8x12288_S1x8x12288_1_2 (addf (Host.dotGeneral dot_S8x2048_S2048x12288_S8x12288_1_0_0_1_n_n none (mulf (concatenate S8x2048 0 [⟨S4x2048, cd⟩, ⟨S4x2048, (broadcastInDim S4x2048 ![] bcast_S_S4x2048 (constant S_ .f32 0x00000000#32))⟩] concatenates_S4x2048_S4x2048_S8x2048_d0) (Host.divf (broadcastInDim S8x2048 ![] bcast_S_S8x2048 (constant S_ .f32 0x3F800000#32)) (addf (broadcastInDim S8x2048 ![] bcast_S_S8x2048 (constant S_ .f32 0x3F800000#32)) (Host.exp (Host.negf (concatenate S8x2048 0 [⟨S4x2048, cd⟩, ⟨S4x2048, (broadcastInDim S4x2048 ![] bcast_S_S4x2048 (constant S_ .f32 0x00000000#32))⟩] concatenates_S4x2048_S4x2048_S8x2048_d0)))))) (shapeCast _ (extractStridedSlice S1x2048x12288 ![1, 0, 0] w slices_S2x2048x12288_S1x2048x12288_1_0_0) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![1, 0] b slices_S2x12288_S1x12288_1_0) shapeCasts_S1x12288_S12288)))))⟩] concatenates_S1x8x12288_S1x8x12288_S2x8x12288_d0 : FVec Ideal S2x8x12288 .f32) (ix3 l i j) = at' cd w b l i j := by
  refine (stack_at _ _ l i j).trans ?_
  match l with
  | 0 =>
    refine (if_pos (by decide)).trans ((ref_first _ w b i j).trans ?_)
    refine congrArg (· + b (ix2 0 j)) (Finset.sum_congr rfl fun k _ => congrArg (· * w (ix3 0 k j)) ?_)
    exact congrArg (fun e => e * Ideal.logistic e) (cat_at cd i k)
  | 1 =>
    refine (if_neg (by decide)).trans ((ref_second _ w b i j).trans ?_)
    refine congrArg (· + b (ix2 1 j)) (Finset.sum_congr rfl fun k _ => congrArg (· * w (ix3 1 k j)) ?_)
    exact congrArg (fun e => e * Ideal.logistic e) (cat_at cd i k)

end Cert.Ada

end

end
-- ==== Proof.RetBlock.lean ====
/-
  What one grid point of the retention call leaves, as ONE function over the eight heads.

  The body treats its eight heads one after another; every head's output columns and every head's state are
  stores of their own. Here the two buffers after a grid point are read as `blockOut` and `blockSt`: the same
  head function `headOut` / `headSt` at the head an index lies in, of the point's ten input blocks and of the
  states the point before left (zero at the first chunk of a sequence: `outs_A`; carried otherwise: `outs_B`).
-/
module

public import proofs.«01_k».proof.Proof.Gen.KernelIdeal.Value
public import Idealize.ShloMosaic.Lib.Pointwise
public import Idealize.ShloMosaic.Lib.Pipeline.Value
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

theorem inbQ (h : Fin 8) : ∀ a, (![0, 128 * h.val] : Fin 2 → Nat) a + (![128, 128] : Fin 2 → Nat) a ≤ S128x1024.size a := by
  revert h; decide +kernel

theorem inbV (h : Fin 8) : ∀ a, (![0, 256 * (h.val % 4)] : Fin 2 → Nat) a + (![128, 256] : Fin 2 → Nat) a ≤ S128x1024.size a := by
  revert h; decide +kernel

theorem inbT (h : Fin 8) : ∀ a, (![h.val, 0, 0] : Fin 3 → Nat) a + (![1, 128, 128] : Fin 3 → Nat) a ≤ S8x128x128.size a := by
  revert h; decide +kernel

theorem inbC (h : Fin 8) : ∀ a, (![h.val, 0, 0] : Fin 3 → Nat) a + (![1, 1, 256] : Fin 3 → Nat) a ≤ S8x1x256.size a := by
  revert h; decide +kernel

theorem inbS (h : Fin 8) : ∀ a, (![h.val, 0, 0] : Fin 3 → Nat) a + (![1, 128, 256] : Fin 3 → Nat) a ≤ S8x128x256.size a := by
  revert h; decide +kernel

theorem inbO (h : Fin 8) : ∀ a, (![0, 256 * h.val] : Fin 2 → Nat) a + (![128, 256] : Fin 2 → Nat) a ≤ S128x2048.size a := by
  revert h; decide +kernel

/-- Head `h`'s query (or key) columns of a point's block. -/
abbrev ldQ (x : Vec F S128x1024 .bf16) (h : Fin 8) : Vec F S128x128 .bf16 :=
  View.ld x (Rect.unit (s := S128x1024) ![0, 128 * h.val] ![128, 128] (inbQ h))

/-- Head `h`'s value (or gate) columns: the first four heads' in one block, the last four's in another. -/
abbrev ldV (xa xb : Vec F S128x1024 .bf16) (h : Fin 8) : Vec F S128x256 .bf16 :=
  View.ld (if h.val < 4 then xa else xb) (Rect.unit (s := S128x1024) ![0, 256 * (h.val % 4)] ![128, 256] (inbV h))

/-- Head `h`'s part of a table over (head, row, column). -/
abbrev ldT (x : Vec F S8x128x128 .f32) (h : Fin 8) : Vec F S1x128x128 .f32 :=
  View.ld x (Rect.unit (s := S8x128x128) ![h.val, 0, 0] ![1, 128, 128] (inbT h))

/-- Head `h`'s row of the state-decay table. -/
abbrev ldC (x : Vec F S8x1x256 .f32) (h : Fin 8) : Vec F S1x1x256 .f32 :=
  View.ld x (Rect.unit (s := S8x1x256) ![h.val, 0, 0] ![1, 1, 256] (inbC h))

/-- Head `h`'s state. -/
abbrev ldS (x : Vec F S8x128x256 .f32) (h : Fin 8) : Vec F S1x128x256 .f32 :=
  View.ld x (Rect.unit (s := S8x128x256) ![h.val, 0, 0] ![1, 128, 256] (inbS h))

/-- One head's output rows, of its query, key, value, gate, the two tables it reads and its state. -/
def headOut (q k : Vec F S128x128 .bf16) (v g : Vec F S128x256 .bf16) (ia qd : Vec F S1x128x128 .f32)
    (st : Vec F S1x128x256 .f32) : FVec F S128x256 .bf16 :=
  k0_pay7 (k0_pay2 g) (k0_pay4 q k v ia qd st)

/-- One head's next state. -/
def headSt (k : Vec F S128x128 .bf16) (v : Vec F S128x256 .bf16) (kd : Vec F S1x128x128 .f32) (cd : Vec F S1x1x256 .f32)
    (st : Vec F S1x128x256 .f32) : FVec F S1x128x256 .f32 :=
  k0_pay6 v (k0_pay3 st) (k0_pay5 k kd) cd

/-- The output block of a grid point: at a column, the output of the head the column lies in. -/
def blockOut (x0 x1 x2 x3 x4 x5 : Vec F S128x1024 .bf16) (x6 x7 : Vec F S8x128x128 .f32) (xs : Vec F S8x128x256 .f32) :
    Vec F S128x2048 .bf16 := fun y =>
  have h1 : (y 1).val < 2048 := (y 1).isLt
  headOut (ldQ x0 ⟨(y 1).val / 256, by omega⟩) (ldQ x1 ⟨(y 1).val / 256, by omega⟩) (ldV x2 x3 ⟨(y 1).val / 256, by omega⟩)
    (ldV x4 x5 ⟨(y 1).val / 256, by omega⟩) (ldT x6 ⟨(y 1).val / 256, by omega⟩) (ldT x7 ⟨(y 1).val / 256, by omega⟩)
    (ldS xs ⟨(y 1).val / 256, by omega⟩) (ix2 (y 0) ⟨(y 1).val % 256, by omega⟩)

/-- The states after a grid point. -/
def blockSt (x1 x2 x3 : Vec F S128x1024 .bf16) (x8 : Vec F S8x128x128 .f32) (x9 : Vec F S8x1x256 .f32)
    (xs : Vec F S8x128x256 .f32) : Vec F S8x128x256 .f32 := fun y =>
  headSt (ldQ x1 (y 0)) (ldV x2 x3 (y 0)) (ldT x8 (y 0)) (ldC x9 (y 0)) (ldS xs (y 0)) (ix3 0 (y 1) (y 2))

/-- The output block, at a column of head `h`'s store. -/
theorem blockOut_piece (x0 x1 x2 x3 x4 x5 : Vec F S128x1024 .bf16) (x6 x7 : Vec F S8x128x128 .f32) (xs : Vec F S8x128x256 .f32)
    (h : Fin 8) (x : S128x256.Idx) :
    headOut (ldQ x0 h) (ldQ x1 h) (ldV x2 x3 h) (ldV x4 x5 h) (ldT x6 h) (ldT x7 h) (ldS xs h) x
      = blockOut x0 x1 x2 x3 x4 x5 x6 x7 xs ((Rect.unit (s := S128x2048) ![0, 256 * h.val] ![128, 256] (inbO h)).emb x) := by
  have key : ∀ (h' : Fin 8) (x' : S128x256.Idx), h' = h → x' = x →
      headOut (ldQ x0 h) (ldQ x1 h) (ldV x2 x3 h) (ldV x4 x5 h) (ldT x6 h) (ldT x7 h) (ldS xs h) x
      = headOut (ldQ x0 h') (ldQ x1 h') (ldV x2 x3 h') (ldV x4 x5 h') (ldT x6 h') (ldT x7 h') (ldS xs h') x' := by
    rintro h' x' rfl rfl; rfl
  have h1 : (x 1).val < 256 := (x 1).isLt
  refine key _ _ (Fin.ext ?_) (funext fun a => Fin.ext ?_)
  · show (256 * h.val + 1 * (x 1).val) / 256 = h.val
    omega
  · match a with
    | ⟨0, _⟩ => show 0 + 1 * (x 0).val = (x 0).val; omega
    | ⟨1, _⟩ => show (256 * h.val + 1 * (x 1).val) % 256 = (x 1).val; omega

/-- The states, at an element of head `h`'s store. -/
theorem blockSt_piece (x1 x2 x3 : Vec F S128x1024 .bf16) (x8 : Vec F S8x128x128 .f32) (x9 : Vec F S8x1x256 .f32)
    (xs : Vec F S8x128x256 .f32) (h : Fin 8) (x : S1x128x256.Idx) :
    headSt (ldQ x1 h) (ldV x2 x3 h) (ldT x8 h) (ldC x9 h) (ldS xs h) x
      = blockSt x1 x2 x3 x8 x9 xs ((Rect.unit (s := S8x128x256) ![h.val, 0, 0] ![1, 128, 256] (inbS h)).emb x) := by
  have key : ∀ (h' : Fin 8) (x' : S1x128x256.Idx), h' = h → x' = x →
      headSt (ldQ x1 h) (ldV x2 x3 h) (ldT x8 h) (ldC x9 h) (ldS xs h) x
      = headSt (ldQ x1 h') (ldV x2 x3 h') (ldT x8 h') (ldC x9 h') (ldS xs h') x' := by
    rintro h' x' rfl rfl; rfl
  have h0 : (x 0).val < 1 := (x 0).isLt
  refine key _ _ (Fin.ext ?_) (funext fun a => Fin.ext ?_)
  · show h.val + 1 * (x 0).val = h.val
    omega
  · match a with
    | ⟨0, _⟩ => show 0 = (x 0).val; omega
    | ⟨1, _⟩ => show 0 + 1 * (x 1).val = (x 1).val; omega
    | ⟨2, _⟩ => show 0 + 1 * (x 2).val = (x 2).val; omega

/-- The zero states a sequence's first chunk starts from. -/
abbrev zeroSt : Vec F S8x128x256 .f32 := k0_pay1

/-- The rectangle of head `h`'s state. -/
abbrev rectS (h : Fin 8) : Rect S8x128x256 := Rect.unit (s := S8x128x256) ![h.val, 0, 0] ![1, 128, 256] (inbS h)

/-- Every element lies in the rectangle of its own head. -/
theorem mem_rectS (y : S8x128x256.Idx) (h : Fin 8) (hy : (y 0).val = h.val) : y ∈ (rectS h).set := by
  rw [Rect.mem_set_unit]
  have h1 : (y 1).val < 128 := (y 1).isLt
  have h2 : (y 2).val < 256 := (y 2).isLt
  intro a
  match a with
  | ⟨0, _⟩ => exact ⟨by show h.val ≤ (y 0).val; omega, by show (y 0).val < h.val + 1; omega⟩
  | ⟨1, _⟩ => exact ⟨Nat.zero_le _, by show (y 1).val < 0 + 128; omega⟩
  | ⟨2, _⟩ => exact ⟨Nat.zero_le _, by show (y 2).val < 0 + 256; omega⟩

/-- Eight stores, one for each head, over any earlier store: where each is a part of `G` the buffer holds `G`. -/
theorem canon_heads (G : S8x128x256.Idx → Elt F .f32) (Z : View.Piece (Elt F) S8x128x256 .f32)
    (w0 w1 w2 w3 w4 w5 w6 w7 : S1x128x256.Idx → Elt F .f32)
    (h0 : ∀ x, w0 x = G ((rectS 0).emb x)) (h1 : ∀ x, w1 x = G ((rectS 1).emb x)) (h2 : ∀ x, w2 x = G ((rectS 2).emb x))
    (h3 : ∀ x, w3 x = G ((rectS 3).emb x)) (h4 : ∀ x, w4 x = G ((rectS 4).emb x)) (h5 : ∀ x, w5 x = G ((rectS 5).emb x))
    (h6 : ∀ x, w6 x = G ((rectS 6).emb x)) (h7 : ∀ x, w7 x = G ((rectS 7).emb x)) (y : S8x128x256.Idx) :
    View.canon (([⟨rectS 7, w7⟩, ⟨rectS 6, w6⟩, ⟨rectS 5, w5⟩, ⟨rectS 4, w4⟩, ⟨rectS 3, w3⟩, ⟨rectS 2, w2⟩, ⟨rectS 1, w1⟩,
      ⟨rectS 0, w0⟩, Z] : List (View.Piece (Elt F) S8x128x256 .f32))) y = G y := by
  refine View.canon_append_of_piecesOf G [Z] [⟨rectS 7, w7⟩, ⟨rectS 6, w6⟩, ⟨rectS 5, w5⟩, ⟨rectS 4, w4⟩, ⟨rectS 3, w3⟩,
    ⟨rectS 2, w2⟩, ⟨rectS 1, w1⟩, ⟨rectS 0, w0⟩] ⟨h7, h6, h5, h4, h3, h2, h1, h0, trivial⟩ y ?_
  have hy : (y 0).val < 8 := (y 0).isLt
  obtain h | h | h | h | h | h | h | h : (y 0).val = 7 ∨ (y 0).val = 6 ∨ (y 0).val = 5 ∨ (y 0).val = 4 ∨ (y 0).val = 3
      ∨ (y 0).val = 2 ∨ (y 0).val = 1 ∨ (y 0).val = 0 := by omega
  · exact ⟨_, .head _, mem_rectS y 7 h⟩
  · exact ⟨_, .tail _ (.head _), mem_rectS y 6 h⟩
  · exact ⟨_, .tail _ (.tail _ (.head _)), mem_rectS y 5 h⟩
  · exact ⟨_, .tail _ (.tail _ (.tail _ (.head _))), mem_rectS y 4 h⟩
  · exact ⟨_, .tail _ (.tail _ (.tail _ (.tail _ (.head _)))), mem_rectS y 3 h⟩
  · exact ⟨_, .tail _ (.tail _ (.tail _ (.tail _ (.tail _ (.head _))))), mem_rectS y 2 h⟩
  · exact ⟨_, .tail _ (.tail _ (.tail _ (.tail _ (.tail _ (.tail _ (.head _)))))), mem_rectS y 1 h⟩
  · exact ⟨_, .tail _ (.tail _ (.tail _ (.tail _ (.tail _ (.tail _ (.tail _ (.head _))))))), mem_rectS y 0 h⟩

/-- A point that is not the first of its sequence leaves the output block of the states it found. -/
theorem out_B (c : Dev nD) (t : Fin cfg0.N) (hc : ¬cond0_0 (grid0.coords t)) (x0 x1 x2 x3 x4 x5 : Vec F S128x1024 .bf16)
    (x6 x7 x8 : Vec F S8x128x128 .f32) (x9 : Vec F S8x1x256 .f32) (xs : Vec F S8x128x256 .f32) :
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc x0 x1 x2 x3 x4 x5 x6 x7 x8 x9 xs
      = blockOut x0 x1 x2 x3 x4 x5 x6 x7 xs := by
  unfold out0_B_10
  rw [View.read_writes_junk_eq_canon]
  funext y
  refine (View.canon_apply_of_pieces (blockOut x0 x1 x2 x3 x4 x5 x6 x7 xs) _ ?_ y (cover0_B_10 c _ _ _ _ _ _ _ _ _ _ _ _ _ _ _ _ _ _ _ _ _ _ _ _ _ _ _ _ _ _ _ _ _ _ _ _ _ y))
  refine View.PiecesOf.mem ?_
  unfold kernelRun0_B
  dsimp only
  sl_unfold_words
  have hxs : View.read (Elt F) (View.whole cc0_scratch0) ((Memref.isWhole_whole cc0_scratch0).unread xs) = xs :=
    (Memref.isWhole_whole cc0_scratch0).read_unread _
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, hxs]
  exact ⟨blockOut_piece _ _ _ _ _ _ _ _ _ 7, blockOut_piece _ _ _ _ _ _ _ _ _ 6, blockOut_piece _ _ _ _ _ _ _ _ _ 5,
    blockOut_piece _ _ _ _ _ _ _ _ _ 4, blockOut_piece _ _ _ _ _ _ _ _ _ 3, blockOut_piece _ _ _ _ _ _ _ _ _ 2,
    blockOut_piece _ _ _ _ _ _ _ _ _ 1, blockOut_piece _ _ _ _ _ _ _ _ _ 0, trivial⟩

/-- It leaves the next states of those it found. -/
theorem st_B (c : Dev nD) (t : Fin cfg0.N) (hc : ¬cond0_0 (grid0.coords t)) (x0 x1 x2 x3 x4 x5 : Vec F S128x1024 .bf16)
    (x6 x7 x8 : Vec F S8x128x128 .f32) (x9 : Vec F S8x1x256 .f32) (xs : Vec F S8x128x256 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc x0 x1 x2 x3 x4 x5 x6 x7 x8 x9 xs
      = blockSt x1 x2 x3 x8 x9 xs := by
  unfold sout0_B_0
  rw [View.read_writes_junk_eq_canon]
  funext y
  refine (View.canon_apply_of_pieces (blockSt x1 x2 x3 x8 x9 xs) _ ?_ y (scover0_B_0 c _ _ _ _ _ _ _ _ _ _ _ _ _ _ _ _ _ _ _ _ _ _ _ _ _ _ _ _ _ _ _ _ _ _ _ _ _ y))
  refine View.PiecesOf.mem ?_
  unfold kernelRun0_B
  dsimp only
  sl_unfold_words
  have hxs : View.read (Elt F) (View.whole cc0_scratch0) ((Memref.isWhole_whole cc0_scratch0).unread xs) = xs :=
    (Memref.isWhole_whole cc0_scratch0).read_unread _
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, hxs]
  exact ⟨blockSt_piece _ _ _ _ _ _ 7, blockSt_piece _ _ _ _ _ _ 6, blockSt_piece _ _ _ _ _ _ 5,
    blockSt_piece _ _ _ _ _ _ 4, blockSt_piece _ _ _ _ _ _ 3, blockSt_piece _ _ _ _ _ _ 2,
    blockSt_piece _ _ _ _ _ _ 1, blockSt_piece _ _ _ _ _ _ 0, trivial⟩

/-- The first point of a sequence leaves the output block of zero states. -/
theorem out_A (c : Dev nD) (t : Fin cfg0.N) (hc : cond0_0 (grid0.coords t)) (x0 x1 x2 x3 x4 x5 : Vec F S128x1024 .bf16)
    (x6 x7 x8 : Vec F S8x128x128 .f32) (x9 : Vec F S8x1x256 .f32) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc x0 x1 x2 x3 x4 x5 x6 x7 x8 x9
      = blockOut x0 x1 x2 x3 x4 x5 x6 x7 zeroSt := by
  unfold out0_A_10
  rw [View.read_writes_junk_eq_canon]
  funext y
  refine (View.canon_apply_of_pieces (blockOut x0 x1 x2 x3 x4 x5 x6 x7 zeroSt) _ ?_ y (cover0_A_10 c _ _ _ _ _ _ _ _ _ _ _ _ _ _ _ _ _ _ _ _ _ _ _ _ _ _ _ _ _ _ _ _ _ _ _ _ y))
  refine View.PiecesOf.mem ?_
  unfold kernelRun0_A
  dsimp only
  sl_unfold_words
  have hz : ∀ a, (![0, 0, 0] : Fin 3 → Nat) a = 0 := by decide
  simp (disch := first | decide +kernel | exact hz) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  exact ⟨blockOut_piece _ _ _ _ _ _ _ _ _ 7, blockOut_piece _ _ _ _ _ _ _ _ _ 6, blockOut_piece _ _ _ _ _ _ _ _ _ 5,
    blockOut_piece _ _ _ _ _ _ _ _ _ 4, blockOut_piece _ _ _ _ _ _ _ _ _ 3, blockOut_piece _ _ _ _ _ _ _ _ _ 2,
    blockOut_piece _ _ _ _ _ _ _ _ _ 1, blockOut_piece _ _ _ _ _ _ _ _ _ 0, trivial⟩

/-- It leaves the next states of zero states. -/
theorem st_A (c : Dev nD) (t : Fin cfg0.N) (hc : cond0_0 (grid0.coords t)) (x0 x1 x2 x3 x4 x5 : Vec F S128x1024 .bf16)
    (x6 x7 x8 : Vec F S8x128x128 .f32) (x9 : Vec F S8x1x256 .f32) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) hc x0 x1 x2 x3 x4 x5 x6 x7 x8 x9
      = blockSt x1 x2 x3 x8 x9 zeroSt := by
  unfold sout0_A_0
  rw [View.read_writes_junk_eq_canon]
  funext y
  unfold kernelRun0_A
  dsimp only
  sl_unfold_words
  have hz : ∀ a, (![0, 0, 0] : Fin 3 → Nat) a = 0 := by decide
  simp (disch := first | decide +kernel | exact hz) only [↓View.readCov_skip, ↓View.readCov_fill, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  exact canon_heads (blockSt x1 x2 x3 x8 x9 zeroSt) _ _ _ _ _ _ _ _ _ (blockSt_piece _ _ _ _ _ _ 0) (blockSt_piece _ _ _ _ _ _ 1)
    (blockSt_piece _ _ _ _ _ _ 2) (blockSt_piece _ _ _ _ _ _ 3) (blockSt_piece _ _ _ _ _ _ 4) (blockSt_piece _ _ _ _ _ _ 5)
    (blockSt_piece _ _ _ _ _ _ 6) (blockSt_piece _ _ _ _ _ _ 7) y

/-- The two buffers after a sequence's first point. -/
theorem outs_first (c : Dev nD) (t : Fin cfg0.N) (h0 : t.val % 32 = 0) :
    outsAt0 m c t.val t.isLt = (blockOut (iblk m c 0 t) (iblk m c 1 t) (iblk m c 2 t) (iblk m c 3 t) (iblk m c 4 t) (iblk m c 5 t)
        (iblk m c 6 t) (iblk m c 7 t) zeroSt,
      blockSt (iblk m c 1 t) (iblk m c 2 t) (iblk m c 3 t) (iblk m c 8 t) (iblk m c 9 t) zeroSt) := by
  rw [outsAt0_A m c t h0, out_A, st_A]

/-- The two buffers after a later point, of the states the point before left. -/
theorem outs_next (c : Dev nD) (t : Fin cfg0.N) (h0 : ¬t.val % 32 = 0) :
    outsAt0 m c t.val t.isLt = (blockOut (iblk m c 0 t) (iblk m c 1 t) (iblk m c 2 t) (iblk m c 3 t) (iblk m c 4 t) (iblk m c 5 t)
        (iblk m c 6 t) (iblk m c 7 t) (outsAt0 m c (t.val - 1) (Nat.lt_of_le_of_lt (Nat.sub_le _ _) t.isLt)).2,
      blockSt (iblk m c 1 t) (iblk m c 2 t) (iblk m c 3 t) (iblk m c 8 t) (iblk m c 9 t)
        (outsAt0 m c (t.val - 1) (Nat.lt_of_le_of_lt (Nat.sub_le _ _) t.isLt)).2) := by
  rw [outsAt0_B m c t h0, out_B, st_B]

end Cert.KernelIdeal.Value
-- ==== Proof.RetSpec.lean ====
module

public import proofs.«01_k».proof.Proof.Gen.ReferenceIdeal.Step
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Retention

open Cert.ReferenceIdeal Cert.ReferenceIdeal.Gen Cert.ReferenceIdeal.Step

/-- The projected activations: 16384 rows (four sequences of 4096), 15360 columns. -/
abbrev Acts := FVec Ideal S16384x15360 .bf16

/-- The keys' scale, the single-precision number nearest 1/√128. -/
def sc : EReal := Ideal.ofBits .f32 0x3DB504F3#32

/-- Row `i` of the row block `r` (128 rows a block). -/
def row (r : ℕ) (i : Fin 128) : Fin 16384 := ⟨(r * 128 + i.val) % 16384, by omega⟩

/-- Query, key, value and gate of head `h` at row `i` of row block `r`. -/
def qAt (u : Acts) (r : ℕ) (h : Fin 8) (i d : Fin 128) : EReal := u (ix2 (row r i) ⟨3072 + (h.val * 128 + d.val), by omega⟩)
def kAt (u : Acts) (r : ℕ) (h : Fin 8) (i d : Fin 128) : EReal := u (ix2 (row r i) ⟨4096 + (h.val * 128 + d.val), by omega⟩)
def vAt (u : Acts) (r : ℕ) (h : Fin 8) (i : Fin 128) (e : Fin 256) : EReal :=
  u (ix2 (row r i) ⟨5120 + (h.val * 256 + e.val), by omega⟩)
def gAt (u : Acts) (r : ℕ) (h : Fin 8) (i : Fin 128) (e : Fin 256) : EReal :=
  u (ix2 (row r i) ⟨7168 + (h.val * 256 + e.val), by omega⟩)

/-- The state of head `h` of sequence `b` before its chunk `n`. -/
def state (u : Acts) (b : ℕ) (h : Fin 8) : ℕ → Fin 128 → Fin 256 → EReal
  | 0 => fun _ _ => 0
  | n + 1 => fun d e => state u b h n d e * K_main_v51 (F := Ideal) (ix1 h)
      + ∑ x, kAt u (b * 32 + n) h x d * sc * K_main_v48 (F := Ideal) (ix2 h x) * vAt u (b * 32 + n) h x e

/-- The retention of head `h` at row `i` of chunk `n` of sequence `b`. -/
def ret (u : Acts) (b n : ℕ) (h : Fin 8) (i : Fin 128) (e : Fin 256) : EReal :=
  (∑ x, (∑ d, qAt u (b * 32 + n) h i d * (kAt u (b * 32 + n) h x d * sc)) * K_main_v32 (F := Ideal) (ix3 h i x) * vAt u (b * 32 + n) h x e)
    + (∑ d, qAt u (b * 32 + n) h i d * state u b h n d e) * K_main_v40 (F := Ideal) (ix2 h i)

/-- The branch's output: the retention over its root mean square, times the gate's silu. -/
def outAt (u : Acts) (b n : ℕ) (h : Fin 8) (i : Fin 128) (e : Fin 256) : EReal :=
  gAt u (b * 32 + n) h i e * Ideal.logistic (gAt u (b * 32 + n) h i e)
    * (ret u b n h i e * Ideal.rsqrt (Ideal.div (∑ x, ret u b n h i x * ret u b n h i x) (Ideal.ofBits .f32 0x43800000#32)
      + Ideal.ofBits .f32 0x358637BD#32))

/-- A factor that is a nonnegative real comes out of a sum, on the right. -/
theorem sum_mul_real {ι : Type} (s : Finset ι) (f : ι → EReal) {c : EReal} (h0 : 0 ≤ c) (ht : c ≠ ⊤) :
    (∑ x ∈ s, f x) * c = ∑ x ∈ s, f x * c := by
  classical
  induction s using Finset.induction_on with
  | empty => simp
  | insert a s ha ih => rw [Finset.sum_insert ha, Finset.sum_insert ha, EReal.right_distrib_of_nonneg_of_ne_top h0 ht, ih]

theorem sc_eq : sc = (((11863283 : ℝ) / 134217728 : ℝ) : EReal) := by
  unfold sc
  simp [Ideal.ofBits, Ideal.ieee, -EReal.coe_mul]; norm_num

theorem sc_nonneg : 0 ≤ sc := by
  rw [sc_eq]; exact EReal.coe_nonneg.mpr (by norm_num)

theorem sc_ne_top : sc ≠ ⊤ := by
  rw [sc_eq]; exact EReal.coe_ne_top _

theorem two_eq : Ideal.ofBits .f32 0x40000000#32 = ((2 : ℝ) : EReal) := by
  simp [Ideal.ofBits, Ideal.ieee, -EReal.coe_mul]; norm_num

theorem negfive_eq : Ideal.ofBits .f32 0xC0A00000#32 = (((-5 : ℝ)) : EReal) := by
  simp [Ideal.ofBits, Ideal.ieee, -EReal.coe_mul, -EReal.coe_neg]; norm_num

theorem exp_nonneg (x : EReal) : 0 ≤ Ideal.exp x := by
  induction x with
  | bot => exact le_refl _
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem log_ne_top (r : ℝ) : Ideal.log (r : EReal) ≠ ⊤ := by
  show (if r ≤ 0 then ⊥ else (Real.log r : EReal)) ≠ ⊤
  split
  · exact bot_ne_top
  · exact EReal.coe_ne_top _

theorem mul_pos_ne_top {x : EReal} (h : x ≠ ⊤) {r : ℝ} (hr : 0 < r) : x * (r : EReal) ≠ ⊤ := by
  induction x with
  | bot => rw [EReal.bot_mul_coe_of_pos hr]; exact bot_ne_top
  | top => exact absurd rfl h
  | coe a => rw [← EReal.coe_mul]; exact EReal.coe_ne_top _

theorem qd_nonneg (h : Fin 8) (i : Fin 128) : 0 ≤ K_main_v40 (F := Ideal) (ix2 h i) := exp_nonneg _

/-- The decay of a query's read of the state is finite: a decay rate is not +∞, a position is positive. -/
theorem qd_ne_top (h : Fin 8) (i : Fin 128) : K_main_v40 (F := Ideal) (ix2 h i) ≠ ⊤ := by
  refine exp_ne_top ?_
  unfold K_main_v39 K_main_v38 K_main_v37 K_main_v36 K_main_v35 K_main_v34 K_main_v33 K_main_v15 K_main_v14 K_main_v13 K_main_v12 K_main_v11 K_main_v10 K_main_v9 K_main_v16 K_main_cst_0 K_main_cst K_main_cst_4
  pointwise
  rw [two_eq, negfive_eq, ← EReal.coe_one]
  have hi : ((BitVec.ofNat 32 i.val).toInt : ℝ) = (i.val : ℝ) := by
    have : (BitVec.ofNat 32 i.val).toInt = (i.val : ℤ) := by revert i; decide +kernel
    rw [this]; norm_cast
  rw [show (FloatOps.sitofp (F := Ideal) FTy.f32 (BitVec.ofNat 32 i.val)) = (((BitVec.ofNat 32 i.val).toInt : ℝ) : EReal) from rfl,
    show (FloatOps.sitofp (F := Ideal) FTy.f32 (BitVec.ofNat 32 h.val)) = (((BitVec.ofNat 32 h.val).toInt : ℝ) : EReal) from rfl, hi,
    ← EReal.coe_sub, ← EReal.coe_add]
  refine mul_pos_ne_top ?_ (by positivity)
  show Ideal.log (1 + -(((Real.rpow 2 _ : ℝ)) : EReal)) ≠ ⊤
  rw [← EReal.coe_neg, ← EReal.coe_one, ← EReal.coe_add]
  exact log_ne_top _

end Cert.Retention

end

end
-- ==== Proof.RetTables.lean ====
module

public import proofs.«01_k».proof.Proof.Gen.KernelIdeal.Frame
public import proofs.«01_k».proof.Proof.RetSpec
public import Idealize.ShloMosaic.Lib.StableHlo.Run

@[expose] public section

set_option maxRecDepth 16384

noncomputable section

open Idealize.ShloMosaic Idealize.ShloMosaic.TcCoe Idealize.SL.Sem

namespace Cert.KernelIdeal.Value

open Cert.KernelIdeal Cert.KernelIdeal.Gen Cert.ReferenceIdeal.Step Cert.Retention

variable (m : (ℓ : Loc nD τ sig) → Buf (Elt Ideal) ℓ)

/-- The kernel's decay between two positions of a chunk: the reference's, with the keys' scale in. -/
theorem V_intra (c : Dev nD) : @Eq (FVec Ideal S8x128x128 .f32) (V m c main_v25)
    (fun y => K_main_v32 (F := Ideal) (ix3 (y 0) (y 1) (y 2)) * sc) := by
  unfold V
  simp only [hostOps0, hostOps0_1, hostOps0_2, List.flatten_cons, List.flatten_nil, List.append_nil, List.cons_append, List.nil_append]
  after_results
  funext y
  rw [show y = ix3 (y 0) (y 1) (y 2) from by funext a; match a with | ⟨0, _⟩ => rfl | ⟨1, _⟩ => rfl | ⟨2, _⟩ => rfl]
  rfl

/-- The decay of a query's read of the state: the reference's, repeated over the columns. -/
theorem V_qd (c : Dev nD) : @Eq (FVec Ideal S8x128x128 .f32) (V m c main_v48)
    (fun y => K_main_v40 (F := Ideal) (ix2 (y 0) (y 1))) := by
  unfold V
  simp only [hostOps0, hostOps0_1, hostOps0_2, List.flatten_cons, List.flatten_nil, List.append_nil, List.cons_append, List.nil_append]
  after_results
  funext y
  rw [Pointwise.broadcastInDim_apply, Pointwise.broadcastInDim_apply]
  rfl

/-- The decay of a key's write to the state: the reference's with the keys' scale in, repeated over the columns. -/
theorem V_kd (c : Dev nD) : @Eq (FVec Ideal S8x128x128 .f32) (V m c main_v50)
    (fun y => K_main_v48 (F := Ideal) (ix2 (y 0) (y 1)) * sc) := by
  unfold V
  simp only [hostOps0, hostOps0_1, hostOps0_2, List.flatten_cons, List.flatten_nil, List.append_nil, List.cons_append, List.nil_append]
  after_results
  funext y
  rw [Pointwise.broadcastInDim_apply, Pointwise.broadcastInDim_apply]
  rfl

/-- The state's decay over a chunk: the reference's, repeated over the columns. -/
theorem V_cd (c : Dev nD) : @Eq (FVec Ideal S8x1x256 .f32) (V m c main_v52)
    (fun y => K_main_v51 (F := Ideal) (ix1 (y 0))) := by
  unfold V
  simp only [hostOps0, hostOps0_1, hostOps0_2, List.flatten_cons, List.flatten_nil, List.append_nil, List.cons_append, List.nil_append]
  after_results
  funext y
  rw [Pointwise.broadcastInDim_apply, Pointwise.broadcastInDim_apply]
  rfl

end Cert.KernelIdeal.Value

end

end
-- ==== Proof.RetHead.lean ====
module

public import proofs.«01_k».proof.Proof.RetBlock
public import proofs.«01_k».proof.Proof.RetTables

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.ReferenceIdeal.Step Cert.Retention

variable (m : (ℓ : Loc nD τ sig) → Buf (Elt Ideal) ℓ)

/-- A head's retention before the norm, of its query, key, value, the two tables it reads and its state. -/
def headO (q k : Vec Ideal S128x128 .bf16) (v : Vec Ideal S128x256 .bf16) (ia qd : Vec Ideal S1x128x128 .f32)
    (st : Vec Ideal S1x128x256 .f32) (i : Fin 128) (e : Fin 256) : EReal :=
  ∑ x : Fin 128, (∑ d : Fin 128, q (ix2 i d) * k (ix2 x d)) * ia (ix3 0 i x) * v (ix2 x e)
    + ∑ d : Fin 128, q (ix2 i d) * qd (ix3 0 i d) * st (ix3 0 d e)

/-- A head's output at an index: its retention over the root mean square, times the gate's silu. -/
theorem headOut_at (q k : Vec Ideal S128x128 .bf16) (v g : Vec Ideal S128x256 .bf16) (ia qd : Vec Ideal S1x128x128 .f32)
    (st : Vec Ideal S1x128x256 .f32) (i : Fin 128) (e : Fin 256) :
    headOut q k v g ia qd st (ix2 i e) = g (ix2 i e) * Ideal.logistic (g (ix2 i e))
      * (headO q k v ia qd st i e * Ideal.rsqrt (Ideal.div (∑ x : Fin 256, headO q k v ia qd st i x * headO q k v ia qd st i x)
          (Ideal.ofBits .f32 0x43800000#32) + Ideal.ofBits .f32 0x358637BD#32)) := by
  unfold headOut
  unfold_payloads
  pointwise
  rfl

/-- A head's next state at an index. -/
theorem headSt_at (k : Vec Ideal S128x128 .bf16) (v : Vec Ideal S128x256 .bf16) (kd : Vec Ideal S1x128x128 .f32) (cd : Vec Ideal S1x1x256 .f32)
    (st : Vec Ideal S1x128x256 .f32) (d : Fin 128) (e : Fin 256) :
    headSt k v kd cd st (ix3 0 d e) = st (ix3 0 d e) * cd (ix3 0 0 e)
      + ∑ x : Fin 128, k (ix2 x d) * kd (ix3 0 x d) * v (ix2 x e) := by
  unfold headSt
  unfold_payloads
  pointwise

theorem ldQ_at (x : Vec Ideal S128x1024 .bf16) (h : Fin 8) (i d : Fin 128) :
    ldQ x h (ix2 i d) = x (ix2 i ⟨128 * h.val + d.val, by omega⟩) := by
  show x _ = x _
  congr 1; funext a; apply Fin.ext
  match a with
  | ⟨0, _⟩ => show 0 + 1 * i.val = i.val; omega
  | ⟨1, _⟩ => show 128 * h.val + 1 * d.val = 128 * h.val + d.val; omega

theorem ldV_at (xa xb : Vec Ideal S128x1024 .bf16) (h : Fin 8) (i : Fin 128) (e : Fin 256) :
    ldV xa xb h (ix2 i e) = (if h.val < 4 then xa else xb) (ix2 i ⟨256 * (h.val % 4) + e.val, by omega⟩) := by
  refine congrArg (if h.val < 4 then xa else xb) (funext fun a => Fin.ext ?_)
  match a with
  | ⟨0, _⟩ => show 0 + 1 * i.val = i.val; omega
  | ⟨1, _⟩ => show 256 * (h.val % 4) + 1 * e.val = 256 * (h.val % 4) + e.val; omega

theorem ldT_at (x : Vec Ideal S8x128x128 .f32) (h : Fin 8) (i d : Fin 128) : ldT x h (ix3 0 i d) = x (ix3 h i d) := by
  show x _ = x _
  congr 1; funext a; apply Fin.ext
  match a with
  | ⟨0, _⟩ => show h.val + 1 * 0 = h.val; omega
  | ⟨1, _⟩ => show 0 + 1 * i.val = i.val; omega
  | ⟨2, _⟩ => show 0 + 1 * d.val = d.val; omega

theorem ldC_at (x : Vec Ideal S8x1x256 .f32) (h : Fin 8) (e : Fin 256) : ldC x h (ix3 0 0 e) = x (ix3 h 0 e) := by
  show x _ = x _
  congr 1; funext a; apply Fin.ext
  match a with
  | ⟨0, _⟩ => show h.val + 1 * 0 = h.val; omega
  | ⟨1, _⟩ => show 0 + 1 * 0 = 0; omega
  | ⟨2, _⟩ => show 0 + 1 * e.val = e.val; omega

theorem ldS_at (x : Vec Ideal S8x128x256 .f32) (h : Fin 8) (d : Fin 128) (e : Fin 256) : ldS x h (ix3 0 d e) = x (ix3 h d e) := by
  show x _ = x _
  congr 1; funext a; apply Fin.ext
  match a with
  | ⟨0, _⟩ => show h.val + 1 * 0 = h.val; omega
  | ⟨1, _⟩ => show 0 + 1 * d.val = d.val; omega
  | ⟨2, _⟩ => show 0 + 1 * e.val = e.val; omega

/-- The activations a run starts from. -/
abbrev acts (c : Dev nD) : Acts := m (c.tc.loc main_arg0)

theorem idx0 : ∀ t : Fin grid0.N, win0_0.index t 0 = t.val ∧ win0_0.index t 1 = 3 := by decide +kernel
theorem idx1 : ∀ t : Fin grid0.N, win0_1.index t 0 = t.val ∧ win0_1.index t 1 = 4 := by decide +kernel
theorem idx2 : ∀ t : Fin grid0.N, win0_2.index t 0 = t.val ∧ win0_2.index t 1 = 5 := by decide +kernel
theorem idx3 : ∀ t : Fin grid0.N, win0_3.index t 0 = t.val ∧ win0_3.index t 1 = 6 := by decide +kernel
theorem idx4 : ∀ t : Fin grid0.N, win0_4.index t 0 = t.val ∧ win0_4.index t 1 = 7 := by decide +kernel
theorem idx5 : ∀ t : Fin grid0.N, win0_5.index t 0 = t.val ∧ win0_5.index t 1 = 8 := by decide +kernel
theorem idx6 : ∀ t : Fin grid0.N, win0_6.index t 0 = 0 ∧ win0_6.index t 1 = 0 ∧ win0_6.index t 2 = 0 := by decide +kernel
theorem idx7 : ∀ t : Fin grid0.N, win0_7.index t 0 = 0 ∧ win0_7.index t 1 = 0 ∧ win0_7.index t 2 = 0 := by decide +kernel
theorem idx8 : ∀ t : Fin grid0.N, win0_8.index t 0 = 0 ∧ win0_8.index t 1 = 0 ∧ win0_8.index t 2 = 0 := by decide +kernel
theorem idx9 : ∀ t : Fin grid0.N, win0_9.index t 0 = 0 ∧ win0_9.index t 1 = 0 ∧ win0_9.index t 2 = 0 := by decide +kernel

theorem t_lt (t : Fin grid0.N) : t.val < 128 := t.isLt

theorem blk0 (c : Dev nD) (t : Fin grid0.N) (i : Fin 128) (j : Fin 1024) :
    iblk m c 0 t (ix2 i j) = acts m c (ix2 (row t.val i) ⟨3072 + j.val, by omega⟩) := by
  unfold iblk; rw [View.read_apply]
  show V m c main_arg0 _ = _
  rw [V_main_arg0]
  congr 1; funext a; apply Fin.ext
  have ht := t_lt t
  match a with
  | ⟨0, _⟩ => show win0_0.index t 0 * 128 + 1 * i.val = (t.val * 128 + i.val) % 16384; rw [(idx0 t).1]; omega
  | ⟨1, _⟩ => show win0_0.index t 1 * 1024 + 1 * j.val = 3072 + j.val; rw [(idx0 t).2]; omega

theorem blk1 (c : Dev nD) (t : Fin grid0.N) (i : Fin 128) (j : Fin 1024) :
    iblk m c 1 t (ix2 i j) = acts m c (ix2 (row t.val i) ⟨4096 + j.val, by omega⟩) := by
  unfold iblk; rw [View.read_apply]
  show V m c main_arg0 _ = _
  rw [V_main_arg0]
  congr 1; funext a; apply Fin.ext
  have ht := t_lt t
  match a with
  | ⟨0, _⟩ => show win0_1.index t 0 * 128 + 1 * i.val = (t.val * 128 + i.val) % 16384; rw [(idx1 t).1]; omega
  | ⟨1, _⟩ => show win0_1.index t 1 * 1024 + 1 * j.val = 4096 + j.val; rw [(idx1 t).2]; omega

theorem blk2 (c : Dev nD) (t : Fin grid0.N) (i : Fin 128) (j : Fin 1024) :
    iblk m c 2 t (ix2 i j) = acts m c (ix2 (row t.val i) ⟨5120 + j.val, by omega⟩) := by
  unfold iblk; rw [View.read_apply]
  show V m c main_arg0 _ = _
  rw [V_main_arg0]
  congr 1; funext a; apply Fin.ext
  have ht := t_lt t
  match a with
  | ⟨0, _⟩ => show win0_2.index t 0 * 128 + 1 * i.val = (t.val * 128 + i.val) % 16384; rw [(idx2 t).1]; omega
  | ⟨1, _⟩ => show win0_2.index t 1 * 1024 + 1 * j.val = 5120 + j.val; rw [(idx2 t).2]; omega

theorem blk3 (c : Dev nD) (t : Fin grid0.N) (i : Fin 128) (j : Fin 1024) :
    iblk m c 3 t (ix2 i j) = acts m c (ix2 (row t.val i) ⟨6144 + j.val, by omega⟩) := by
  unfold iblk; rw [View.read_apply]
  show V m c main_arg0 _ = _
  rw [V_main_arg0]
  congr 1; funext a; apply Fin.ext
  have ht := t_lt t
  match a with
  | ⟨0, _⟩ => show win0_3.index t 0 * 128 + 1 * i.val = (t.val * 128 + i.val) % 16384; rw [(idx3 t).1]; omega
  | ⟨1, _⟩ => show win0_3.index t 1 * 1024 + 1 * j.val = 6144 + j.val; rw [(idx3 t).2]; omega

theorem blk4 (c : Dev nD) (t : Fin grid0.N) (i : Fin 128) (j : Fin 1024) :
    iblk m c 4 t (ix2 i j) = acts m c (ix2 (row t.val i) ⟨7168 + j.val, by omega⟩) := by
  unfold iblk; rw [View.read_apply]
  show V m c main_arg0 _ = _
  rw [V_main_arg0]
  congr 1; funext a; apply Fin.ext
  have ht := t_lt t
  match a with
  | ⟨0, _⟩ => show win0_4.index t 0 * 128 + 1 * i.val = (t.val * 128 + i.val) % 16384; rw [(idx4 t).1]; omega
  | ⟨1, _⟩ => show win0_4.index t 1 * 1024 + 1 * j.val = 7168 + j.val; rw [(idx4 t).2]; omega

theorem blk5 (c : Dev nD) (t : Fin grid0.N) (i : Fin 128) (j : Fin 1024) :
    iblk m c 5 t (ix2 i j) = acts m c (ix2 (row t.val i) ⟨8192 + j.val, by omega⟩) := by
  unfold iblk; rw [View.read_apply]
  show V m c main_arg0 _ = _
  rw [V_main_arg0]
  congr 1; funext a; apply Fin.ext
  have ht := t_lt t
  match a with
  | ⟨0, _⟩ => show win0_5.index t 0 * 128 + 1 * i.val = (t.val * 128 + i.val) % 16384; rw [(idx5 t).1]; omega
  | ⟨1, _⟩ => show win0_5.index t 1 * 1024 + 1 * j.val = 8192 + j.val; rw [(idx5 t).2]; omega

theorem blk6 (c : Dev nD) (t : Fin grid0.N) (h : Fin 8) (i j : Fin 128) :
    iblk m c 6 t (ix3 h i j) = K_main_v32 (F := Ideal) (ix3 h i j) * sc := by
  unfold iblk; rw [View.read_apply]
  refine Eq.trans (b := V m c main_v25 (ix3 h i j)) ?_ (congrFun (V_intra m c) (ix3 h i j))
  show V m c main_v25 _ = _
  congr 1; funext a; apply Fin.ext
  match a with
  | ⟨0, _⟩ => show win0_6.index t 0 * 8 + 1 * h.val = h.val; rw [(idx6 t).1]; omega
  | ⟨1, _⟩ => show win0_6.index t 1 * 128 + 1 * i.val = i.val; rw [(idx6 t).2.1]; omega
  | ⟨2, _⟩ => show win0_6.index t 2 * 128 + 1 * j.val = j.val; rw [(idx6 t).2.2]; omega

theorem blk7 (c : Dev nD) (t : Fin grid0.N) (h : Fin 8) (i j : Fin 128) :
    iblk m c 7 t (ix3 h i j) = K_main_v40 (F := Ideal) (ix2 h i) := by
  unfold iblk; rw [View.read_apply]
  refine Eq.trans (b := V m c main_v48 (ix3 h i j)) ?_ (congrFun (V_qd m c) (ix3 h i j))
  show V m c main_v48 _ = _
  congr 1; funext a; apply Fin.ext
  match a with
  | ⟨0, _⟩ => show win0_7.index t 0 * 8 + 1 * h.val = h.val; rw [(idx7 t).1]; omega
  | ⟨1, _⟩ => show win0_7.index t 1 * 128 + 1 * i.val = i.val; rw [(idx7 t).2.1]; omega
  | ⟨2, _⟩ => show win0_7.index t 2 * 128 + 1 * j.val = j.val; rw [(idx7 t).2.2]; omega

theorem blk8 (c : Dev nD) (t : Fin grid0.N) (h : Fin 8) (i j : Fin 128) :
    iblk m c 8 t (ix3 h i j) = K_main_v48 (F := Ideal) (ix2 h i) * sc := by
  unfold iblk; rw [View.read_apply]
  refine Eq.trans (b := V m c main_v50 (ix3 h i j)) ?_ (congrFun (V_kd m c) (ix3 h i j))
  show V m c main_v50 _ = _
  congr 1; funext a; apply Fin.ext
  match a with
  | ⟨0, _⟩ => show win0_8.index t 0 * 8 + 1 * h.val = h.val; rw [(idx8 t).1]; omega
  | ⟨1, _⟩ => show win0_8.index t 1 * 128 + 1 * i.val = i.val; rw [(idx8 t).2.1]; omega
  | ⟨2, _⟩ => show win0_8.index t 2 * 128 + 1 * j.val = j.val; rw [(idx8 t).2.2]; omega

theorem blk9 (c : Dev nD) (t : Fin grid0.N) (h : Fin 8) (e : Fin 256) :
    iblk m c 9 t (ix3 h 0 e) = K_main_v51 (F := Ideal) (ix1 h) := by
  unfold iblk; rw [View.read_apply]
  refine Eq.trans (b := V m c main_v52 (ix3 h 0 e)) ?_ (congrFun (V_cd m c) (ix3 h 0 e))
  show V m c main_v52 _ = _
  congr 1; funext a; apply Fin.ext
  match a with
  | ⟨0, _⟩ => show win0_9.index t 0 * 8 + 1 * h.val = h.val; rw [(idx9 t).1]; omega
  | ⟨1, _⟩ => show win0_9.index t 1 * 1 + 1 * 0 = 0; rw [(idx9 t).2.1]
  | ⟨2, _⟩ => show win0_9.index t 2 * 256 + 1 * e.val = e.val; rw [(idx9 t).2.2]; omega

/-! What a head reads of a grid point's blocks. -/

theorem head_q (c : Dev nD) (t : Fin grid0.N) (h : Fin 8) (i d : Fin 128) :
    ldQ (iblk m c 0 t) h (ix2 i d) = qAt (acts m c) t.val h i d := by
  rw [ldQ_at, blk0]; unfold qAt; congr 2; apply Fin.ext; show 3072 + (128 * h.val + d.val) = 3072 + (h.val * 128 + d.val); omega

theorem head_k (c : Dev nD) (t : Fin grid0.N) (h : Fin 8) (i d : Fin 128) :
    ldQ (iblk m c 1 t) h (ix2 i d) = kAt (acts m c) t.val h i d := by
  rw [ldQ_at, blk1]; unfold kAt; congr 2; apply Fin.ext; show 4096 + (128 * h.val + d.val) = 4096 + (h.val * 128 + d.val); omega

theorem head_v (c : Dev nD) (t : Fin grid0.N) (h : Fin 8) (i : Fin 128) (e : Fin 256) :
    ldV (iblk m c 2 t) (iblk m c 3 t) h (ix2 i e) = vAt (acts m c) t.val h i e := by
  rw [ldV_at]; unfold vAt
  split
  · rw [blk2]; congr 2; apply Fin.ext; show 5120 + (256 * (h.val % 4) + e.val) = 5120 + (h.val * 256 + e.val); omega
  · rw [blk3]; congr 2; apply Fin.ext; show 6144 + (256 * (h.val % 4) + e.val) = 5120 + (h.val * 256 + e.val); omega

theorem head_g (c : Dev nD) (t : Fin grid0.N) (h : Fin 8) (i : Fin 128) (e : Fin 256) :
    ldV (iblk m c 4 t) (iblk m c 5 t) h (ix2 i e) = gAt (acts m c) t.val h i e := by
  rw [ldV_at]; unfold gAt
  split
  · rw [blk4]; congr 2; apply Fin.ext; show 7168 + (256 * (h.val % 4) + e.val) = 7168 + (h.val * 256 + e.val); omega
  · rw [blk5]; congr 2; apply Fin.ext; show 8192 + (256 * (h.val % 4) + e.val) = 7168 + (h.val * 256 + e.val); omega

/-! One grid point over the state the sequence has reached. -/

/-- The next state, from a scratch that holds the states before chunk `n` of sequence `b`. -/
theorem blockSt_eq (c : Dev nD) (t : Fin grid0.N) (b n : ℕ) (ht : t.val = b * 32 + n) (xs : Vec Ideal S8x128x256 .f32)
    (hxs : ∀ h d e, xs (ix3 h d e) = state (acts m c) b h n d e) (h : Fin 8) (d : Fin 128) (e : Fin 256) :
    blockSt (iblk m c 1 t) (iblk m c 2 t) (iblk m c 3 t) (iblk m c 8 t) (iblk m c 9 t) xs (ix3 h d e)
      = state (acts m c) b h (n + 1) d e := by
  show headSt (ldQ (iblk m c 1 t) h) (ldV (iblk m c 2 t) (iblk m c 3 t) h) (ldT (iblk m c 8 t) h) (ldC (iblk m c 9 t) h) (ldS xs h) (ix3 0 d e) = _
  rw [headSt_at, ldS_at, hxs, ldC_at, blk9]
  show _ = state (acts m c) b h n d e * K_main_v51 (F := Ideal) (ix1 h)
      + ∑ x, kAt (acts m c) (b * 32 + n) h x d * sc * K_main_v48 (F := Ideal) (ix2 h x) * vAt (acts m c) (b * 32 + n) h x e
  refine congrArg _ (Finset.sum_congr rfl fun x _ => ?_)
  rw [head_k, head_v, ldT_at, blk8, ht, mul_comm (K_main_v48 (F := Ideal) (ix2 h x)) sc, ← mul_assoc]

/-- The retention before the norm, from such a scratch: the scale goes into the keys' sum, the query's decay out of the state's. -/
theorem headO_eq (c : Dev nD) (t : Fin grid0.N) (b n : ℕ) (ht : t.val = b * 32 + n) (xs : Vec Ideal S8x128x256 .f32)
    (hxs : ∀ h d e, xs (ix3 h d e) = state (acts m c) b h n d e) (h : Fin 8) (i : Fin 128) (e : Fin 256) :
    headO (ldQ (iblk m c 0 t) h) (ldQ (iblk m c 1 t) h) (ldV (iblk m c 2 t) (iblk m c 3 t) h) (ldT (iblk m c 6 t) h) (ldT (iblk m c 7 t) h) (ldS xs h) i e
      = ret (acts m c) b n h i e := by
  unfold headO ret
  rw [sum_mul_real _ _ (qd_nonneg h i) (qd_ne_top h i)]
  refine congrArg₂ (· + ·) ?_ ?_
  · refine Finset.sum_congr rfl fun x _ => ?_
    rw [head_v, ldT_at, blk6, ht, mul_comm (K_main_v32 (F := Ideal) (ix3 h i x)) sc, ← mul_assoc, sum_mul_real _ _ sc_nonneg sc_ne_top]
    refine congrArg (fun a => a * K_main_v32 (F := Ideal) (ix3 h i x) * vAt (acts m c) (b * 32 + n) h x e) (Finset.sum_congr rfl fun d _ => ?_)
    rw [head_q, head_k, ht, mul_assoc]
  · refine Finset.sum_congr rfl fun d _ => ?_
    rw [head_q, ldT_at, blk7, ldS_at, hxs, ht, mul_right_comm]

/-- The output block from such a scratch, at a column of head `h`. -/
theorem blockOut_eq (c : Dev nD) (t : Fin grid0.N) (b n : ℕ) (ht : t.val = b * 32 + n) (xs : Vec Ideal S8x128x256 .f32)
    (hxs : ∀ h d e, xs (ix3 h d e) = state (acts m c) b h n d e) (i : Fin 128) (j : Fin 2048) :
    blockOut (iblk m c 0 t) (iblk m c 1 t) (iblk m c 2 t) (iblk m c 3 t) (iblk m c 4 t) (iblk m c 5 t) (iblk m c 6 t) (iblk m c 7 t) xs (ix2 i j)
      = outAt (acts m c) b n ⟨j.val / 256, by omega⟩ i ⟨j.val % 256, by omega⟩ := by
  have key : ∀ (h : Fin 8) (e : Fin 256), headOut (ldQ (iblk m c 0 t) h) (ldQ (iblk m c 1 t) h) (ldV (iblk m c 2 t) (iblk m c 3 t) h)
      (ldV (iblk m c 4 t) (iblk m c 5 t) h) (ldT (iblk m c 6 t) h) (ldT (iblk m c 7 t) h) (ldS xs h) (ix2 i e) = outAt (acts m c) b n h i e := by
    intro h e
    rw [headOut_at, head_g]
    simp only [headO_eq m c t b n ht xs hxs]
    rw [ht]; rfl
  exact key _ _

/-- The first point of a sequence starts from zero states. -/
theorem zeroSt_at (h : Fin 8) (d : Fin 128) (e : Fin 256) : zeroSt (F := Ideal) (ix3 h d e) = 0 := by
  unfold zeroSt
  unfold_payloads
  pointwise

/-- After chunk `n` of a sequence the scratch holds the sequence's states. -/
theorem outs_state (c : Dev nD) (b : ℕ) (n : ℕ) (hn : n < 32) (t : Fin grid0.N) (ht : t.val = b * 32 + n) :
    ∀ (h : Fin 8) (d : Fin 128) (e : Fin 256), (outsAt0 m c t.val t.isLt).2 (ix3 h d e) = state (acts m c) b h (n + 1) d e := by
  induction n generalizing t with
  | zero =>
    rw [outs_first m c t (by omega)]
    exact blockSt_eq m c t b 0 ht _ (fun h d e => zeroSt_at h d e)
  | succ n ih =>
    rw [outs_next m c t (by omega)]
    exact blockSt_eq m c t b (n + 1) ht _ (ih (by omega) ⟨t.val - 1, by omega⟩ (by show t.val - 1 = b * 32 + n; omega))

/-- What chunk `n` of a sequence writes: the branch's output. -/
theorem outs_out (c : Dev nD) (b : ℕ) (n : ℕ) (hn : n < 32) (t : Fin grid0.N) (ht : t.val = b * 32 + n) (i : Fin 128) (j : Fin 2048) :
    (outsAt0 m c t.val t.isLt).1 (ix2 i j) = outAt (acts m c) b n ⟨j.val / 256, by omega⟩ i ⟨j.val % 256, by omega⟩ := by
  cases n with
  | zero =>
    rw [outs_first m c t (by omega)]
    exact blockOut_eq m c t b 0 ht _ (fun h d e => zeroSt_at h d e) i j
  | succ n =>
    rw [outs_next m c t (by omega)]
    exact blockOut_eq m c t b (n + 1) ht _ (outs_state m c b n (by omega) ⟨t.val - 1, by omega⟩ (by show t.val - 1 = b * 32 + n; omega)) i j

/-- THE KERNEL'S RESULT at row `r`, column `j`: the branch's output there. -/
theorem G10_eq (c : Dev nD) (r : Fin 16384) (j : Fin 2048) :
    G10 m c (ix2 r j) = outAt (acts m c) (r.val / 4096) (r.val / 128 % 32) ⟨j.val / 256, by omega⟩ ⟨r.val % 128, by omega⟩ ⟨j.val % 256, by omega⟩ := by
  have hr : r.val < 16384 := r.isLt
  have hj : j.val < 2048 := j.isLt
  have hp : pt10Of (ix2 r j) = r.val / 128 := by
    show 1 * (r.val / 128 - 0) + 1 * (j.val / 2048 - 0) = r.val / 128
    omega
  have hlt : r.val / 128 < grid0.N := by show _ < 128; omega
  have hl : loc10Of (ix2 r j) = ix2 ⟨r.val % 128, by omega⟩ j := by
    funext a; apply Fin.ext
    match a with
    | ⟨0, _⟩ => rfl
    | ⟨1, _⟩ => show j.val % 2048 = j.val; omega
  unfold G10
  rw [dif_pos (by rw [hp]; exact hlt), fold0_congr m c _ _ (r.val / 128) (by rw [Nat.zero_add]; exact hlt) hp, ← outsAt0_sweep m c (r.val / 128) hlt, hl]
  exact outs_out m c (r.val / 4096) (r.val / 128 % 32) (by omega) ⟨r.val / 128, hlt⟩ (by show r.val / 128 = r.val / 4096 * 32 + r.val / 128 % 32; omega) _ j

end Cert.KernelIdeal.Value

end

end
-- ==== Proof.RetRun.lean ====
module

public import proofs.«01_k».proof.Proof.RetSpec
public import proofs.«01_k».proof.Proof.Gen.ReferenceIdeal.Run

@[expose] public section

set_option maxRecDepth 16384

noncomputable section

open Idealize.ShloMosaic Idealize.ShloMosaic.TcCoe Idealize.SL.Sem Idealize.ShloMosaic.StableHlo

namespace Cert.Retention

open Cert.ReferenceIdeal Cert.ReferenceIdeal.Gen Cert.ReferenceIdeal.Value
open Cert.ReferenceIdeal.Step hiding step_main_v62_8 step_main_v62_9

/-- The reference's states, from its start by its step. -/
def it (u : Acts) : ℕ → State Ideal
  | 0 => init u
  | n + 1 => step n (it u n)

/-- Before trip `n` the loop's ten carried buffers hold: the three chunked inputs, the four decays, the trip's number, the state
    and the stack of outputs. -/
structure Carries (V : Valuation τ sig (Elt Ideal)) (s : State Ideal) (n : ℕ) : Prop where
  q : V (Proc.devRef .tc main_v62_0) = s.main_v62_0
  k : V (Proc.devRef .tc main_v62_1) = s.main_v62_1
  v : V (Proc.devRef .tc main_v62_2) = s.main_v62_2
  intra : V (Proc.devRef .tc main_v62_3) = K_main_v32 (F := Ideal)
  qdecay : V (Proc.devRef .tc main_v62_4) = K_main_v40 (F := Ideal)
  cdecay : V (Proc.devRef .tc main_v62_5) = K_main_v51 (F := Ideal)
  kdecay : V (Proc.devRef .tc main_v62_6) = K_main_v48 (F := Ideal)
  trip : V (Proc.devRef .tc main_v62_7) = constantI S_ 32 (BitVec.ofNat 32 n)
  st : V (Proc.devRef .tc main_v62_8) = s.main_v62_8
  out : V (Proc.devRef .tc main_v62_9) = s.main_v62_9

variable {V : Valuation τ sig (Elt Ideal)} {s : State Ideal} {n : ℕ}

theorem trip_q (h : Carries V s n) : res_main_while0b_v81 V = b5 n s := by
  unfold res_main_while0b_v81
  rw [h.q, h.trip]
  rfl

theorem trip_k (h : Carries V s n) : res_main_while0b_v82 V = b11 n s := by
  unfold res_main_while0b_v82
  rw [h.k, h.trip]
  rfl

theorem trip_v (h : Carries V s n) : res_main_while0b_v83 V = b17 n s := by
  unfold res_main_while0b_v83
  rw [h.v, h.trip]
  rfl

/-- A trip leaves the next state. -/
theorem trip_st (h : Carries V s n) : step_main_v62_8 V = b35 n s := by
  unfold step_main_v62_8
  rw [trip_k h, trip_v h, h.st, h.cdecay, h.kdecay]
  rfl

/-- A trip puts its outputs on the stack. -/
theorem trip_out (h : Carries V s n) : step_main_v62_9 V = b41 n s := by
  unfold step_main_v62_9
  rw [trip_q h, trip_k h, trip_v h, h.st, h.out, h.intra, h.qdecay, h.trip]
  rfl

/-- A trip leaves its number plus one. -/
theorem trip_next (h : Carries V s n) : step_main_v62_7 V = constantI S_ 32 (BitVec.ofNat 32 (n + 1)) := by
  unfold step_main_v62_7
  rw [h.trip]
  exact funext fun i => (BitVec.ofNat_add n 1).symm

/-- After a trip the carried buffers hold the next state. -/
theorem Carries.next (h : Carries V s n) : Carries (STEP V) (step n s) (n + 1) where
  q := (STEP_main_v62_0 V).trans h.q
  k := (STEP_main_v62_1 V).trans h.k
  v := (STEP_main_v62_2 V).trans h.v
  intra := (STEP_main_v62_3 V).trans h.intra
  qdecay := (STEP_main_v62_4 V).trans h.qdecay
  cdecay := (STEP_main_v62_5 V).trans h.cdecay
  kdecay := (STEP_main_v62_6 V).trans h.kdecay
  trip := (STEP_main_v62_7 V).trans (trip_next h)
  st := (STEP_main_v62_8 V).trans (trip_st h)
  out := (STEP_main_v62_9 V).trans (trip_out h)

variable (m : (ℓ : Loc nD τ sig) → Buf (Elt Ideal) ℓ) (c : Dev nD)

set_option maxRecDepth 65536 in
set_option maxHeartbeats 1000000 in
/-- What the operations before the loop leave in the carried buffers. -/
theorem carries_zero : Carries (entryContents preI m c) (it (m (c.tc.loc main_arg0)) 0) 0 := by
  constructor <;> (simp only [entryContents, afterL_cons, afterL_nil]; after_reads_simp) <;> rfl

/-- Before trip `k` the carried buffers hold state `k`. -/
theorem carries : ∀ k, Carries (STEP^[k] (entryContents preI m c)) (it (m (c.tc.loc main_arg0)) k) k
  | 0 => carries_zero m c
  | k + 1 => by
    rw [Function.iterate_succ_apply']
    exact (carries k).next

/-- The operations after the loop read the stack of outputs and the argument. -/
theorem result_of {u : Acts} (h : Carries V s n) (hu : V (Proc.devRef .tc main_arg0) = u) : out_main_v80 V = R_main_v80 s u := by
  unfold out_main_v80
  rw [h.out, hu]
  rfl

/-- THE REFERENCE'S RUN: it terminates with its result at the value the operations after the loop make of state 32, its argument
    unchanged. -/
theorem refRun (ρ : Dev nD → PrngReg) : θ_run (defs (F := Ideal)) (onTc (τ := τ) (main (F := Ideal))) ⟨m, fun _ => 0, ρ⟩ fun r => ∀ c : Dev nD,
      r.2.mem (c.tc.loc main_v80) = R_main_v80 (it (m (c.tc.loc main_arg0)) 32) (m (c.tc.loc main_arg0))
      ∧ r.2.mem (c.tc.loc main_arg0) = m (c.tc.loc main_arg0) :=
  (θ_run defs _ _).mono (fun _ h c => ⟨(h c).1.trans (result_of (carries m c 32) (iter_main_arg0 m c 32)), (h c).2⟩) (Value.run m ρ)

end Cert.Retention

end

end
-- ==== Proof.RetRef.lean ====
module

public import proofs.«01_k».proof.Proof.RetRun

@[expose] public section

set_option maxRecDepth 16384

noncomputable section

open Idealize.ShloMosaic Idealize.ShloMosaic.TcCoe Idealize.SL.Sem

namespace Cert.Retention

open Cert.ReferenceIdeal Cert.ReferenceIdeal.Gen Cert.ReferenceIdeal.Step

theorem it_q (u : Acts) : ∀ n, (it u n).main_v62_0 = A_main_v53 u
  | 0 => rfl
  | n + 1 => it_q u n
theorem it_k (u : Acts) : ∀ n, (it u n).main_v62_1 = A_main_v57 u
  | 0 => rfl
  | n + 1 => it_k u n
theorem it_v (u : Acts) : ∀ n, (it u n).main_v62_2 = A_main_v59 u
  | 0 => rfl
  | n + 1 => it_v u n

/-- The row of position `i` of chunk `n` of sequence `b`. -/
theorem row_eq (n : Fin 32) (b : Fin 4) (i : Fin 128) :
    row (b.val * 32 + n.val) i = ⟨b.val * 4096 + n.val * 128 + i.val, by omega⟩ := by
  apply Fin.ext
  show ((b.val * 32 + n.val) * 128 + i.val) % 16384 = b.val * 4096 + n.val * 128 + i.val
  omega

/-- The chunked queries at chunk `n`, sequence `b`, head `h`. -/
theorem A_q (u : Acts) (n : Fin 32) (b : Fin 4) (h : Fin 8) (i d : Fin 128) :
    A_main_v53 (F := Ideal) u (ix5 n b h i d) = qAt u (b.val * 32 + n.val) h i d := by
  unfold A_main_v53 A_main_v52 A_main_v6 A_main_v1 A_main_v0
  pointwise
  unfold qAt
  rw [row_eq]

/-- The chunked keys, scaled. -/
theorem A_k (u : Acts) (n : Fin 32) (b : Fin 4) (h : Fin 8) (i d : Fin 128) :
    A_main_v57 (F := Ideal) u (ix5 n b h i d) = kAt u (b.val * 32 + n.val) h i d * sc := by
  unfold A_main_v57 A_main_v55 A_main_v54 A_main_v7 A_main_v3 A_main_v2 K_main_v56 K_main_cst_7
  pointwise
  unfold kAt sc
  rw [row_eq]

/-- The chunked values. -/
theorem A_v (u : Acts) (n : Fin 32) (b : Fin 4) (h : Fin 8) (i : Fin 128) (e : Fin 256) :
    A_main_v59 (F := Ideal) u (ix5 n b h i e) = vAt u (b.val * 32 + n.val) h i e := by
  unfold A_main_v59 A_main_v58 A_main_v8 A_main_v5 A_main_v4
  pointwise
  unfold vAt
  rw [row_eq]

/-- A trip's own chunk of a chunked array: the slice starts at the trip's number, -/
theorem start_trip (n : ℕ) (hn : n < 32) : (min (max (BitVec.ofNat 32 n).toInt 0) ((32 - 1 : ℕ) : ℤ)).toNat + 0 = n := by
  have : (BitVec.ofNat 32 n).toInt = (n : ℤ) := (show ∀ k : Fin 32, (BitVec.ofNat 32 k.val).toInt = (k.val : ℤ) by decide +kernel) ⟨n, hn⟩
  rw [this]; omega

/-- and at zero on every other axis. -/
theorem start_zero (a b x : ℕ) : (min (max (BitVec.toInt 0#32) 0) ((a - b : ℕ) : ℤ)).toNat + x = x := by
  rw [show BitVec.toInt 0#32 = 0 from rfl]; omega

theorem b5_at (n : ℕ) (hn : n < 32) (s : State Ideal) (b : Fin 4) (h : Fin 8) (i : Fin 128) (d : Fin 128) :
    b5 n s (ix4 b h i d) = s.main_v62_0 (ix5 ⟨n, hn⟩ b h i d) := by
  unfold b5 b4
  pointwise
  refine congrArg s.main_v62_0 (funext fun a => Fin.ext ?_)
  match a with
  | ⟨0, _⟩ => exact (start_trip n hn)
  | ⟨1, _⟩ => exact start_zero 4 4 b.val
  | ⟨2, _⟩ => exact start_zero 8 8 h.val
  | ⟨3, _⟩ => exact start_zero 128 128 i.val
  | ⟨4, _⟩ => exact start_zero 128 128 d.val

theorem b11_at (n : ℕ) (hn : n < 32) (s : State Ideal) (b : Fin 4) (h : Fin 8) (i : Fin 128) (d : Fin 128) :
    b11 n s (ix4 b h i d) = s.main_v62_1 (ix5 ⟨n, hn⟩ b h i d) := by
  unfold b11 b10
  pointwise
  refine congrArg s.main_v62_1 (funext fun a => Fin.ext ?_)
  match a with
  | ⟨0, _⟩ => exact (start_trip n hn)
  | ⟨1, _⟩ => exact start_zero 4 4 b.val
  | ⟨2, _⟩ => exact start_zero 8 8 h.val
  | ⟨3, _⟩ => exact start_zero 128 128 i.val
  | ⟨4, _⟩ => exact start_zero 128 128 d.val

theorem b17_at (n : ℕ) (hn : n < 32) (s : State Ideal) (b : Fin 4) (h : Fin 8) (i : Fin 128) (e : Fin 256) :
    b17 n s (ix4 b h i e) = s.main_v62_2 (ix5 ⟨n, hn⟩ b h i e) := by
  unfold b17 b16
  pointwise
  refine congrArg s.main_v62_2 (funext fun a => Fin.ext ?_)
  match a with
  | ⟨0, _⟩ => exact (start_trip n hn)
  | ⟨1, _⟩ => exact start_zero 4 4 b.val
  | ⟨2, _⟩ => exact start_zero 8 8 h.val
  | ⟨3, _⟩ => exact start_zero 128 128 i.val
  | ⟨4, _⟩ => exact start_zero 256 256 e.val

/-- A trip's output at an index. -/
theorem b27_at (n : ℕ) (s : State Ideal) (b : Fin 4) (h : Fin 8) (i : Fin 128) (e : Fin 256) :
    b27 n s (ix4 b h i e)
      = (∑ x : Fin 128, (∑ d : Fin 128, b5 n s (ix4 b h i d) * b11 n s (ix4 b h x d)) * K_main_v32 (F := Ideal) (ix3 h i x) * b17 n s (ix4 b h x e))
        + (∑ d : Fin 128, b5 n s (ix4 b h i d) * s.main_v62_8 (ix4 b h d e)) * K_main_v40 (F := Ideal) (ix2 h i) := by
  unfold b27 b26 b25 b24 b23 b22 b21 b20 b19 b18
  pointwise

/-- A trip's next state at an index. -/
theorem b35_at (n : ℕ) (s : State Ideal) (b : Fin 4) (h : Fin 8) (d : Fin 128) (e : Fin 256) :
    b35 n s (ix4 b h d e) = s.main_v62_8 (ix4 b h d e) * K_main_v51 (F := Ideal) (ix1 h)
      + ∑ x : Fin 128, b11 n s (ix4 b h x d) * K_main_v48 (F := Ideal) (ix2 h x) * b17 n s (ix4 b h x e) := by
  unfold b35 b34 b33 b32 b31 b30 b29 b28
  pointwise

/-- A trip writes its outputs at its own place of the stack and keeps the others. -/
theorem b41_at (n : ℕ) (hn : n < 32) (s : State Ideal) (n' : Fin 32) (b : Fin 4) (h : Fin 8) (i : Fin 128) (e : Fin 256) :
    b41 n s (ix5 n' b h i e) = if n'.val = n then b27 n s (ix4 b h i e) else s.main_v62_9 (ix5 n' b h i e) := by
  have key : ∀ c0 c1 c2 c3 c4 : ℕ, c0 = n → c1 = 0 → c2 = 0 → c3 = 0 → c4 = 0 →
      ∀ (p1 : ((c0 ≤ n'.val ∧ n'.val < c0 + 1) ∧ c1 ≤ b.val ∧ c2 ≤ h.val ∧ c3 ≤ i.val ∧ c4 ≤ e.val) → b.val - c1 < 4)
        (p2 : ((c0 ≤ n'.val ∧ n'.val < c0 + 1) ∧ c1 ≤ b.val ∧ c2 ≤ h.val ∧ c3 ≤ i.val ∧ c4 ≤ e.val) → h.val - c2 < 8)
        (p3 : ((c0 ≤ n'.val ∧ n'.val < c0 + 1) ∧ c1 ≤ b.val ∧ c2 ≤ h.val ∧ c3 ≤ i.val ∧ c4 ≤ e.val) → i.val - c3 < 128)
        (p4 : ((c0 ≤ n'.val ∧ n'.val < c0 + 1) ∧ c1 ≤ b.val ∧ c2 ≤ h.val ∧ c3 ≤ i.val ∧ c4 ≤ e.val) → e.val - c4 < 256),
      (if hh : (c0 ≤ n'.val ∧ n'.val < c0 + 1) ∧ c1 ≤ b.val ∧ c2 ≤ h.val ∧ c3 ≤ i.val ∧ c4 ≤ e.val then
        b27 n s (ix4 ⟨b.val - c1, p1 hh⟩ ⟨h.val - c2, p2 hh⟩ ⟨i.val - c3, p3 hh⟩ ⟨e.val - c4, p4 hh⟩) else s.main_v62_9 (ix5 n' b h i e))
      = if n'.val = n then b27 n s (ix4 b h i e) else s.main_v62_9 (ix5 n' b h i e) := by
    rintro c0 c1 c2 c3 c4 rfl rfl rfl rfl rfl p1 p2 p3 p4
    by_cases hc : n'.val = c0
    · rw [if_pos hc, dif_pos (by omega)]; rfl
    · rw [if_neg hc, dif_neg (by omega)]
  unfold b41 b36
  pointwise
  refine key _ _ _ _ _ ?_ ?_ ?_ ?_ ?_ _ _ _ _
  · exact start_trip n hn
  · exact start_zero 4 4 0
  · exact start_zero 8 8 0
  · exact start_zero 128 128 0
  · exact start_zero 256 256 0

/-- The loop's state before trip `n` is the recursion's. -/
theorem it_st (u : Acts) (b : Fin 4) (h : Fin 8) : ∀ (n : ℕ), n ≤ 32 → ∀ (d : Fin 128) (e : Fin 256),
    (it u n).main_v62_8 (ix4 b h d e) = state u b.val h n d e
  | 0, _, d, e => by
    show K_main_v60 (F := Ideal) (ix4 b h d e) = 0
    unfold K_main_v60 K_main_cst_8
    pointwise
  | n + 1, hn, d, e => by
    show b35 n (it u n) (ix4 b h d e) = state u b.val h n d e * K_main_v51 (F := Ideal) (ix1 h)
      + ∑ x, kAt u (b.val * 32 + n) h x d * sc * K_main_v48 (F := Ideal) (ix2 h x) * vAt u (b.val * 32 + n) h x e
    rw [b35_at, it_st u b h n (by omega) d e]
    refine congrArg _ (Finset.sum_congr rfl fun x _ => ?_)
    rw [b11_at n (by omega), b17_at n (by omega), it_k, it_v, A_k, A_v]

/-- Trip `n`'s output is the retention of chunk `n`. -/
theorem b27_ret (u : Acts) (n : ℕ) (hn : n < 32) (b : Fin 4) (h : Fin 8) (i : Fin 128) (e : Fin 256) :
    b27 n (it u n) (ix4 b h i e) = ret u b.val n h i e := by
  rw [b27_at]
  unfold ret
  simp only [b5_at n hn, b11_at n hn, b17_at n hn, it_q, it_k, it_v, A_q, A_k, A_v, it_st u b h n (by omega)]

/-- The stack before trip `n` holds the earlier chunks' outputs. -/
theorem it_out (u : Acts) (k : Fin 32) (b : Fin 4) (h : Fin 8) (i : Fin 128) (e : Fin 256) : ∀ (n : ℕ), n ≤ 32 → k.val < n →
    (it u n).main_v62_9 (ix5 k b h i e) = ret u b.val k.val h i e
  | 0, _, hk => absurd hk (by omega)
  | n + 1, hn, hk => by
    show b41 n (it u n) (ix5 k b h i e) = _
    rw [b41_at n (by omega)]
    split
    · next hc => rw [hc]; exact b27_ret u n (by omega) b h i e
    · exact it_out u k b h i e n (by omega) (by omega)

/-- The operations after the loop at an index, of the stack and the argument. -/
theorem R_raw (u : Acts) (s : State Ideal) (r : Fin 16384) (j : Fin 2048) (g : EReal) (o : Fin 256 → EReal)
    (hg : u (ix2 r ⟨7168 + j.val, by omega⟩) = g)
    (ho : ∀ e : Fin 256, s.main_v62_9 (ix5 ⟨r.val % 4096 / 128, by omega⟩ ⟨r.val / 4096, by omega⟩ ⟨j.val / 256, by omega⟩ ⟨r.val % 4096 % 128, by omega⟩ e) = o e) :
    R_main_v80 s u (ix2 r j) = g * Ideal.logistic g * (o ⟨j.val % 256, by omega⟩ *
      Ideal.rsqrt (Ideal.div (∑ x, o x * o x) (Ideal.ofBits .f32 0x43800000#32) + Ideal.ofBits .f32 0x358637BD#32)) := by
  unfold R_main_v80 Ideal.logistic
  pointwise
  simp only [ho, hg]

/-- The operations after the loop, of a stack that holds every chunk's outputs: the branch's output. -/
theorem R_of (u : Acts) (s : State Ideal)
    (hs : ∀ (k : Fin 32) (b : Fin 4) (h : Fin 8) (i : Fin 128) (e : Fin 256), s.main_v62_9 (ix5 k b h i e) = ret u b.val k.val h i e)
    (r : Fin 16384) (j : Fin 2048) : R_main_v80 s u (ix2 r j)
      = outAt u (r.val / 4096) (r.val / 128 % 32) ⟨j.val / 256, by omega⟩ ⟨r.val % 128, by omega⟩ ⟨j.val % 256, by omega⟩ := by
  have hr : r.val < 16384 := r.isLt
  refine R_raw u s r j _ (ret u (r.val / 4096) (r.val / 128 % 32) ⟨j.val / 256, by omega⟩ ⟨r.val % 128, by omega⟩) ?_ (fun e => ?_)
  · unfold gAt
    refine congrArg u (congrArg₂ (fun (a : Fin 16384) (b : Fin 15360) => (ix2 a b : S16384x15360.Idx)) (Fin.ext ?_) (Fin.ext ?_))
    · show r.val = ((r.val / 4096 * 32 + r.val / 128 % 32) * 128 + r.val % 128) % 16384
      omega
    · show 7168 + j.val = 7168 + (j.val / 256 * 256 + j.val % 256)
      omega
  · rw [hs]
    refine congrArg₂ (fun (k : ℕ) (i : Fin 128) => ret u (r.val / 4096) k ⟨j.val / 256, by omega⟩ i e) ?_ (Fin.ext ?_)
    · show r.val % 4096 / 128 = r.val / 128 % 32
      omega
    · show r.val % 4096 % 128 = r.val % 128
      omega

/-- THE REFERENCE'S RESULT at row `r`, column `j`: the branch's output there. -/
theorem R_at (u : Acts) (r : Fin 16384) (j : Fin 2048) : R_main_v80 (it u 32) u (ix2 r j)
      = outAt u (r.val / 4096) (r.val / 128 % 32) ⟨j.val / 256, by omega⟩ ⟨r.val % 128, by omega⟩ ⟨j.val % 256, by omega⟩ :=
  R_of u (it u 32) (fun k b h i e => it_out u k b h i e 32 (le_refl _) k.isLt) r j

end Cert.Retention

end

end
-- ==== Proof.lean ====
/-
  The proof of `Cert.Claim`. The frames and the preservations are the generated runs (the experts' is written by hand,
  `Proof/ExpertsRun.lean`); each call's equation over the reals is read off its own module under `Proof/`: the array the
  call leaves and the array the reference leaves, index by index, are one expression of the arguments.
-/
module

public import proofs.«01_k».proof.Proof.InProj
public import proofs.«01_k».proof.Proof.Gen.Kernel2.Frame
public import proofs.«01_k».proof.Proof.InProjAtt
public import proofs.«01_k».proof.Proof.Gen.Kernel3.Frame
public import proofs.«01_k».proof.Proof.DenseFfn
public import proofs.«01_k».proof.Proof.Gen.Kernel4.Frame
public import proofs.«01_k».proof.Proof.Merge
public import proofs.«01_k».proof.Proof.Gen.Kernel5.Frame
public import proofs.«01_k».proof.Proof.OutProj
public import proofs.«01_k».proof.Proof.Gen.Kernel6.Frame
public import proofs.«01_k».proof.Proof.Experts
public import proofs.«01_k».proof.Proof.NormMod
public import proofs.«01_k».proof.Proof.Gen.Kernel8.Frame
public import proofs.«01_k».proof.Proof.Ada
public import proofs.«01_k».proof.Proof.Gen.Kernel9.Frame
public import proofs.«01_k».proof.Proof.RetHead
public import proofs.«01_k».proof.Proof.RetRef
public import proofs.«01_k».proof.Defs
public import proofs.«01_k».proof.Proof.Gen.Kernel.Frame
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference terminates with its argument unchanged and every counter at zero. -/
theorem ret_ref_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The retention kernel and the reference leave the same array over the reals. -/
theorem ret_value : Cert.algebraic_KernelIdeal_ReferenceIdeal := fun m ρ m' ρ' _ hag =>
  ⟨fun c => Cert.KernelIdeal.Value.G10 m c, Cert.KernelIdeal.Value.run (F := Ideal) m ρ,
    (θ_run _ _ _).mono (fun _ h c => ⟨(h c).1.trans (by
      funext y
      obtain ⟨r, j, rfl⟩ : ∃ (r : Fin 16384) (j : Fin 2048), y = ix2 r j :=
        ⟨y 0, y 1, by funext a; match a with | ⟨0, _⟩ => rfl | ⟨1, _⟩ => rfl⟩
      rw [Cert.Retention.R_at, hag c]
      exact (Cert.KernelIdeal.Value.G10_eq m c r j).symm), (h c).2⟩)
      (Cert.Retention.refRun m' ρ')⟩

theorem ref_frame2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The combined projection's activations: the call and the reference leave the same array over the reals. -/
theorem value2 : Cert.algebraic_Kernel2Ideal_Reference2Ideal := fun m ρ m' ρ' _ hag =>
  ⟨fun c => (Cert.Kernel2Ideal.Gen.dats m 0 c).arrAt 2 Cert.Kernel2Ideal.cfg0.N, Cert.Kernel2Ideal.Arr.run_arr m ρ,
    (θ_run _ _ _).mono (fun _ h c => ⟨(h c).1.trans (by
      funext y
      obtain ⟨r, j, rfl⟩ : ∃ (r : Fin 16384) (j : Fin 15360), y = ix2 r j :=
        ⟨y 0, y 1, by funext a; match a with | ⟨0, _⟩ => rfl | ⟨1, _⟩ => rfl⟩
      refine (Cert.InProj.ref_at _ _ _ (fun r j => Cert.InProj.dot_at _ _ r j) r j).trans ?_
      rw [(hag c).1, (hag c).2]
      exact (Cert.Kernel2Ideal.Arr.arr_at m c r j).symm), (h c).2⟩)
      (Cert.Reference2Ideal.Value.run (F := Ideal) m' ρ')⟩

theorem ref_frame3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The combined projection's queries, keys and values: the call and the reference leave the same array over the reals. -/
theorem value3 : Cert.algebraic_Kernel3Ideal_Reference3Ideal := fun m ρ m' ρ' _ hag =>
  ⟨fun c => (Cert.Kernel3Ideal.Gen.dats m 0 c).arrAt 2 Cert.Kernel3Ideal.cfg0.N, Cert.Kernel3Ideal.Arr.run_arr m ρ,
    (θ_run _ _ _).mono (fun _ h c => ⟨(h c).1.trans (by
      funext y
      obtain ⟨r, j, rfl⟩ : ∃ (r : Fin 16384) (j : Fin 4608), y = ix2 r j :=
        ⟨y 0, y 1, by funext a; match a with | ⟨0, _⟩ => rfl | ⟨1, _⟩ => rfl⟩
      refine (Cert.InProjAtt.ref_at _ _ _ (fun r j => Cert.InProjAtt.dot_at _ _ r j) r j).trans ?_
      rw [(hag c).1, (hag c).2]
      exact (Cert.Kernel3Ideal.Arr.arr_at m c r j).symm), (h c).2⟩)
      (Cert.Reference3Ideal.Value.run (F := Ideal) m' ρ')⟩

theorem ref_frame4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The dense feed-forward layer: the call and the reference leave the same array over the reals. -/
theorem value4 : Cert.algebraic_Kernel4Ideal_Reference4Ideal := fun m ρ m' ρ' _ hag =>
  ⟨fun c => (Cert.Kernel4Ideal.Gen.dats m 0 c).arrAt 8 Cert.Kernel4Ideal.cfg0.N, Cert.Kernel4Ideal.Arr.run_arr m ρ,
    (θ_run _ _ _).mono (fun _ h c => ⟨(h c).1.trans (by
      funext y
      obtain ⟨r, j, rfl⟩ : ∃ (r : Fin 16384) (j : Fin 2048), y = ix2 r j :=
        ⟨y 0, y 1, by funext a; match a with | ⟨0, _⟩ => rfl | ⟨1, _⟩ => rfl⟩
      refine (Cert.DenseFfn.ref_at m' c r j).trans ?_
      rw [(hag c).1, (hag c).2.1, (hag c).2.2.1, (hag c).2.2.2.1, (hag c).2.2.2.2.1, (hag c).2.2.2.2.2]
      exact (Cert.Kernel4Ideal.Arr.arr_at m c r j).symm), (h c).2⟩)
      (Cert.Reference4Ideal.Value.run (F := Ideal) m' ρ')⟩

theorem ref_frame5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The gated sum of the three branches' projections: the call and the reference leave the same array over the reals. -/
theorem value5 : Cert.algebraic_Kernel5Ideal_Reference5Ideal := fun m ρ m' ρ' _ hag =>
  ⟨fun c => (Cert.Kernel5Ideal.Gen.dats m 0 c).arrAt 9 Cert.Kernel5Ideal.cfg0.N, Cert.Kernel5Ideal.Value.run_blocks (F := Ideal) m ρ,
    (θ_run _ _ _).mono (fun _ h c => ⟨(h c).1.trans (by
      funext y
      obtain ⟨r, j, rfl⟩ : ∃ (r : Fin 16384) (j : Fin 2048), y = ix2 r j :=
        ⟨y 0, y 1, by funext a; match a with | ⟨0, _⟩ => rfl | ⟨1, _⟩ => rfl⟩
      refine (Cert.Merge.ref_at _ _ _ _ _ _ _ r j).trans ?_
      rw [Cert.Merge.gate_at, Cert.Merge.gate_at, Cert.Merge.gate_at]
      rw [(hag c).1, (hag c).2.1, (hag c).2.2.1, (hag c).2.2.2.1, (hag c).2.2.2.2.1, (hag c).2.2.2.2.2.1, (hag c).2.2.2.2.2.2]
      refine Eq.trans ?_ (Cert.Kernel5Ideal.Value.arr_at m c r j).symm
      exact Cert.Merge.gates_eq _ _ _ _ _ _ _ r j), (h c).2⟩)
      (Cert.Reference5Ideal.Value.run (F := Ideal) m' ρ')⟩

theorem ref_frame6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The output projection with its residual: the call and the reference leave the same array over the reals. -/
theorem value6 : Cert.algebraic_Kernel6Ideal_Reference6Ideal := fun m ρ m' ρ' _ hag =>
  ⟨fun c => (Cert.Kernel6Ideal.Gen.dats m 0 c).arrAt 4 Cert.Kernel6Ideal.cfg0.N, Cert.Kernel6Ideal.Value.run_blocks (F := Ideal) m ρ,
    (θ_run _ _ _).mono (fun _ h c => ⟨(h c).1.trans (by
      funext y
      obtain ⟨r, j, rfl⟩ : ∃ (r : Fin 16384) (j : Fin 2048), y = ix2 r j :=
        ⟨y 0, y 1, by funext a; match a with | ⟨0, _⟩ => rfl | ⟨1, _⟩ => rfl⟩
      refine (Cert.OutProj.ref_at _ _ _ _ r j).trans ?_
      rw [(hag c).1, (hag c).2.1, (hag c).2.2.1, (hag c).2.2.2]
      exact (Cert.Kernel6Ideal.Value.arr_at m c r j).symm), (h c).2⟩)
      (Cert.Reference6Ideal.Value.run (F := Ideal) m' ρ')⟩

theorem ref_frame8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The norm with its modulation: the call and the reference leave the same array over the reals. -/
theorem value8 : Cert.algebraic_Kernel8Ideal_Reference8Ideal := fun m ρ m' ρ' _ hag =>
  ⟨fun c => (Cert.Kernel8Ideal.Gen.dats m 0 c).arrAt 4 Cert.Kernel8Ideal.cfg0.N, Cert.Kernel8Ideal.Value.run_blocks (F := Ideal) m ρ,
    (θ_run _ _ _).mono (fun _ h c => ⟨(h c).1.trans (by
      funext y
      obtain ⟨r, j, rfl⟩ : ∃ (r : Fin 16384) (j : Fin 2048), y = ix2 r j :=
        ⟨y 0, y 1, by funext a; match a with | ⟨0, _⟩ => rfl | ⟨1, _⟩ => rfl⟩
      refine (Cert.NormMod.ref_at _ _ _ r j).trans ?_
      rw [(hag c).1, (hag c).2.1, (hag c).2.2]
      exact (Cert.Kernel8Ideal.Value.arr_at m c r j).symm), (h c).2⟩)
      (Cert.Reference8Ideal.Value.run (F := Ideal) m' ρ')⟩

theorem ref_frame9 : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The modulation's projection: the call and the reference leave the same array over the reals. -/
theorem value9 : Cert.algebraic_Kernel9Ideal_Reference9Ideal := fun m ρ m' ρ' _ hag =>
  ⟨fun c => (Cert.Kernel9Ideal.Gen.dats m 0 c).arrAt 3 Cert.Kernel9Ideal.cfg0.N, Cert.Kernel9Ideal.Value.run_blocks (F := Ideal) m ρ,
    (θ_run _ _ _).mono (fun _ h c => ⟨(h c).1.trans (by
      funext y
      obtain ⟨l, i, j, rfl⟩ : ∃ (l : Fin 2) (i : Fin 8) (j : Fin 12288), y = ix3 l i j :=
        ⟨y 0, y 1, y 2, by funext a; match a with | ⟨0, _⟩ => rfl | ⟨1, _⟩ => rfl | ⟨2, _⟩ => rfl⟩
      refine (Cert.Ada.ref_at _ _ _ l i j).trans ?_
      rw [(hag c).1, (hag c).2.1, (hag c).2.2]
      exact (Cert.Kernel9Ideal.Value.arr_at m c l i j).symm), (h c).2⟩)
      (Cert.Reference9Ideal.Value.run (F := Ideal) m' ρ')⟩

theorem claim : Cert.Claim :=
  letI := Cert.Experts.pre_facts
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Experts.pre_facts,
  fun m ρ _ => Cert.Kernel.Gen.frame m ρ, fun m ρ _ => Cert.KernelIdeal.Gen.frame m ρ, ret_ref_frame,
  fun m ρ _ => Cert.Kernel2.Gen.frame m ρ, fun m ρ _ => Cert.Kernel2Ideal.Gen.frame m ρ, ref_frame2,
  fun m ρ _ => Cert.Kernel3.Gen.frame m ρ, fun m ρ _ => Cert.Kernel3Ideal.Gen.frame m ρ, ref_frame3,
  fun m ρ _ => Cert.Kernel4.Gen.frame m ρ, fun m ρ _ => Cert.Kernel4Ideal.Gen.frame m ρ, ref_frame4,
  fun m ρ _ => Cert.Kernel5.Gen.frame m ρ, fun m ρ _ => Cert.Kernel5Ideal.Gen.frame m ρ, ref_frame5,
  fun m ρ _ => Cert.Kernel6.Gen.frame m ρ, fun m ρ _ => Cert.Kernel6Ideal.Gen.frame m ρ, ref_frame6,
  Cert.Experts.frame_bits, Cert.Experts.frame_ideal, Cert.Experts.frame_ref, fun m ρ _ => Cert.Experts.frame_ref m ρ trivial,
  fun m ρ _ => Cert.Kernel8.Gen.frame m ρ, fun m ρ _ => Cert.Kernel8Ideal.Gen.frame m ρ, ref_frame8,
  fun m ρ _ => Cert.Kernel9.Gen.frame m ρ, fun m ρ _ => Cert.Kernel9Ideal.Gen.frame m ρ, ref_frame9,
  trivial, ret_value, trivial, value2, trivial, value3, trivial, value4, trivial, value5, trivial, value6, trivial, Cert.Experts.value,
  trivial, value8, trivial, value9⟩

end Cert.Proof

end
